-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![256, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![256, 4096]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S256x512 : Shape := ⟨2, ![256, 512]⟩
abbrev S512x256 : Shape := ⟨2, ![512, 256]⟩
abbrev S3x256x512 : Shape := ⟨3, ![3, 256, 512]⟩
abbrev S3x4x64x512 : Shape := ⟨4, ![3, 4, 64, 512]⟩
abbrev S3x64x512 : Shape := ⟨3, ![3, 64, 512]⟩
abbrev S3x4x16x512 : Shape := ⟨4, ![3, 4, 16, 512]⟩
abbrev S3x4 : Shape := ⟨2, ![3, 4]⟩
abbrev S_ : Shape := ⟨0, ![]⟩
abbrev S1x256x512 : Shape := ⟨3, ![1, 256, 512]⟩
abbrev S1x1 : Shape := ⟨2, ![1, 1]⟩
abbrev S1x1x64x512 : Shape := ⟨4, ![1, 1, 64, 512]⟩
abbrev S64x512 : Shape := ⟨2, ![64, 512]⟩
abbrev S1x64x512 : Shape := ⟨3, ![1, 64, 512]⟩
abbrev S1x1x16x512 : Shape := ⟨4, ![1, 1, 16, 512]⟩
abbrev S16x512 : Shape := ⟨2, ![16, 512]⟩
abbrev S1x16x512 : Shape := ⟨3, ![1, 16, 512]⟩

abbrev nBuf : Space → Nat
  | .hbm => 8
  | .vmem => 13
  | .smem => 0
  | _ => 0

abbrev bufTy : (tb : Table) → Fin (tcTables nBuf tb) → BufTy
  | .hbm, ⟨0, _⟩ => ⟨S256x256, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S256x256, .f32⟩
  | .local _ .vmem, ⟨0, _⟩ => ⟨S256x256, .f32⟩
  | .local _ .vmem, ⟨1, _⟩ => ⟨S256x512, .f32⟩
  | .local _ .vmem, ⟨2, _⟩ => ⟨S512x256, .f32⟩
  | .local _ .vmem, ⟨3, _⟩ => ⟨S256x512, .f32⟩
  | .local _ .vmem, ⟨4, _⟩ => ⟨S512x256, .f32⟩
  | .local _ .vmem, ⟨5, _⟩ => ⟨S256x512, .f32⟩
  | .local _ .vmem, ⟨6, _⟩ => ⟨S512x256, .f32⟩
  | .local _ .vmem, ⟨7, _⟩ => ⟨S256x256, .f32⟩
  | .local _ .vmem, ⟨8, _⟩ => ⟨S3x256x512, .bf16⟩
  | .local _ .vmem, ⟨9, _⟩ => ⟨S3x4x64x512, .bf16⟩
  | .local _ .vmem, ⟨10, _⟩ => ⟨S3x64x512, .bf16⟩
  | .local _ .vmem, ⟨11, _⟩ => ⟨S3x4x16x512, .bf16⟩
  | .local _ .vmem, ⟨12, _⟩ => ⟨S3x256x512, .bf16⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => true
  | _ => false

abbrev dmaSemScoped : Fin 104 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | _ => false

abbrev sig : RefSig :=
  ofTc nBuf bufTy 1 104 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 16
abbrev τ : Topo := Topo.v7x

variable {F : FTy → Type} [FloatOps F]

abbrev grid0 : Pipeline.Grid := .none

def k0_dev1 (d0 : Dev nD) : Nat :=
  let c0_i32_22 : BitVec 32 := 0#32
  let c4_i32_12 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v33 : BitVec 32 := Scalar.muli c4_i32_12 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v34 : BitVec 32 := Scalar.addi v29 c1_i32_13
  let c4_i32_14 : BitVec 32 := 4#32
  let c0_i32_15 : BitVec 32 := 0#32
  let v35 : BitVec 1 := Scalar.cmpi .eq c4_i32_14 c0_i32_15
  let c1_i32_16 : BitVec 32 := 1#32
  let v36 : BitVec 32 := Scalar.select v35 c1_i32_16 c4_i32_14
  let v37 : BitVec 32 := Scalar.remsi v34 v36
  let c0_i32_18 : BitVec 32 := 0#32
  let v39 : BitVec 1 := Scalar.cmpi .slt v37 c0_i32_18
  let c0_i32_19 : BitVec 32 := 0#32
  let v40 : BitVec 1 := Scalar.cmpi .slt v36 c0_i32_19
  let v41 : BitVec 1 := Scalar.xori v39 v40
  let c0_i32_17 : BitVec 32 := 0#32
  let v38 : BitVec 1 := Scalar.cmpi .ne v37 c0_i32_17
  let v42 : BitVec 1 := Scalar.andi v41 v38
  let v43 : BitVec 32 := Scalar.addi v37 v36
  let v44 : BitVec 32 := Scalar.select v42 v43 v37
  let v45 : BitVec 32 := Scalar.addi v33 v44
  let c1_i32_21 : BitVec 32 := 1#32
  let v46 : BitVec 32 := Scalar.muli v45 c1_i32_21
  let v47 : BitVec 32 := Scalar.addi c0_i32_22 v46
  v47.toNat
def k0_dev2 (d0 : Dev nD) : Nat :=
  let c0_i32_33 : BitVec 32 := 0#32
  let c4_i32_30 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_23 : BitVec 32 := 1#32
  let v48 : BitVec 32 := Scalar.addi v19 c1_i32_23
  let c4_i32_24 : BitVec 32 := 4#32
  let c0_i32_25 : BitVec 32 := 0#32
  let v49 : BitVec 1 := Scalar.cmpi .eq c4_i32_24 c0_i32_25
  let c1_i32_26 : BitVec 32 := 1#32
  let v50 : BitVec 32 := Scalar.select v49 c1_i32_26 c4_i32_24
  let v51 : BitVec 32 := Scalar.remsi v48 v50
  let c0_i32_28 : BitVec 32 := 0#32
  let v53 : BitVec 1 := Scalar.cmpi .slt v51 c0_i32_28
  let c0_i32_29 : BitVec 32 := 0#32
  let v54 : BitVec 1 := Scalar.cmpi .slt v50 c0_i32_29
  let v55 : BitVec 1 := Scalar.xori v53 v54
  let c0_i32_27 : BitVec 32 := 0#32
  let v52 : BitVec 1 := Scalar.cmpi .ne v51 c0_i32_27
  let v56 : BitVec 1 := Scalar.andi v55 v52
  let v57 : BitVec 32 := Scalar.addi v51 v50
  let v58 : BitVec 32 := Scalar.select v56 v57 v51
  let v59 : BitVec 32 := Scalar.muli c4_i32_30 v58
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v60 : BitVec 32 := Scalar.addi v59 v29
  let c1_i32_32 : BitVec 32 := 1#32
  let v61 : BitVec 32 := Scalar.muli v60 c1_i32_32
  let v62 : BitVec 32 := Scalar.addi c0_i32_33 v61
  v62.toNat
def k0_dev3 (d0 : Dev nD) : Nat :=
  let c0_i32_43 : BitVec 32 := 0#32
  let c4_i32_34 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v63 : BitVec 32 := Scalar.muli c4_i32_34 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v64 : BitVec 32 := Scalar.addi v29 c2_i32
  let c4_i32_35 : BitVec 32 := 4#32
  let c0_i32_36 : BitVec 32 := 0#32
  let v65 : BitVec 1 := Scalar.cmpi .eq c4_i32_35 c0_i32_36
  let c1_i32_37 : BitVec 32 := 1#32
  let v66 : BitVec 32 := Scalar.select v65 c1_i32_37 c4_i32_35
  let v67 : BitVec 32 := Scalar.remsi v64 v66
  let c0_i32_39 : BitVec 32 := 0#32
  let v69 : BitVec 1 := Scalar.cmpi .slt v67 c0_i32_39
  let c0_i32_40 : BitVec 32 := 0#32
  let v70 : BitVec 1 := Scalar.cmpi .slt v66 c0_i32_40
  let v71 : BitVec 1 := Scalar.xori v69 v70
  let c0_i32_38 : BitVec 32 := 0#32
  let v68 : BitVec 1 := Scalar.cmpi .ne v67 c0_i32_38
  let v72 : BitVec 1 := Scalar.andi v71 v68
  let v73 : BitVec 32 := Scalar.addi v67 v66
  let v74 : BitVec 32 := Scalar.select v72 v73 v67
  let v75 : BitVec 32 := Scalar.addi v63 v74
  let c1_i32_42 : BitVec 32 := 1#32
  let v76 : BitVec 32 := Scalar.muli v75 c1_i32_42
  let v77 : BitVec 32 := Scalar.addi c0_i32_43 v76
  v77.toNat
def k0_dev4 (d0 : Dev nD) : Nat :=
  let c0_i32_54 : BitVec 32 := 0#32
  let c4_i32_51 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_44 : BitVec 32 := 2#32
  let v78 : BitVec 32 := Scalar.addi v19 c2_i32_44
  let c4_i32_45 : BitVec 32 := 4#32
  let c0_i32_46 : BitVec 32 := 0#32
  let v79 : BitVec 1 := Scalar.cmpi .eq c4_i32_45 c0_i32_46
  let c1_i32_47 : BitVec 32 := 1#32
  let v80 : BitVec 32 := Scalar.select v79 c1_i32_47 c4_i32_45
  let v81 : BitVec 32 := Scalar.remsi v78 v80
  let c0_i32_49 : BitVec 32 := 0#32
  let v83 : BitVec 1 := Scalar.cmpi .slt v81 c0_i32_49
  let c0_i32_50 : BitVec 32 := 0#32
  let v84 : BitVec 1 := Scalar.cmpi .slt v80 c0_i32_50
  let v85 : BitVec 1 := Scalar.xori v83 v84
  let c0_i32_48 : BitVec 32 := 0#32
  let v82 : BitVec 1 := Scalar.cmpi .ne v81 c0_i32_48
  let v86 : BitVec 1 := Scalar.andi v85 v82
  let v87 : BitVec 32 := Scalar.addi v81 v80
  let v88 : BitVec 32 := Scalar.select v86 v87 v81
  let v89 : BitVec 32 := Scalar.muli c4_i32_51 v88
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v90 : BitVec 32 := Scalar.addi v89 v29
  let c1_i32_53 : BitVec 32 := 1#32
  let v91 : BitVec 32 := Scalar.muli v90 c1_i32_53
  let v92 : BitVec 32 := Scalar.addi c0_i32_54 v91
  v92.toNat
def k0_dev5 (d0 : Dev nD) : Nat :=
  let c0_i32_64 : BitVec 32 := 0#32
  let c4_i32_55 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v93 : BitVec 32 := Scalar.muli c4_i32_55 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v94 : BitVec 32 := Scalar.addi v29 c3_i32
  let c4_i32_56 : BitVec 32 := 4#32
  let c0_i32_57 : BitVec 32 := 0#32
  let v95 : BitVec 1 := Scalar.cmpi .eq c4_i32_56 c0_i32_57
  let c1_i32_58 : BitVec 32 := 1#32
  let v96 : BitVec 32 := Scalar.select v95 c1_i32_58 c4_i32_56
  let v97 : BitVec 32 := Scalar.remsi v94 v96
  let c0_i32_60 : BitVec 32 := 0#32
  let v99 : BitVec 1 := Scalar.cmpi .slt v97 c0_i32_60
  let c0_i32_61 : BitVec 32 := 0#32
  let v100 : BitVec 1 := Scalar.cmpi .slt v96 c0_i32_61
  let v101 : BitVec 1 := Scalar.xori v99 v100
  let c0_i32_59 : BitVec 32 := 0#32
  let v98 : BitVec 1 := Scalar.cmpi .ne v97 c0_i32_59
  let v102 : BitVec 1 := Scalar.andi v101 v98
  let v103 : BitVec 32 := Scalar.addi v97 v96
  let v104 : BitVec 32 := Scalar.select v102 v103 v97
  let v105 : BitVec 32 := Scalar.addi v93 v104
  let c1_i32_63 : BitVec 32 := 1#32
  let v106 : BitVec 32 := Scalar.muli v105 c1_i32_63
  let v107 : BitVec 32 := Scalar.addi c0_i32_64 v106
  v107.toNat
def k0_dev6 (d0 : Dev nD) : Nat :=
  let c0_i32_75 : BitVec 32 := 0#32
  let c4_i32_72 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_65 : BitVec 32 := 3#32
  let v108 : BitVec 32 := Scalar.addi v19 c3_i32_65
  let c4_i32_66 : BitVec 32 := 4#32
  let c0_i32_67 : BitVec 32 := 0#32
  let v109 : BitVec 1 := Scalar.cmpi .eq c4_i32_66 c0_i32_67
  let c1_i32_68 : BitVec 32 := 1#32
  let v110 : BitVec 32 := Scalar.select v109 c1_i32_68 c4_i32_66
  let v111 : BitVec 32 := Scalar.remsi v108 v110
  let c0_i32_70 : BitVec 32 := 0#32
  let v113 : BitVec 1 := Scalar.cmpi .slt v111 c0_i32_70
  let c0_i32_71 : BitVec 32 := 0#32
  let v114 : BitVec 1 := Scalar.cmpi .slt v110 c0_i32_71
  let v115 : BitVec 1 := Scalar.xori v113 v114
  let c0_i32_69 : BitVec 32 := 0#32
  let v112 : BitVec 1 := Scalar.cmpi .ne v111 c0_i32_69
  let v116 : BitVec 1 := Scalar.andi v115 v112
  let v117 : BitVec 32 := Scalar.addi v111 v110
  let v118 : BitVec 32 := Scalar.select v116 v117 v111
  let v119 : BitVec 32 := Scalar.muli c4_i32_72 v118
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v120 : BitVec 32 := Scalar.addi v119 v29
  let c1_i32_74 : BitVec 32 := 1#32
  let v121 : BitVec 32 := Scalar.muli v120 c1_i32_74
  let v122 : BitVec 32 := Scalar.addi c0_i32_75 v121
  v122.toNat
def k0_off1 (d0 : Dev nD) (c1_i32_82 : BitVec 32) : Fin 3 → Nat :=
  let c0_i32_91 : BitVec 32 := 0#32
  let c64_i32_89 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v132 : BitVec 32 := Scalar.addi v29 c1_i32_82
  let c4_i32_83 : BitVec 32 := 4#32
  let c0_i32_84 : BitVec 32 := 0#32
  let v133 : BitVec 1 := Scalar.cmpi .eq c4_i32_83 c0_i32_84
  let c1_i32_85 : BitVec 32 := 1#32
  let v134 : BitVec 32 := Scalar.select v133 c1_i32_85 c4_i32_83
  let v135 : BitVec 32 := Scalar.remsi v132 v134
  let c0_i32_87 : BitVec 32 := 0#32
  let v137 : BitVec 1 := Scalar.cmpi .slt v135 c0_i32_87
  let c0_i32_88 : BitVec 32 := 0#32
  let v138 : BitVec 1 := Scalar.cmpi .slt v134 c0_i32_88
  let v139 : BitVec 1 := Scalar.xori v137 v138
  let c0_i32_86 : BitVec 32 := 0#32
  let v136 : BitVec 1 := Scalar.cmpi .ne v135 c0_i32_86
  let v140 : BitVec 1 := Scalar.andi v139 v136
  let v141 : BitVec 32 := Scalar.addi v135 v134
  let v142 : BitVec 32 := Scalar.select v140 v141 v135
  let v143 : BitVec 32 := Scalar.muli c64_i32_89 v142
  let c0_i32_102 : BitVec 32 := 0#32
  ![0, v143.toNat, 0]
def k0_dev7 (d0 : Dev nD) : Nat :=
  let c0_i32_99 : BitVec 32 := 0#32
  let c4_i32_90 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v144 : BitVec 32 := Scalar.muli c4_i32_90 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_82 : BitVec 32 := 1#32
  let v132 : BitVec 32 := Scalar.addi v29 c1_i32_82
  let c4_i32_83 : BitVec 32 := 4#32
  let c0_i32_84 : BitVec 32 := 0#32
  let v133 : BitVec 1 := Scalar.cmpi .eq c4_i32_83 c0_i32_84
  let c1_i32_85 : BitVec 32 := 1#32
  let v134 : BitVec 32 := Scalar.select v133 c1_i32_85 c4_i32_83
  let v135 : BitVec 32 := Scalar.remsi v132 v134
  let c0_i32_87 : BitVec 32 := 0#32
  let v137 : BitVec 1 := Scalar.cmpi .slt v135 c0_i32_87
  let c0_i32_88 : BitVec 32 := 0#32
  let v138 : BitVec 1 := Scalar.cmpi .slt v134 c0_i32_88
  let v139 : BitVec 1 := Scalar.xori v137 v138
  let c0_i32_86 : BitVec 32 := 0#32
  let v136 : BitVec 1 := Scalar.cmpi .ne v135 c0_i32_86
  let v140 : BitVec 1 := Scalar.andi v139 v136
  let v141 : BitVec 32 := Scalar.addi v135 v134
  let v142 : BitVec 32 := Scalar.select v140 v141 v135
  let v145 : BitVec 32 := Scalar.addi v144 v142
  let c1_i32_98 : BitVec 32 := 1#32
  let v146 : BitVec 32 := Scalar.muli v145 c1_i32_98
  let v147 : BitVec 32 := Scalar.addi c0_i32_99 v146
  v147.toNat
def k0_dev8 (d0 : Dev nD) : Nat :=
  let c0_i32_120 : BitVec 32 := 0#32
  let c4_i32_111 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v168 : BitVec 32 := Scalar.muli c4_i32_111 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_103 : BitVec 32 := 2#32
  let v156 : BitVec 32 := Scalar.addi v29 c2_i32_103
  let c4_i32_104 : BitVec 32 := 4#32
  let c0_i32_105 : BitVec 32 := 0#32
  let v157 : BitVec 1 := Scalar.cmpi .eq c4_i32_104 c0_i32_105
  let c1_i32_106 : BitVec 32 := 1#32
  let v158 : BitVec 32 := Scalar.select v157 c1_i32_106 c4_i32_104
  let v159 : BitVec 32 := Scalar.remsi v156 v158
  let c0_i32_108 : BitVec 32 := 0#32
  let v161 : BitVec 1 := Scalar.cmpi .slt v159 c0_i32_108
  let c0_i32_109 : BitVec 32 := 0#32
  let v162 : BitVec 1 := Scalar.cmpi .slt v158 c0_i32_109
  let v163 : BitVec 1 := Scalar.xori v161 v162
  let c0_i32_107 : BitVec 32 := 0#32
  let v160 : BitVec 1 := Scalar.cmpi .ne v159 c0_i32_107
  let v164 : BitVec 1 := Scalar.andi v163 v160
  let v165 : BitVec 32 := Scalar.addi v159 v158
  let v166 : BitVec 32 := Scalar.select v164 v165 v159
  let v169 : BitVec 32 := Scalar.addi v168 v166
  let c1_i32_119 : BitVec 32 := 1#32
  let v170 : BitVec 32 := Scalar.muli v169 c1_i32_119
  let v171 : BitVec 32 := Scalar.addi c0_i32_120 v170
  v171.toNat
def k0_dev9 (d0 : Dev nD) : Nat :=
  let c0_i32_141 : BitVec 32 := 0#32
  let c4_i32_132 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v192 : BitVec 32 := Scalar.muli c4_i32_132 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_124 : BitVec 32 := 3#32
  let v180 : BitVec 32 := Scalar.addi v29 c3_i32_124
  let c4_i32_125 : BitVec 32 := 4#32
  let c0_i32_126 : BitVec 32 := 0#32
  let v181 : BitVec 1 := Scalar.cmpi .eq c4_i32_125 c0_i32_126
  let c1_i32_127 : BitVec 32 := 1#32
  let v182 : BitVec 32 := Scalar.select v181 c1_i32_127 c4_i32_125
  let v183 : BitVec 32 := Scalar.remsi v180 v182
  let c0_i32_129 : BitVec 32 := 0#32
  let v185 : BitVec 1 := Scalar.cmpi .slt v183 c0_i32_129
  let c0_i32_130 : BitVec 32 := 0#32
  let v186 : BitVec 1 := Scalar.cmpi .slt v182 c0_i32_130
  let v187 : BitVec 1 := Scalar.xori v185 v186
  let c0_i32_128 : BitVec 32 := 0#32
  let v184 : BitVec 1 := Scalar.cmpi .ne v183 c0_i32_128
  let v188 : BitVec 1 := Scalar.andi v187 v184
  let v189 : BitVec 32 := Scalar.addi v183 v182
  let v190 : BitVec 32 := Scalar.select v188 v189 v183
  let v193 : BitVec 32 := Scalar.addi v192 v190
  let c1_i32_140 : BitVec 32 := 1#32
  let v194 : BitVec 32 := Scalar.muli v193 c1_i32_140
  let v195 : BitVec 32 := Scalar.addi c0_i32_141 v194
  v195.toNat
def k0_off2 (d0 : Dev nD) : Fin 3 → Nat :=
  let c0_146 : Index := 0#32
  let c64_i32_145 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v204 : BitVec 32 := Scalar.muli c64_i32_145 v29
  let v205 : Index := Scalar.indexCast v204
  let c0_147 : Index := 0#32
  ![0, v205.toNat, 0]
def k0_off3 (d0 : Dev nD) (c1_i32_202 : BitVec 32) : Fin 3 → Nat :=
  let c0_i32_211 : BitVec 32 := 0#32
  let c16_i32_209 : BitVec 32 := 16#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v249 : BitVec 32 := Scalar.addi v19 c1_i32_202
  let c4_i32_203 : BitVec 32 := 4#32
  let c0_i32_204 : BitVec 32 := 0#32
  let v250 : BitVec 1 := Scalar.cmpi .eq c4_i32_203 c0_i32_204
  let c1_i32_205 : BitVec 32 := 1#32
  let v251 : BitVec 32 := Scalar.select v250 c1_i32_205 c4_i32_203
  let v252 : BitVec 32 := Scalar.remsi v249 v251
  let c0_i32_207 : BitVec 32 := 0#32
  let v254 : BitVec 1 := Scalar.cmpi .slt v252 c0_i32_207
  let c0_i32_208 : BitVec 32 := 0#32
  let v255 : BitVec 1 := Scalar.cmpi .slt v251 c0_i32_208
  let v256 : BitVec 1 := Scalar.xori v254 v255
  let c0_i32_206 : BitVec 32 := 0#32
  let v253 : BitVec 1 := Scalar.cmpi .ne v252 c0_i32_206
  let v257 : BitVec 1 := Scalar.andi v256 v253
  let v258 : BitVec 32 := Scalar.addi v252 v251
  let v259 : BitVec 32 := Scalar.select v257 v258 v252
  let v260 : BitVec 32 := Scalar.muli c16_i32_209 v259
  let c0_i32_222 : BitVec 32 := 0#32
  ![0, v260.toNat, 0]
def k0_dev10 (d0 : Dev nD) : Nat :=
  let c0_i32_219 : BitVec 32 := 0#32
  let c4_i32_210 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_202 : BitVec 32 := 1#32
  let v249 : BitVec 32 := Scalar.addi v19 c1_i32_202
  let c4_i32_203 : BitVec 32 := 4#32
  let c0_i32_204 : BitVec 32 := 0#32
  let v250 : BitVec 1 := Scalar.cmpi .eq c4_i32_203 c0_i32_204
  let c1_i32_205 : BitVec 32 := 1#32
  let v251 : BitVec 32 := Scalar.select v250 c1_i32_205 c4_i32_203
  let v252 : BitVec 32 := Scalar.remsi v249 v251
  let c0_i32_207 : BitVec 32 := 0#32
  let v254 : BitVec 1 := Scalar.cmpi .slt v252 c0_i32_207
  let c0_i32_208 : BitVec 32 := 0#32
  let v255 : BitVec 1 := Scalar.cmpi .slt v251 c0_i32_208
  let v256 : BitVec 1 := Scalar.xori v254 v255
  let c0_i32_206 : BitVec 32 := 0#32
  let v253 : BitVec 1 := Scalar.cmpi .ne v252 c0_i32_206
  let v257 : BitVec 1 := Scalar.andi v256 v253
  let v258 : BitVec 32 := Scalar.addi v252 v251
  let v259 : BitVec 32 := Scalar.select v257 v258 v252
  let v261 : BitVec 32 := Scalar.muli c4_i32_210 v259
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v262 : BitVec 32 := Scalar.addi v261 v29
  let c1_i32_218 : BitVec 32 := 1#32
  let v263 : BitVec 32 := Scalar.muli v262 c1_i32_218
  let v264 : BitVec 32 := Scalar.addi c0_i32_219 v263
  v264.toNat
def k0_dev11 (d0 : Dev nD) : Nat :=
  let c0_i32_240 : BitVec 32 := 0#32
  let c4_i32_231 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_223 : BitVec 32 := 2#32
  let v273 : BitVec 32 := Scalar.addi v19 c2_i32_223
  let c4_i32_224 : BitVec 32 := 4#32
  let c0_i32_225 : BitVec 32 := 0#32
  let v274 : BitVec 1 := Scalar.cmpi .eq c4_i32_224 c0_i32_225
  let c1_i32_226 : BitVec 32 := 1#32
  let v275 : BitVec 32 := Scalar.select v274 c1_i32_226 c4_i32_224
  let v276 : BitVec 32 := Scalar.remsi v273 v275
  let c0_i32_228 : BitVec 32 := 0#32
  let v278 : BitVec 1 := Scalar.cmpi .slt v276 c0_i32_228
  let c0_i32_229 : BitVec 32 := 0#32
  let v279 : BitVec 1 := Scalar.cmpi .slt v275 c0_i32_229
  let v280 : BitVec 1 := Scalar.xori v278 v279
  let c0_i32_227 : BitVec 32 := 0#32
  let v277 : BitVec 1 := Scalar.cmpi .ne v276 c0_i32_227
  let v281 : BitVec 1 := Scalar.andi v280 v277
  let v282 : BitVec 32 := Scalar.addi v276 v275
  let v283 : BitVec 32 := Scalar.select v281 v282 v276
  let v285 : BitVec 32 := Scalar.muli c4_i32_231 v283
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v286 : BitVec 32 := Scalar.addi v285 v29
  let c1_i32_239 : BitVec 32 := 1#32
  let v287 : BitVec 32 := Scalar.muli v286 c1_i32_239
  let v288 : BitVec 32 := Scalar.addi c0_i32_240 v287
  v288.toNat
def k0_dev12 (d0 : Dev nD) : Nat :=
  let c0_i32_261 : BitVec 32 := 0#32
  let c4_i32_252 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_244 : BitVec 32 := 3#32
  let v297 : BitVec 32 := Scalar.addi v19 c3_i32_244
  let c4_i32_245 : BitVec 32 := 4#32
  let c0_i32_246 : BitVec 32 := 0#32
  let v298 : BitVec 1 := Scalar.cmpi .eq c4_i32_245 c0_i32_246
  let c1_i32_247 : BitVec 32 := 1#32
  let v299 : BitVec 32 := Scalar.select v298 c1_i32_247 c4_i32_245
  let v300 : BitVec 32 := Scalar.remsi v297 v299
  let c0_i32_249 : BitVec 32 := 0#32
  let v302 : BitVec 1 := Scalar.cmpi .slt v300 c0_i32_249
  let c0_i32_250 : BitVec 32 := 0#32
  let v303 : BitVec 1 := Scalar.cmpi .slt v299 c0_i32_250
  let v304 : BitVec 1 := Scalar.xori v302 v303
  let c0_i32_248 : BitVec 32 := 0#32
  let v301 : BitVec 1 := Scalar.cmpi .ne v300 c0_i32_248
  let v305 : BitVec 1 := Scalar.andi v304 v301
  let v306 : BitVec 32 := Scalar.addi v300 v299
  let v307 : BitVec 32 := Scalar.select v305 v306 v300
  let v309 : BitVec 32 := Scalar.muli c4_i32_252 v307
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v310 : BitVec 32 := Scalar.addi v309 v29
  let c1_i32_260 : BitVec 32 := 1#32
  let v311 : BitVec 32 := Scalar.muli v310 c1_i32_260
  let v312 : BitVec 32 := Scalar.addi c0_i32_261 v311
  v312.toNat
def k0_off4 (d0 : Dev nD) : Fin 3 → Nat :=
  let c0_266 : Index := 0#32
  let c16_i32_265 : BitVec 32 := 16#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v321 : BitVec 32 := Scalar.muli c16_i32_265 v19
  let v322 : Index := Scalar.indexCast v321
  let c0_267 : Index := 0#32
  ![0, v322.toNat, 0]
def k0_off5 (d0 : Dev nD) : Fin 3 → Nat :=
  let c0_323 : Index := 0#32
  let c64_i32 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c64_i32 v29
  let c16_i32_11 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.muli c16_i32_11 v19
  let v32 : BitVec 32 := Scalar.addi v30 v31
  let v365 : Index := Scalar.indexCast v32
  let c0_324 : Index := 0#32
  ![0, v365.toNat, 0]
def k0_off6 (d0 : Dev nD) : Fin 3 → Nat :=
  let c0_i32_334 : BitVec 32 := 0#32
  let c64_i32 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c64_i32 v29
  let c16_i32_11 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.muli c16_i32_11 v19
  let v32 : BitVec 32 := Scalar.addi v30 v31
  let c0_i32_341 : BitVec 32 := 0#32
  ![0, v32.toNat, 0]
def k0_dev13 (d0 : Dev nD) : Nat :=
  let c0_i32_340 : BitVec 32 := 0#32
  let c4_i32_332 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_325 : BitVec 32 := 1#32
  let v369 : BitVec 32 := Scalar.addi v19 c1_i32_325
  let c4_i32_326 : BitVec 32 := 4#32
  let c0_i32_327 : BitVec 32 := 0#32
  let v370 : BitVec 1 := Scalar.cmpi .eq c4_i32_326 c0_i32_327
  let c1_i32_328 : BitVec 32 := 1#32
  let v371 : BitVec 32 := Scalar.select v370 c1_i32_328 c4_i32_326
  let v372 : BitVec 32 := Scalar.remsi v369 v371
  let c0_i32_330 : BitVec 32 := 0#32
  let v374 : BitVec 1 := Scalar.cmpi .slt v372 c0_i32_330
  let c0_i32_331 : BitVec 32 := 0#32
  let v375 : BitVec 1 := Scalar.cmpi .slt v371 c0_i32_331
  let v376 : BitVec 1 := Scalar.xori v374 v375
  let c0_i32_329 : BitVec 32 := 0#32
  let v373 : BitVec 1 := Scalar.cmpi .ne v372 c0_i32_329
  let v377 : BitVec 1 := Scalar.andi v376 v373
  let v378 : BitVec 32 := Scalar.addi v372 v371
  let v379 : BitVec 32 := Scalar.select v377 v378 v372
  let v380 : BitVec 32 := Scalar.muli c4_i32_332 v379
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v381 : BitVec 32 := Scalar.addi v380 v29
  let c1_i32_339 : BitVec 32 := 1#32
  let v382 : BitVec 32 := Scalar.muli v381 c1_i32_339
  let v383 : BitVec 32 := Scalar.addi c0_i32_340 v382
  v383.toNat
def k0_dev14 (d0 : Dev nD) : Nat :=
  let c0_i32_358 : BitVec 32 := 0#32
  let c4_i32_350 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_343 : BitVec 32 := 2#32
  let v392 : BitVec 32 := Scalar.addi v19 c2_i32_343
  let c4_i32_344 : BitVec 32 := 4#32
  let c0_i32_345 : BitVec 32 := 0#32
  let v393 : BitVec 1 := Scalar.cmpi .eq c4_i32_344 c0_i32_345
  let c1_i32_346 : BitVec 32 := 1#32
  let v394 : BitVec 32 := Scalar.select v393 c1_i32_346 c4_i32_344
  let v395 : BitVec 32 := Scalar.remsi v392 v394
  let c0_i32_348 : BitVec 32 := 0#32
  let v397 : BitVec 1 := Scalar.cmpi .slt v395 c0_i32_348
  let c0_i32_349 : BitVec 32 := 0#32
  let v398 : BitVec 1 := Scalar.cmpi .slt v394 c0_i32_349
  let v399 : BitVec 1 := Scalar.xori v397 v398
  let c0_i32_347 : BitVec 32 := 0#32
  let v396 : BitVec 1 := Scalar.cmpi .ne v395 c0_i32_347
  let v400 : BitVec 1 := Scalar.andi v399 v396
  let v401 : BitVec 32 := Scalar.addi v395 v394
  let v402 : BitVec 32 := Scalar.select v400 v401 v395
  let v403 : BitVec 32 := Scalar.muli c4_i32_350 v402
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v404 : BitVec 32 := Scalar.addi v403 v29
  let c1_i32_357 : BitVec 32 := 1#32
  let v405 : BitVec 32 := Scalar.muli v404 c1_i32_357
  let v406 : BitVec 32 := Scalar.addi c0_i32_358 v405
  v406.toNat
def k0_dev15 (d0 : Dev nD) : Nat :=
  let c0_i32_376 : BitVec 32 := 0#32
  let c4_i32_368 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_361 : BitVec 32 := 3#32
  let v415 : BitVec 32 := Scalar.addi v19 c3_i32_361
  let c4_i32_362 : BitVec 32 := 4#32
  let c0_i32_363 : BitVec 32 := 0#32
  let v416 : BitVec 1 := Scalar.cmpi .eq c4_i32_362 c0_i32_363
  let c1_i32_364 : BitVec 32 := 1#32
  let v417 : BitVec 32 := Scalar.select v416 c1_i32_364 c4_i32_362
  let v418 : BitVec 32 := Scalar.remsi v415 v417
  let c0_i32_366 : BitVec 32 := 0#32
  let v420 : BitVec 1 := Scalar.cmpi .slt v418 c0_i32_366
  let c0_i32_367 : BitVec 32 := 0#32
  let v421 : BitVec 1 := Scalar.cmpi .slt v417 c0_i32_367
  let v422 : BitVec 1 := Scalar.xori v420 v421
  let c0_i32_365 : BitVec 32 := 0#32
  let v419 : BitVec 1 := Scalar.cmpi .ne v418 c0_i32_365
  let v423 : BitVec 1 := Scalar.andi v422 v419
  let v424 : BitVec 32 := Scalar.addi v418 v417
  let v425 : BitVec 32 := Scalar.select v423 v424 v418
  let v426 : BitVec 32 := Scalar.muli c4_i32_368 v425
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v427 : BitVec 32 := Scalar.addi v426 v29
  let c1_i32_375 : BitVec 32 := 1#32
  let v428 : BitVec 32 := Scalar.muli v427 c1_i32_375
  let v429 : BitVec 32 := Scalar.addi c0_i32_376 v428
  v429.toNat
def k0_off7 (d0 : Dev nD) : Fin 3 → Nat :=
  let c0_i32_426 : BitVec 32 := 0#32
  let c64_i32_423 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v474 : BitVec 32 := Scalar.muli c64_i32_423 v29
  let c0_i32_433 : BitVec 32 := 0#32
  ![0, v474.toNat, 0]
def k0_dev16 (d0 : Dev nD) : Nat :=
  let c0_i32_432 : BitVec 32 := 0#32
  let c4_i32_424 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v475 : BitVec 32 := Scalar.muli c4_i32_424 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_415 : BitVec 32 := 1#32
  let v462 : BitVec 32 := Scalar.addi v29 c1_i32_415
  let c4_i32_416 : BitVec 32 := 4#32
  let c0_i32_417 : BitVec 32 := 0#32
  let v463 : BitVec 1 := Scalar.cmpi .eq c4_i32_416 c0_i32_417
  let c1_i32_418 : BitVec 32 := 1#32
  let v464 : BitVec 32 := Scalar.select v463 c1_i32_418 c4_i32_416
  let v465 : BitVec 32 := Scalar.remsi v462 v464
  let c0_i32_420 : BitVec 32 := 0#32
  let v467 : BitVec 1 := Scalar.cmpi .slt v465 c0_i32_420
  let c0_i32_421 : BitVec 32 := 0#32
  let v468 : BitVec 1 := Scalar.cmpi .slt v464 c0_i32_421
  let v469 : BitVec 1 := Scalar.xori v467 v468
  let c0_i32_419 : BitVec 32 := 0#32
  let v466 : BitVec 1 := Scalar.cmpi .ne v465 c0_i32_419
  let v470 : BitVec 1 := Scalar.andi v469 v466
  let v471 : BitVec 32 := Scalar.addi v465 v464
  let v472 : BitVec 32 := Scalar.select v470 v471 v465
  let v476 : BitVec 32 := Scalar.addi v475 v472
  let c1_i32_431 : BitVec 32 := 1#32
  let v477 : BitVec 32 := Scalar.muli v476 c1_i32_431
  let v478 : BitVec 32 := Scalar.addi c0_i32_432 v477
  v478.toNat
def k0_dev17 (d0 : Dev nD) : Nat :=
  let c0_i32_452 : BitVec 32 := 0#32
  let c4_i32_444 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v500 : BitVec 32 := Scalar.muli c4_i32_444 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_435 : BitVec 32 := 2#32
  let v487 : BitVec 32 := Scalar.addi v29 c2_i32_435
  let c4_i32_436 : BitVec 32 := 4#32
  let c0_i32_437 : BitVec 32 := 0#32
  let v488 : BitVec 1 := Scalar.cmpi .eq c4_i32_436 c0_i32_437
  let c1_i32_438 : BitVec 32 := 1#32
  let v489 : BitVec 32 := Scalar.select v488 c1_i32_438 c4_i32_436
  let v490 : BitVec 32 := Scalar.remsi v487 v489
  let c0_i32_440 : BitVec 32 := 0#32
  let v492 : BitVec 1 := Scalar.cmpi .slt v490 c0_i32_440
  let c0_i32_441 : BitVec 32 := 0#32
  let v493 : BitVec 1 := Scalar.cmpi .slt v489 c0_i32_441
  let v494 : BitVec 1 := Scalar.xori v492 v493
  let c0_i32_439 : BitVec 32 := 0#32
  let v491 : BitVec 1 := Scalar.cmpi .ne v490 c0_i32_439
  let v495 : BitVec 1 := Scalar.andi v494 v491
  let v496 : BitVec 32 := Scalar.addi v490 v489
  let v497 : BitVec 32 := Scalar.select v495 v496 v490
  let v501 : BitVec 32 := Scalar.addi v500 v497
  let c1_i32_451 : BitVec 32 := 1#32
  let v502 : BitVec 32 := Scalar.muli v501 c1_i32_451
  let v503 : BitVec 32 := Scalar.addi c0_i32_452 v502
  v503.toNat
def k0_dev18 (d0 : Dev nD) : Nat :=
  let c0_i32_472 : BitVec 32 := 0#32
  let c4_i32_464 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v525 : BitVec 32 := Scalar.muli c4_i32_464 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_455 : BitVec 32 := 3#32
  let v512 : BitVec 32 := Scalar.addi v29 c3_i32_455
  let c4_i32_456 : BitVec 32 := 4#32
  let c0_i32_457 : BitVec 32 := 0#32
  let v513 : BitVec 1 := Scalar.cmpi .eq c4_i32_456 c0_i32_457
  let c1_i32_458 : BitVec 32 := 1#32
  let v514 : BitVec 32 := Scalar.select v513 c1_i32_458 c4_i32_456
  let v515 : BitVec 32 := Scalar.remsi v512 v514
  let c0_i32_460 : BitVec 32 := 0#32
  let v517 : BitVec 1 := Scalar.cmpi .slt v515 c0_i32_460
  let c0_i32_461 : BitVec 32 := 0#32
  let v518 : BitVec 1 := Scalar.cmpi .slt v514 c0_i32_461
  let v519 : BitVec 1 := Scalar.xori v517 v518
  let c0_i32_459 : BitVec 32 := 0#32
  let v516 : BitVec 1 := Scalar.cmpi .ne v515 c0_i32_459
  let v520 : BitVec 1 := Scalar.andi v519 v516
  let v521 : BitVec 32 := Scalar.addi v515 v514
  let v522 : BitVec 32 := Scalar.select v520 v521 v515
  let v526 : BitVec 32 := Scalar.addi v525 v522
  let c1_i32_471 : BitVec 32 := 1#32
  let v527 : BitVec 32 := Scalar.muli v526 c1_i32_471
  let v528 : BitVec 32 := Scalar.addi c0_i32_472 v527
  v528.toNat
def k0_off8 (d0 : Dev nD) (c1_i32_523 : BitVec 32) : Fin 3 → Nat :=
  let c1_i32_532 : BitVec 32 := 1#32
  let c64_i32_530 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v573 : BitVec 32 := Scalar.addi v29 c1_i32_523
  let c4_i32_524 : BitVec 32 := 4#32
  let c0_i32_525 : BitVec 32 := 0#32
  let v574 : BitVec 1 := Scalar.cmpi .eq c4_i32_524 c0_i32_525
  let c1_i32_526 : BitVec 32 := 1#32
  let v575 : BitVec 32 := Scalar.select v574 c1_i32_526 c4_i32_524
  let v576 : BitVec 32 := Scalar.remsi v573 v575
  let c0_i32_528 : BitVec 32 := 0#32
  let v578 : BitVec 1 := Scalar.cmpi .slt v576 c0_i32_528
  let c0_i32_529 : BitVec 32 := 0#32
  let v579 : BitVec 1 := Scalar.cmpi .slt v575 c0_i32_529
  let v580 : BitVec 1 := Scalar.xori v578 v579
  let c0_i32_527 : BitVec 32 := 0#32
  let v577 : BitVec 1 := Scalar.cmpi .ne v576 c0_i32_527
  let v581 : BitVec 1 := Scalar.andi v580 v577
  let v582 : BitVec 32 := Scalar.addi v576 v575
  let v583 : BitVec 32 := Scalar.select v581 v582 v576
  let v584 : BitVec 32 := Scalar.muli c64_i32_530 v583
  let c0_i32_543 : BitVec 32 := 0#32
  ![1, v584.toNat, 0]
def k0_dev19 (d0 : Dev nD) : Nat :=
  let c0_i32_540 : BitVec 32 := 0#32
  let c4_i32_531 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v585 : BitVec 32 := Scalar.muli c4_i32_531 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_523 : BitVec 32 := 1#32
  let v573 : BitVec 32 := Scalar.addi v29 c1_i32_523
  let c4_i32_524 : BitVec 32 := 4#32
  let c0_i32_525 : BitVec 32 := 0#32
  let v574 : BitVec 1 := Scalar.cmpi .eq c4_i32_524 c0_i32_525
  let c1_i32_526 : BitVec 32 := 1#32
  let v575 : BitVec 32 := Scalar.select v574 c1_i32_526 c4_i32_524
  let v576 : BitVec 32 := Scalar.remsi v573 v575
  let c0_i32_528 : BitVec 32 := 0#32
  let v578 : BitVec 1 := Scalar.cmpi .slt v576 c0_i32_528
  let c0_i32_529 : BitVec 32 := 0#32
  let v579 : BitVec 1 := Scalar.cmpi .slt v575 c0_i32_529
  let v580 : BitVec 1 := Scalar.xori v578 v579
  let c0_i32_527 : BitVec 32 := 0#32
  let v577 : BitVec 1 := Scalar.cmpi .ne v576 c0_i32_527
  let v581 : BitVec 1 := Scalar.andi v580 v577
  let v582 : BitVec 32 := Scalar.addi v576 v575
  let v583 : BitVec 32 := Scalar.select v581 v582 v576
  let v586 : BitVec 32 := Scalar.addi v585 v583
  let c1_i32_539 : BitVec 32 := 1#32
  let v587 : BitVec 32 := Scalar.muli v586 c1_i32_539
  let v588 : BitVec 32 := Scalar.addi c0_i32_540 v587
  v588.toNat
def k0_dev20 (d0 : Dev nD) : Nat :=
  let c0_i32_561 : BitVec 32 := 0#32
  let c4_i32_552 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v609 : BitVec 32 := Scalar.muli c4_i32_552 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_544 : BitVec 32 := 2#32
  let v597 : BitVec 32 := Scalar.addi v29 c2_i32_544
  let c4_i32_545 : BitVec 32 := 4#32
  let c0_i32_546 : BitVec 32 := 0#32
  let v598 : BitVec 1 := Scalar.cmpi .eq c4_i32_545 c0_i32_546
  let c1_i32_547 : BitVec 32 := 1#32
  let v599 : BitVec 32 := Scalar.select v598 c1_i32_547 c4_i32_545
  let v600 : BitVec 32 := Scalar.remsi v597 v599
  let c0_i32_549 : BitVec 32 := 0#32
  let v602 : BitVec 1 := Scalar.cmpi .slt v600 c0_i32_549
  let c0_i32_550 : BitVec 32 := 0#32
  let v603 : BitVec 1 := Scalar.cmpi .slt v599 c0_i32_550
  let v604 : BitVec 1 := Scalar.xori v602 v603
  let c0_i32_548 : BitVec 32 := 0#32
  let v601 : BitVec 1 := Scalar.cmpi .ne v600 c0_i32_548
  let v605 : BitVec 1 := Scalar.andi v604 v601
  let v606 : BitVec 32 := Scalar.addi v600 v599
  let v607 : BitVec 32 := Scalar.select v605 v606 v600
  let v610 : BitVec 32 := Scalar.addi v609 v607
  let c1_i32_560 : BitVec 32 := 1#32
  let v611 : BitVec 32 := Scalar.muli v610 c1_i32_560
  let v612 : BitVec 32 := Scalar.addi c0_i32_561 v611
  v612.toNat
def k0_dev21 (d0 : Dev nD) : Nat :=
  let c0_i32_582 : BitVec 32 := 0#32
  let c4_i32_573 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v633 : BitVec 32 := Scalar.muli c4_i32_573 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_565 : BitVec 32 := 3#32
  let v621 : BitVec 32 := Scalar.addi v29 c3_i32_565
  let c4_i32_566 : BitVec 32 := 4#32
  let c0_i32_567 : BitVec 32 := 0#32
  let v622 : BitVec 1 := Scalar.cmpi .eq c4_i32_566 c0_i32_567
  let c1_i32_568 : BitVec 32 := 1#32
  let v623 : BitVec 32 := Scalar.select v622 c1_i32_568 c4_i32_566
  let v624 : BitVec 32 := Scalar.remsi v621 v623
  let c0_i32_570 : BitVec 32 := 0#32
  let v626 : BitVec 1 := Scalar.cmpi .slt v624 c0_i32_570
  let c0_i32_571 : BitVec 32 := 0#32
  let v627 : BitVec 1 := Scalar.cmpi .slt v623 c0_i32_571
  let v628 : BitVec 1 := Scalar.xori v626 v627
  let c0_i32_569 : BitVec 32 := 0#32
  let v625 : BitVec 1 := Scalar.cmpi .ne v624 c0_i32_569
  let v629 : BitVec 1 := Scalar.andi v628 v625
  let v630 : BitVec 32 := Scalar.addi v624 v623
  let v631 : BitVec 32 := Scalar.select v629 v630 v624
  let v634 : BitVec 32 := Scalar.addi v633 v631
  let c1_i32_581 : BitVec 32 := 1#32
  let v635 : BitVec 32 := Scalar.muli v634 c1_i32_581
  let v636 : BitVec 32 := Scalar.addi c0_i32_582 v635
  v636.toNat
def k0_off9 (d0 : Dev nD) : Fin 3 → Nat :=
  let c1_587 : Index := 1#32
  let c64_i32_586 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v645 : BitVec 32 := Scalar.muli c64_i32_586 v29
  let v646 : Index := Scalar.indexCast v645
  let c0_588 : Index := 0#32
  ![1, v646.toNat, 0]
def k0_off10 (d0 : Dev nD) (c1_i32_646 : BitVec 32) : Fin 3 → Nat :=
  let c1_i32_655 : BitVec 32 := 1#32
  let c16_i32_653 : BitVec 32 := 16#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v690 : BitVec 32 := Scalar.addi v19 c1_i32_646
  let c4_i32_647 : BitVec 32 := 4#32
  let c0_i32_648 : BitVec 32 := 0#32
  let v691 : BitVec 1 := Scalar.cmpi .eq c4_i32_647 c0_i32_648
  let c1_i32_649 : BitVec 32 := 1#32
  let v692 : BitVec 32 := Scalar.select v691 c1_i32_649 c4_i32_647
  let v693 : BitVec 32 := Scalar.remsi v690 v692
  let c0_i32_651 : BitVec 32 := 0#32
  let v695 : BitVec 1 := Scalar.cmpi .slt v693 c0_i32_651
  let c0_i32_652 : BitVec 32 := 0#32
  let v696 : BitVec 1 := Scalar.cmpi .slt v692 c0_i32_652
  let v697 : BitVec 1 := Scalar.xori v695 v696
  let c0_i32_650 : BitVec 32 := 0#32
  let v694 : BitVec 1 := Scalar.cmpi .ne v693 c0_i32_650
  let v698 : BitVec 1 := Scalar.andi v697 v694
  let v699 : BitVec 32 := Scalar.addi v693 v692
  let v700 : BitVec 32 := Scalar.select v698 v699 v693
  let v701 : BitVec 32 := Scalar.muli c16_i32_653 v700
  let c0_i32_666 : BitVec 32 := 0#32
  ![1, v701.toNat, 0]
def k0_dev22 (d0 : Dev nD) : Nat :=
  let c0_i32_663 : BitVec 32 := 0#32
  let c4_i32_654 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_646 : BitVec 32 := 1#32
  let v690 : BitVec 32 := Scalar.addi v19 c1_i32_646
  let c4_i32_647 : BitVec 32 := 4#32
  let c0_i32_648 : BitVec 32 := 0#32
  let v691 : BitVec 1 := Scalar.cmpi .eq c4_i32_647 c0_i32_648
  let c1_i32_649 : BitVec 32 := 1#32
  let v692 : BitVec 32 := Scalar.select v691 c1_i32_649 c4_i32_647
  let v693 : BitVec 32 := Scalar.remsi v690 v692
  let c0_i32_651 : BitVec 32 := 0#32
  let v695 : BitVec 1 := Scalar.cmpi .slt v693 c0_i32_651
  let c0_i32_652 : BitVec 32 := 0#32
  let v696 : BitVec 1 := Scalar.cmpi .slt v692 c0_i32_652
  let v697 : BitVec 1 := Scalar.xori v695 v696
  let c0_i32_650 : BitVec 32 := 0#32
  let v694 : BitVec 1 := Scalar.cmpi .ne v693 c0_i32_650
  let v698 : BitVec 1 := Scalar.andi v697 v694
  let v699 : BitVec 32 := Scalar.addi v693 v692
  let v700 : BitVec 32 := Scalar.select v698 v699 v693
  let v702 : BitVec 32 := Scalar.muli c4_i32_654 v700
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v703 : BitVec 32 := Scalar.addi v702 v29
  let c1_i32_662 : BitVec 32 := 1#32
  let v704 : BitVec 32 := Scalar.muli v703 c1_i32_662
  let v705 : BitVec 32 := Scalar.addi c0_i32_663 v704
  v705.toNat
def k0_dev23 (d0 : Dev nD) : Nat :=
  let c0_i32_684 : BitVec 32 := 0#32
  let c4_i32_675 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_667 : BitVec 32 := 2#32
  let v714 : BitVec 32 := Scalar.addi v19 c2_i32_667
  let c4_i32_668 : BitVec 32 := 4#32
  let c0_i32_669 : BitVec 32 := 0#32
  let v715 : BitVec 1 := Scalar.cmpi .eq c4_i32_668 c0_i32_669
  let c1_i32_670 : BitVec 32 := 1#32
  let v716 : BitVec 32 := Scalar.select v715 c1_i32_670 c4_i32_668
  let v717 : BitVec 32 := Scalar.remsi v714 v716
  let c0_i32_672 : BitVec 32 := 0#32
  let v719 : BitVec 1 := Scalar.cmpi .slt v717 c0_i32_672
  let c0_i32_673 : BitVec 32 := 0#32
  let v720 : BitVec 1 := Scalar.cmpi .slt v716 c0_i32_673
  let v721 : BitVec 1 := Scalar.xori v719 v720
  let c0_i32_671 : BitVec 32 := 0#32
  let v718 : BitVec 1 := Scalar.cmpi .ne v717 c0_i32_671
  let v722 : BitVec 1 := Scalar.andi v721 v718
  let v723 : BitVec 32 := Scalar.addi v717 v716
  let v724 : BitVec 32 := Scalar.select v722 v723 v717
  let v726 : BitVec 32 := Scalar.muli c4_i32_675 v724
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v727 : BitVec 32 := Scalar.addi v726 v29
  let c1_i32_683 : BitVec 32 := 1#32
  let v728 : BitVec 32 := Scalar.muli v727 c1_i32_683
  let v729 : BitVec 32 := Scalar.addi c0_i32_684 v728
  v729.toNat
def k0_dev24 (d0 : Dev nD) : Nat :=
  let c0_i32_705 : BitVec 32 := 0#32
  let c4_i32_696 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_688 : BitVec 32 := 3#32
  let v738 : BitVec 32 := Scalar.addi v19 c3_i32_688
  let c4_i32_689 : BitVec 32 := 4#32
  let c0_i32_690 : BitVec 32 := 0#32
  let v739 : BitVec 1 := Scalar.cmpi .eq c4_i32_689 c0_i32_690
  let c1_i32_691 : BitVec 32 := 1#32
  let v740 : BitVec 32 := Scalar.select v739 c1_i32_691 c4_i32_689
  let v741 : BitVec 32 := Scalar.remsi v738 v740
  let c0_i32_693 : BitVec 32 := 0#32
  let v743 : BitVec 1 := Scalar.cmpi .slt v741 c0_i32_693
  let c0_i32_694 : BitVec 32 := 0#32
  let v744 : BitVec 1 := Scalar.cmpi .slt v740 c0_i32_694
  let v745 : BitVec 1 := Scalar.xori v743 v744
  let c0_i32_692 : BitVec 32 := 0#32
  let v742 : BitVec 1 := Scalar.cmpi .ne v741 c0_i32_692
  let v746 : BitVec 1 := Scalar.andi v745 v742
  let v747 : BitVec 32 := Scalar.addi v741 v740
  let v748 : BitVec 32 := Scalar.select v746 v747 v741
  let v750 : BitVec 32 := Scalar.muli c4_i32_696 v748
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v751 : BitVec 32 := Scalar.addi v750 v29
  let c1_i32_704 : BitVec 32 := 1#32
  let v752 : BitVec 32 := Scalar.muli v751 c1_i32_704
  let v753 : BitVec 32 := Scalar.addi c0_i32_705 v752
  v753.toNat
def k0_off11 (d0 : Dev nD) : Fin 3 → Nat :=
  let c1_710 : Index := 1#32
  let c16_i32_709 : BitVec 32 := 16#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v762 : BitVec 32 := Scalar.muli c16_i32_709 v19
  let v763 : Index := Scalar.indexCast v762
  let c0_711 : Index := 0#32
  ![1, v763.toNat, 0]
def k0_off12 (d0 : Dev nD) : Fin 3 → Nat :=
  let c1_767 : Index := 1#32
  let c64_i32 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c64_i32 v29
  let c16_i32_11 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.muli c16_i32_11 v19
  let v32 : BitVec 32 := Scalar.addi v30 v31
  let v806 : Index := Scalar.indexCast v32
  let c0_768 : Index := 0#32
  ![1, v806.toNat, 0]
def k0_off13 (d0 : Dev nD) : Fin 3 → Nat :=
  let c1_i32_778 : BitVec 32 := 1#32
  let c64_i32 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c64_i32 v29
  let c16_i32_11 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.muli c16_i32_11 v19
  let v32 : BitVec 32 := Scalar.addi v30 v31
  let c0_i32_785 : BitVec 32 := 0#32
  ![1, v32.toNat, 0]
def k0_dev25 (d0 : Dev nD) : Nat :=
  let c0_i32_784 : BitVec 32 := 0#32
  let c4_i32_776 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_769 : BitVec 32 := 1#32
  let v810 : BitVec 32 := Scalar.addi v19 c1_i32_769
  let c4_i32_770 : BitVec 32 := 4#32
  let c0_i32_771 : BitVec 32 := 0#32
  let v811 : BitVec 1 := Scalar.cmpi .eq c4_i32_770 c0_i32_771
  let c1_i32_772 : BitVec 32 := 1#32
  let v812 : BitVec 32 := Scalar.select v811 c1_i32_772 c4_i32_770
  let v813 : BitVec 32 := Scalar.remsi v810 v812
  let c0_i32_774 : BitVec 32 := 0#32
  let v815 : BitVec 1 := Scalar.cmpi .slt v813 c0_i32_774
  let c0_i32_775 : BitVec 32 := 0#32
  let v816 : BitVec 1 := Scalar.cmpi .slt v812 c0_i32_775
  let v817 : BitVec 1 := Scalar.xori v815 v816
  let c0_i32_773 : BitVec 32 := 0#32
  let v814 : BitVec 1 := Scalar.cmpi .ne v813 c0_i32_773
  let v818 : BitVec 1 := Scalar.andi v817 v814
  let v819 : BitVec 32 := Scalar.addi v813 v812
  let v820 : BitVec 32 := Scalar.select v818 v819 v813
  let v821 : BitVec 32 := Scalar.muli c4_i32_776 v820
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v822 : BitVec 32 := Scalar.addi v821 v29
  let c1_i32_783 : BitVec 32 := 1#32
  let v823 : BitVec 32 := Scalar.muli v822 c1_i32_783
  let v824 : BitVec 32 := Scalar.addi c0_i32_784 v823
  v824.toNat
def k0_dev26 (d0 : Dev nD) : Nat :=
  let c0_i32_802 : BitVec 32 := 0#32
  let c4_i32_794 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_787 : BitVec 32 := 2#32
  let v833 : BitVec 32 := Scalar.addi v19 c2_i32_787
  let c4_i32_788 : BitVec 32 := 4#32
  let c0_i32_789 : BitVec 32 := 0#32
  let v834 : BitVec 1 := Scalar.cmpi .eq c4_i32_788 c0_i32_789
  let c1_i32_790 : BitVec 32 := 1#32
  let v835 : BitVec 32 := Scalar.select v834 c1_i32_790 c4_i32_788
  let v836 : BitVec 32 := Scalar.remsi v833 v835
  let c0_i32_792 : BitVec 32 := 0#32
  let v838 : BitVec 1 := Scalar.cmpi .slt v836 c0_i32_792
  let c0_i32_793 : BitVec 32 := 0#32
  let v839 : BitVec 1 := Scalar.cmpi .slt v835 c0_i32_793
  let v840 : BitVec 1 := Scalar.xori v838 v839
  let c0_i32_791 : BitVec 32 := 0#32
  let v837 : BitVec 1 := Scalar.cmpi .ne v836 c0_i32_791
  let v841 : BitVec 1 := Scalar.andi v840 v837
  let v842 : BitVec 32 := Scalar.addi v836 v835
  let v843 : BitVec 32 := Scalar.select v841 v842 v836
  let v844 : BitVec 32 := Scalar.muli c4_i32_794 v843
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v845 : BitVec 32 := Scalar.addi v844 v29
  let c1_i32_801 : BitVec 32 := 1#32
  let v846 : BitVec 32 := Scalar.muli v845 c1_i32_801
  let v847 : BitVec 32 := Scalar.addi c0_i32_802 v846
  v847.toNat
def k0_dev27 (d0 : Dev nD) : Nat :=
  let c0_i32_820 : BitVec 32 := 0#32
  let c4_i32_812 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_805 : BitVec 32 := 3#32
  let v856 : BitVec 32 := Scalar.addi v19 c3_i32_805
  let c4_i32_806 : BitVec 32 := 4#32
  let c0_i32_807 : BitVec 32 := 0#32
  let v857 : BitVec 1 := Scalar.cmpi .eq c4_i32_806 c0_i32_807
  let c1_i32_808 : BitVec 32 := 1#32
  let v858 : BitVec 32 := Scalar.select v857 c1_i32_808 c4_i32_806
  let v859 : BitVec 32 := Scalar.remsi v856 v858
  let c0_i32_810 : BitVec 32 := 0#32
  let v861 : BitVec 1 := Scalar.cmpi .slt v859 c0_i32_810
  let c0_i32_811 : BitVec 32 := 0#32
  let v862 : BitVec 1 := Scalar.cmpi .slt v858 c0_i32_811
  let v863 : BitVec 1 := Scalar.xori v861 v862
  let c0_i32_809 : BitVec 32 := 0#32
  let v860 : BitVec 1 := Scalar.cmpi .ne v859 c0_i32_809
  let v864 : BitVec 1 := Scalar.andi v863 v860
  let v865 : BitVec 32 := Scalar.addi v859 v858
  let v866 : BitVec 32 := Scalar.select v864 v865 v859
  let v867 : BitVec 32 := Scalar.muli c4_i32_812 v866
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v868 : BitVec 32 := Scalar.addi v867 v29
  let c1_i32_819 : BitVec 32 := 1#32
  let v869 : BitVec 32 := Scalar.muli v868 c1_i32_819
  let v870 : BitVec 32 := Scalar.addi c0_i32_820 v869
  v870.toNat
def k0_off14 (d0 : Dev nD) : Fin 3 → Nat :=
  let c1_i32_870 : BitVec 32 := 1#32
  let c64_i32_867 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v915 : BitVec 32 := Scalar.muli c64_i32_867 v29
  let c0_i32_877 : BitVec 32 := 0#32
  ![1, v915.toNat, 0]
def k0_dev28 (d0 : Dev nD) : Nat :=
  let c0_i32_876 : BitVec 32 := 0#32
  let c4_i32_868 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v916 : BitVec 32 := Scalar.muli c4_i32_868 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_859 : BitVec 32 := 1#32
  let v903 : BitVec 32 := Scalar.addi v29 c1_i32_859
  let c4_i32_860 : BitVec 32 := 4#32
  let c0_i32_861 : BitVec 32 := 0#32
  let v904 : BitVec 1 := Scalar.cmpi .eq c4_i32_860 c0_i32_861
  let c1_i32_862 : BitVec 32 := 1#32
  let v905 : BitVec 32 := Scalar.select v904 c1_i32_862 c4_i32_860
  let v906 : BitVec 32 := Scalar.remsi v903 v905
  let c0_i32_864 : BitVec 32 := 0#32
  let v908 : BitVec 1 := Scalar.cmpi .slt v906 c0_i32_864
  let c0_i32_865 : BitVec 32 := 0#32
  let v909 : BitVec 1 := Scalar.cmpi .slt v905 c0_i32_865
  let v910 : BitVec 1 := Scalar.xori v908 v909
  let c0_i32_863 : BitVec 32 := 0#32
  let v907 : BitVec 1 := Scalar.cmpi .ne v906 c0_i32_863
  let v911 : BitVec 1 := Scalar.andi v910 v907
  let v912 : BitVec 32 := Scalar.addi v906 v905
  let v913 : BitVec 32 := Scalar.select v911 v912 v906
  let v917 : BitVec 32 := Scalar.addi v916 v913
  let c1_i32_875 : BitVec 32 := 1#32
  let v918 : BitVec 32 := Scalar.muli v917 c1_i32_875
  let v919 : BitVec 32 := Scalar.addi c0_i32_876 v918
  v919.toNat
def k0_dev29 (d0 : Dev nD) : Nat :=
  let c0_i32_896 : BitVec 32 := 0#32
  let c4_i32_888 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v941 : BitVec 32 := Scalar.muli c4_i32_888 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_879 : BitVec 32 := 2#32
  let v928 : BitVec 32 := Scalar.addi v29 c2_i32_879
  let c4_i32_880 : BitVec 32 := 4#32
  let c0_i32_881 : BitVec 32 := 0#32
  let v929 : BitVec 1 := Scalar.cmpi .eq c4_i32_880 c0_i32_881
  let c1_i32_882 : BitVec 32 := 1#32
  let v930 : BitVec 32 := Scalar.select v929 c1_i32_882 c4_i32_880
  let v931 : BitVec 32 := Scalar.remsi v928 v930
  let c0_i32_884 : BitVec 32 := 0#32
  let v933 : BitVec 1 := Scalar.cmpi .slt v931 c0_i32_884
  let c0_i32_885 : BitVec 32 := 0#32
  let v934 : BitVec 1 := Scalar.cmpi .slt v930 c0_i32_885
  let v935 : BitVec 1 := Scalar.xori v933 v934
  let c0_i32_883 : BitVec 32 := 0#32
  let v932 : BitVec 1 := Scalar.cmpi .ne v931 c0_i32_883
  let v936 : BitVec 1 := Scalar.andi v935 v932
  let v937 : BitVec 32 := Scalar.addi v931 v930
  let v938 : BitVec 32 := Scalar.select v936 v937 v931
  let v942 : BitVec 32 := Scalar.addi v941 v938
  let c1_i32_895 : BitVec 32 := 1#32
  let v943 : BitVec 32 := Scalar.muli v942 c1_i32_895
  let v944 : BitVec 32 := Scalar.addi c0_i32_896 v943
  v944.toNat
def k0_dev30 (d0 : Dev nD) : Nat :=
  let c0_i32_916 : BitVec 32 := 0#32
  let c4_i32_908 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v966 : BitVec 32 := Scalar.muli c4_i32_908 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_899 : BitVec 32 := 3#32
  let v953 : BitVec 32 := Scalar.addi v29 c3_i32_899
  let c4_i32_900 : BitVec 32 := 4#32
  let c0_i32_901 : BitVec 32 := 0#32
  let v954 : BitVec 1 := Scalar.cmpi .eq c4_i32_900 c0_i32_901
  let c1_i32_902 : BitVec 32 := 1#32
  let v955 : BitVec 32 := Scalar.select v954 c1_i32_902 c4_i32_900
  let v956 : BitVec 32 := Scalar.remsi v953 v955
  let c0_i32_904 : BitVec 32 := 0#32
  let v958 : BitVec 1 := Scalar.cmpi .slt v956 c0_i32_904
  let c0_i32_905 : BitVec 32 := 0#32
  let v959 : BitVec 1 := Scalar.cmpi .slt v955 c0_i32_905
  let v960 : BitVec 1 := Scalar.xori v958 v959
  let c0_i32_903 : BitVec 32 := 0#32
  let v957 : BitVec 1 := Scalar.cmpi .ne v956 c0_i32_903
  let v961 : BitVec 1 := Scalar.andi v960 v957
  let v962 : BitVec 32 := Scalar.addi v956 v955
  let v963 : BitVec 32 := Scalar.select v961 v962 v956
  let v967 : BitVec 32 := Scalar.addi v966 v963
  let c1_i32_915 : BitVec 32 := 1#32
  let v968 : BitVec 32 := Scalar.muli v967 c1_i32_915
  let v969 : BitVec 32 := Scalar.addi c0_i32_916 v968
  v969.toNat
def k0_off15 (d0 : Dev nD) (c1_i32_967 : BitVec 32) : Fin 3 → Nat :=
  let c2_i32_976 : BitVec 32 := 2#32
  let c64_i32_974 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1014 : BitVec 32 := Scalar.addi v29 c1_i32_967
  let c4_i32_968 : BitVec 32 := 4#32
  let c0_i32_969 : BitVec 32 := 0#32
  let v1015 : BitVec 1 := Scalar.cmpi .eq c4_i32_968 c0_i32_969
  let c1_i32_970 : BitVec 32 := 1#32
  let v1016 : BitVec 32 := Scalar.select v1015 c1_i32_970 c4_i32_968
  let v1017 : BitVec 32 := Scalar.remsi v1014 v1016
  let c0_i32_972 : BitVec 32 := 0#32
  let v1019 : BitVec 1 := Scalar.cmpi .slt v1017 c0_i32_972
  let c0_i32_973 : BitVec 32 := 0#32
  let v1020 : BitVec 1 := Scalar.cmpi .slt v1016 c0_i32_973
  let v1021 : BitVec 1 := Scalar.xori v1019 v1020
  let c0_i32_971 : BitVec 32 := 0#32
  let v1018 : BitVec 1 := Scalar.cmpi .ne v1017 c0_i32_971
  let v1022 : BitVec 1 := Scalar.andi v1021 v1018
  let v1023 : BitVec 32 := Scalar.addi v1017 v1016
  let v1024 : BitVec 32 := Scalar.select v1022 v1023 v1017
  let v1025 : BitVec 32 := Scalar.muli c64_i32_974 v1024
  let c0_i32_987 : BitVec 32 := 0#32
  ![2, v1025.toNat, 0]
def k0_dev31 (d0 : Dev nD) : Nat :=
  let c0_i32_984 : BitVec 32 := 0#32
  let c4_i32_975 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1026 : BitVec 32 := Scalar.muli c4_i32_975 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_967 : BitVec 32 := 1#32
  let v1014 : BitVec 32 := Scalar.addi v29 c1_i32_967
  let c4_i32_968 : BitVec 32 := 4#32
  let c0_i32_969 : BitVec 32 := 0#32
  let v1015 : BitVec 1 := Scalar.cmpi .eq c4_i32_968 c0_i32_969
  let c1_i32_970 : BitVec 32 := 1#32
  let v1016 : BitVec 32 := Scalar.select v1015 c1_i32_970 c4_i32_968
  let v1017 : BitVec 32 := Scalar.remsi v1014 v1016
  let c0_i32_972 : BitVec 32 := 0#32
  let v1019 : BitVec 1 := Scalar.cmpi .slt v1017 c0_i32_972
  let c0_i32_973 : BitVec 32 := 0#32
  let v1020 : BitVec 1 := Scalar.cmpi .slt v1016 c0_i32_973
  let v1021 : BitVec 1 := Scalar.xori v1019 v1020
  let c0_i32_971 : BitVec 32 := 0#32
  let v1018 : BitVec 1 := Scalar.cmpi .ne v1017 c0_i32_971
  let v1022 : BitVec 1 := Scalar.andi v1021 v1018
  let v1023 : BitVec 32 := Scalar.addi v1017 v1016
  let v1024 : BitVec 32 := Scalar.select v1022 v1023 v1017
  let v1027 : BitVec 32 := Scalar.addi v1026 v1024
  let c1_i32_983 : BitVec 32 := 1#32
  let v1028 : BitVec 32 := Scalar.muli v1027 c1_i32_983
  let v1029 : BitVec 32 := Scalar.addi c0_i32_984 v1028
  v1029.toNat
def k0_dev32 (d0 : Dev nD) : Nat :=
  let c0_i32_1005 : BitVec 32 := 0#32
  let c4_i32_996 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1050 : BitVec 32 := Scalar.muli c4_i32_996 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_988 : BitVec 32 := 2#32
  let v1038 : BitVec 32 := Scalar.addi v29 c2_i32_988
  let c4_i32_989 : BitVec 32 := 4#32
  let c0_i32_990 : BitVec 32 := 0#32
  let v1039 : BitVec 1 := Scalar.cmpi .eq c4_i32_989 c0_i32_990
  let c1_i32_991 : BitVec 32 := 1#32
  let v1040 : BitVec 32 := Scalar.select v1039 c1_i32_991 c4_i32_989
  let v1041 : BitVec 32 := Scalar.remsi v1038 v1040
  let c0_i32_993 : BitVec 32 := 0#32
  let v1043 : BitVec 1 := Scalar.cmpi .slt v1041 c0_i32_993
  let c0_i32_994 : BitVec 32 := 0#32
  let v1044 : BitVec 1 := Scalar.cmpi .slt v1040 c0_i32_994
  let v1045 : BitVec 1 := Scalar.xori v1043 v1044
  let c0_i32_992 : BitVec 32 := 0#32
  let v1042 : BitVec 1 := Scalar.cmpi .ne v1041 c0_i32_992
  let v1046 : BitVec 1 := Scalar.andi v1045 v1042
  let v1047 : BitVec 32 := Scalar.addi v1041 v1040
  let v1048 : BitVec 32 := Scalar.select v1046 v1047 v1041
  let v1051 : BitVec 32 := Scalar.addi v1050 v1048
  let c1_i32_1004 : BitVec 32 := 1#32
  let v1052 : BitVec 32 := Scalar.muli v1051 c1_i32_1004
  let v1053 : BitVec 32 := Scalar.addi c0_i32_1005 v1052
  v1053.toNat
def k0_dev33 (d0 : Dev nD) : Nat :=
  let c0_i32_1026 : BitVec 32 := 0#32
  let c4_i32_1017 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1074 : BitVec 32 := Scalar.muli c4_i32_1017 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_1009 : BitVec 32 := 3#32
  let v1062 : BitVec 32 := Scalar.addi v29 c3_i32_1009
  let c4_i32_1010 : BitVec 32 := 4#32
  let c0_i32_1011 : BitVec 32 := 0#32
  let v1063 : BitVec 1 := Scalar.cmpi .eq c4_i32_1010 c0_i32_1011
  let c1_i32_1012 : BitVec 32 := 1#32
  let v1064 : BitVec 32 := Scalar.select v1063 c1_i32_1012 c4_i32_1010
  let v1065 : BitVec 32 := Scalar.remsi v1062 v1064
  let c0_i32_1014 : BitVec 32 := 0#32
  let v1067 : BitVec 1 := Scalar.cmpi .slt v1065 c0_i32_1014
  let c0_i32_1015 : BitVec 32 := 0#32
  let v1068 : BitVec 1 := Scalar.cmpi .slt v1064 c0_i32_1015
  let v1069 : BitVec 1 := Scalar.xori v1067 v1068
  let c0_i32_1013 : BitVec 32 := 0#32
  let v1066 : BitVec 1 := Scalar.cmpi .ne v1065 c0_i32_1013
  let v1070 : BitVec 1 := Scalar.andi v1069 v1066
  let v1071 : BitVec 32 := Scalar.addi v1065 v1064
  let v1072 : BitVec 32 := Scalar.select v1070 v1071 v1065
  let v1075 : BitVec 32 := Scalar.addi v1074 v1072
  let c1_i32_1025 : BitVec 32 := 1#32
  let v1076 : BitVec 32 := Scalar.muli v1075 c1_i32_1025
  let v1077 : BitVec 32 := Scalar.addi c0_i32_1026 v1076
  v1077.toNat
def k0_off16 (d0 : Dev nD) : Fin 3 → Nat :=
  let c2_1031 : Index := 2#32
  let c64_i32_1030 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1086 : BitVec 32 := Scalar.muli c64_i32_1030 v29
  let v1087 : Index := Scalar.indexCast v1086
  let c0_1032 : Index := 0#32
  ![2, v1087.toNat, 0]
def k0_off17 (d0 : Dev nD) (c1_i32_1090 : BitVec 32) : Fin 3 → Nat :=
  let c2_i32_1099 : BitVec 32 := 2#32
  let c16_i32_1097 : BitVec 32 := 16#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1131 : BitVec 32 := Scalar.addi v19 c1_i32_1090
  let c4_i32_1091 : BitVec 32 := 4#32
  let c0_i32_1092 : BitVec 32 := 0#32
  let v1132 : BitVec 1 := Scalar.cmpi .eq c4_i32_1091 c0_i32_1092
  let c1_i32_1093 : BitVec 32 := 1#32
  let v1133 : BitVec 32 := Scalar.select v1132 c1_i32_1093 c4_i32_1091
  let v1134 : BitVec 32 := Scalar.remsi v1131 v1133
  let c0_i32_1095 : BitVec 32 := 0#32
  let v1136 : BitVec 1 := Scalar.cmpi .slt v1134 c0_i32_1095
  let c0_i32_1096 : BitVec 32 := 0#32
  let v1137 : BitVec 1 := Scalar.cmpi .slt v1133 c0_i32_1096
  let v1138 : BitVec 1 := Scalar.xori v1136 v1137
  let c0_i32_1094 : BitVec 32 := 0#32
  let v1135 : BitVec 1 := Scalar.cmpi .ne v1134 c0_i32_1094
  let v1139 : BitVec 1 := Scalar.andi v1138 v1135
  let v1140 : BitVec 32 := Scalar.addi v1134 v1133
  let v1141 : BitVec 32 := Scalar.select v1139 v1140 v1134
  let v1142 : BitVec 32 := Scalar.muli c16_i32_1097 v1141
  let c0_i32_1110 : BitVec 32 := 0#32
  ![2, v1142.toNat, 0]
def k0_dev34 (d0 : Dev nD) : Nat :=
  let c0_i32_1107 : BitVec 32 := 0#32
  let c4_i32_1098 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_1090 : BitVec 32 := 1#32
  let v1131 : BitVec 32 := Scalar.addi v19 c1_i32_1090
  let c4_i32_1091 : BitVec 32 := 4#32
  let c0_i32_1092 : BitVec 32 := 0#32
  let v1132 : BitVec 1 := Scalar.cmpi .eq c4_i32_1091 c0_i32_1092
  let c1_i32_1093 : BitVec 32 := 1#32
  let v1133 : BitVec 32 := Scalar.select v1132 c1_i32_1093 c4_i32_1091
  let v1134 : BitVec 32 := Scalar.remsi v1131 v1133
  let c0_i32_1095 : BitVec 32 := 0#32
  let v1136 : BitVec 1 := Scalar.cmpi .slt v1134 c0_i32_1095
  let c0_i32_1096 : BitVec 32 := 0#32
  let v1137 : BitVec 1 := Scalar.cmpi .slt v1133 c0_i32_1096
  let v1138 : BitVec 1 := Scalar.xori v1136 v1137
  let c0_i32_1094 : BitVec 32 := 0#32
  let v1135 : BitVec 1 := Scalar.cmpi .ne v1134 c0_i32_1094
  let v1139 : BitVec 1 := Scalar.andi v1138 v1135
  let v1140 : BitVec 32 := Scalar.addi v1134 v1133
  let v1141 : BitVec 32 := Scalar.select v1139 v1140 v1134
  let v1143 : BitVec 32 := Scalar.muli c4_i32_1098 v1141
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1144 : BitVec 32 := Scalar.addi v1143 v29
  let c1_i32_1106 : BitVec 32 := 1#32
  let v1145 : BitVec 32 := Scalar.muli v1144 c1_i32_1106
  let v1146 : BitVec 32 := Scalar.addi c0_i32_1107 v1145
  v1146.toNat
def k0_dev35 (d0 : Dev nD) : Nat :=
  let c0_i32_1128 : BitVec 32 := 0#32
  let c4_i32_1119 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_1111 : BitVec 32 := 2#32
  let v1155 : BitVec 32 := Scalar.addi v19 c2_i32_1111
  let c4_i32_1112 : BitVec 32 := 4#32
  let c0_i32_1113 : BitVec 32 := 0#32
  let v1156 : BitVec 1 := Scalar.cmpi .eq c4_i32_1112 c0_i32_1113
  let c1_i32_1114 : BitVec 32 := 1#32
  let v1157 : BitVec 32 := Scalar.select v1156 c1_i32_1114 c4_i32_1112
  let v1158 : BitVec 32 := Scalar.remsi v1155 v1157
  let c0_i32_1116 : BitVec 32 := 0#32
  let v1160 : BitVec 1 := Scalar.cmpi .slt v1158 c0_i32_1116
  let c0_i32_1117 : BitVec 32 := 0#32
  let v1161 : BitVec 1 := Scalar.cmpi .slt v1157 c0_i32_1117
  let v1162 : BitVec 1 := Scalar.xori v1160 v1161
  let c0_i32_1115 : BitVec 32 := 0#32
  let v1159 : BitVec 1 := Scalar.cmpi .ne v1158 c0_i32_1115
  let v1163 : BitVec 1 := Scalar.andi v1162 v1159
  let v1164 : BitVec 32 := Scalar.addi v1158 v1157
  let v1165 : BitVec 32 := Scalar.select v1163 v1164 v1158
  let v1167 : BitVec 32 := Scalar.muli c4_i32_1119 v1165
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1168 : BitVec 32 := Scalar.addi v1167 v29
  let c1_i32_1127 : BitVec 32 := 1#32
  let v1169 : BitVec 32 := Scalar.muli v1168 c1_i32_1127
  let v1170 : BitVec 32 := Scalar.addi c0_i32_1128 v1169
  v1170.toNat
def k0_dev36 (d0 : Dev nD) : Nat :=
  let c0_i32_1149 : BitVec 32 := 0#32
  let c4_i32_1140 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_1132 : BitVec 32 := 3#32
  let v1179 : BitVec 32 := Scalar.addi v19 c3_i32_1132
  let c4_i32_1133 : BitVec 32 := 4#32
  let c0_i32_1134 : BitVec 32 := 0#32
  let v1180 : BitVec 1 := Scalar.cmpi .eq c4_i32_1133 c0_i32_1134
  let c1_i32_1135 : BitVec 32 := 1#32
  let v1181 : BitVec 32 := Scalar.select v1180 c1_i32_1135 c4_i32_1133
  let v1182 : BitVec 32 := Scalar.remsi v1179 v1181
  let c0_i32_1137 : BitVec 32 := 0#32
  let v1184 : BitVec 1 := Scalar.cmpi .slt v1182 c0_i32_1137
  let c0_i32_1138 : BitVec 32 := 0#32
  let v1185 : BitVec 1 := Scalar.cmpi .slt v1181 c0_i32_1138
  let v1186 : BitVec 1 := Scalar.xori v1184 v1185
  let c0_i32_1136 : BitVec 32 := 0#32
  let v1183 : BitVec 1 := Scalar.cmpi .ne v1182 c0_i32_1136
  let v1187 : BitVec 1 := Scalar.andi v1186 v1183
  let v1188 : BitVec 32 := Scalar.addi v1182 v1181
  let v1189 : BitVec 32 := Scalar.select v1187 v1188 v1182
  let v1191 : BitVec 32 := Scalar.muli c4_i32_1140 v1189
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1192 : BitVec 32 := Scalar.addi v1191 v29
  let c1_i32_1148 : BitVec 32 := 1#32
  let v1193 : BitVec 32 := Scalar.muli v1192 c1_i32_1148
  let v1194 : BitVec 32 := Scalar.addi c0_i32_1149 v1193
  v1194.toNat
def k0_off18 (d0 : Dev nD) : Fin 3 → Nat :=
  let c2_1154 : Index := 2#32
  let c16_i32_1153 : BitVec 32 := 16#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1203 : BitVec 32 := Scalar.muli c16_i32_1153 v19
  let v1204 : Index := Scalar.indexCast v1203
  let c0_1155 : Index := 0#32
  ![2, v1204.toNat, 0]
def k0_off19 (d0 : Dev nD) : Fin 3 → Nat :=
  let c2_1211 : Index := 2#32
  let c64_i32 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c64_i32 v29
  let c16_i32_11 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.muli c16_i32_11 v19
  let v32 : BitVec 32 := Scalar.addi v30 v31
  let v1247 : Index := Scalar.indexCast v32
  let c0_1212 : Index := 0#32
  ![2, v1247.toNat, 0]
def k0_off20 (d0 : Dev nD) : Fin 3 → Nat :=
  let c2_i32_1222 : BitVec 32 := 2#32
  let c64_i32 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c64_i32 v29
  let c16_i32_11 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.muli c16_i32_11 v19
  let v32 : BitVec 32 := Scalar.addi v30 v31
  let c0_i32_1229 : BitVec 32 := 0#32
  ![2, v32.toNat, 0]
def k0_dev37 (d0 : Dev nD) : Nat :=
  let c0_i32_1228 : BitVec 32 := 0#32
  let c4_i32_1220 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_1213 : BitVec 32 := 1#32
  let v1251 : BitVec 32 := Scalar.addi v19 c1_i32_1213
  let c4_i32_1214 : BitVec 32 := 4#32
  let c0_i32_1215 : BitVec 32 := 0#32
  let v1252 : BitVec 1 := Scalar.cmpi .eq c4_i32_1214 c0_i32_1215
  let c1_i32_1216 : BitVec 32 := 1#32
  let v1253 : BitVec 32 := Scalar.select v1252 c1_i32_1216 c4_i32_1214
  let v1254 : BitVec 32 := Scalar.remsi v1251 v1253
  let c0_i32_1218 : BitVec 32 := 0#32
  let v1256 : BitVec 1 := Scalar.cmpi .slt v1254 c0_i32_1218
  let c0_i32_1219 : BitVec 32 := 0#32
  let v1257 : BitVec 1 := Scalar.cmpi .slt v1253 c0_i32_1219
  let v1258 : BitVec 1 := Scalar.xori v1256 v1257
  let c0_i32_1217 : BitVec 32 := 0#32
  let v1255 : BitVec 1 := Scalar.cmpi .ne v1254 c0_i32_1217
  let v1259 : BitVec 1 := Scalar.andi v1258 v1255
  let v1260 : BitVec 32 := Scalar.addi v1254 v1253
  let v1261 : BitVec 32 := Scalar.select v1259 v1260 v1254
  let v1262 : BitVec 32 := Scalar.muli c4_i32_1220 v1261
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1263 : BitVec 32 := Scalar.addi v1262 v29
  let c1_i32_1227 : BitVec 32 := 1#32
  let v1264 : BitVec 32 := Scalar.muli v1263 c1_i32_1227
  let v1265 : BitVec 32 := Scalar.addi c0_i32_1228 v1264
  v1265.toNat
def k0_dev38 (d0 : Dev nD) : Nat :=
  let c0_i32_1246 : BitVec 32 := 0#32
  let c4_i32_1238 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_1231 : BitVec 32 := 2#32
  let v1274 : BitVec 32 := Scalar.addi v19 c2_i32_1231
  let c4_i32_1232 : BitVec 32 := 4#32
  let c0_i32_1233 : BitVec 32 := 0#32
  let v1275 : BitVec 1 := Scalar.cmpi .eq c4_i32_1232 c0_i32_1233
  let c1_i32_1234 : BitVec 32 := 1#32
  let v1276 : BitVec 32 := Scalar.select v1275 c1_i32_1234 c4_i32_1232
  let v1277 : BitVec 32 := Scalar.remsi v1274 v1276
  let c0_i32_1236 : BitVec 32 := 0#32
  let v1279 : BitVec 1 := Scalar.cmpi .slt v1277 c0_i32_1236
  let c0_i32_1237 : BitVec 32 := 0#32
  let v1280 : BitVec 1 := Scalar.cmpi .slt v1276 c0_i32_1237
  let v1281 : BitVec 1 := Scalar.xori v1279 v1280
  let c0_i32_1235 : BitVec 32 := 0#32
  let v1278 : BitVec 1 := Scalar.cmpi .ne v1277 c0_i32_1235
  let v1282 : BitVec 1 := Scalar.andi v1281 v1278
  let v1283 : BitVec 32 := Scalar.addi v1277 v1276
  let v1284 : BitVec 32 := Scalar.select v1282 v1283 v1277
  let v1285 : BitVec 32 := Scalar.muli c4_i32_1238 v1284
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1286 : BitVec 32 := Scalar.addi v1285 v29
  let c1_i32_1245 : BitVec 32 := 1#32
  let v1287 : BitVec 32 := Scalar.muli v1286 c1_i32_1245
  let v1288 : BitVec 32 := Scalar.addi c0_i32_1246 v1287
  v1288.toNat
def k0_dev39 (d0 : Dev nD) : Nat :=
  let c0_i32_1264 : BitVec 32 := 0#32
  let c4_i32_1256 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_1249 : BitVec 32 := 3#32
  let v1297 : BitVec 32 := Scalar.addi v19 c3_i32_1249
  let c4_i32_1250 : BitVec 32 := 4#32
  let c0_i32_1251 : BitVec 32 := 0#32
  let v1298 : BitVec 1 := Scalar.cmpi .eq c4_i32_1250 c0_i32_1251
  let c1_i32_1252 : BitVec 32 := 1#32
  let v1299 : BitVec 32 := Scalar.select v1298 c1_i32_1252 c4_i32_1250
  let v1300 : BitVec 32 := Scalar.remsi v1297 v1299
  let c0_i32_1254 : BitVec 32 := 0#32
  let v1302 : BitVec 1 := Scalar.cmpi .slt v1300 c0_i32_1254
  let c0_i32_1255 : BitVec 32 := 0#32
  let v1303 : BitVec 1 := Scalar.cmpi .slt v1299 c0_i32_1255
  let v1304 : BitVec 1 := Scalar.xori v1302 v1303
  let c0_i32_1253 : BitVec 32 := 0#32
  let v1301 : BitVec 1 := Scalar.cmpi .ne v1300 c0_i32_1253
  let v1305 : BitVec 1 := Scalar.andi v1304 v1301
  let v1306 : BitVec 32 := Scalar.addi v1300 v1299
  let v1307 : BitVec 32 := Scalar.select v1305 v1306 v1300
  let v1308 : BitVec 32 := Scalar.muli c4_i32_1256 v1307
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1309 : BitVec 32 := Scalar.addi v1308 v29
  let c1_i32_1263 : BitVec 32 := 1#32
  let v1310 : BitVec 32 := Scalar.muli v1309 c1_i32_1263
  let v1311 : BitVec 32 := Scalar.addi c0_i32_1264 v1310
  v1311.toNat
def k0_off21 (d0 : Dev nD) : Fin 3 → Nat :=
  let c2_i32_1314 : BitVec 32 := 2#32
  let c64_i32_1311 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1356 : BitVec 32 := Scalar.muli c64_i32_1311 v29
  let c0_i32_1321 : BitVec 32 := 0#32
  ![2, v1356.toNat, 0]
def k0_dev40 (d0 : Dev nD) : Nat :=
  let c0_i32_1320 : BitVec 32 := 0#32
  let c4_i32_1312 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1357 : BitVec 32 := Scalar.muli c4_i32_1312 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_1303 : BitVec 32 := 1#32
  let v1344 : BitVec 32 := Scalar.addi v29 c1_i32_1303
  let c4_i32_1304 : BitVec 32 := 4#32
  let c0_i32_1305 : BitVec 32 := 0#32
  let v1345 : BitVec 1 := Scalar.cmpi .eq c4_i32_1304 c0_i32_1305
  let c1_i32_1306 : BitVec 32 := 1#32
  let v1346 : BitVec 32 := Scalar.select v1345 c1_i32_1306 c4_i32_1304
  let v1347 : BitVec 32 := Scalar.remsi v1344 v1346
  let c0_i32_1308 : BitVec 32 := 0#32
  let v1349 : BitVec 1 := Scalar.cmpi .slt v1347 c0_i32_1308
  let c0_i32_1309 : BitVec 32 := 0#32
  let v1350 : BitVec 1 := Scalar.cmpi .slt v1346 c0_i32_1309
  let v1351 : BitVec 1 := Scalar.xori v1349 v1350
  let c0_i32_1307 : BitVec 32 := 0#32
  let v1348 : BitVec 1 := Scalar.cmpi .ne v1347 c0_i32_1307
  let v1352 : BitVec 1 := Scalar.andi v1351 v1348
  let v1353 : BitVec 32 := Scalar.addi v1347 v1346
  let v1354 : BitVec 32 := Scalar.select v1352 v1353 v1347
  let v1358 : BitVec 32 := Scalar.addi v1357 v1354
  let c1_i32_1319 : BitVec 32 := 1#32
  let v1359 : BitVec 32 := Scalar.muli v1358 c1_i32_1319
  let v1360 : BitVec 32 := Scalar.addi c0_i32_1320 v1359
  v1360.toNat
def k0_dev41 (d0 : Dev nD) : Nat :=
  let c0_i32_1340 : BitVec 32 := 0#32
  let c4_i32_1332 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1382 : BitVec 32 := Scalar.muli c4_i32_1332 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_1323 : BitVec 32 := 2#32
  let v1369 : BitVec 32 := Scalar.addi v29 c2_i32_1323
  let c4_i32_1324 : BitVec 32 := 4#32
  let c0_i32_1325 : BitVec 32 := 0#32
  let v1370 : BitVec 1 := Scalar.cmpi .eq c4_i32_1324 c0_i32_1325
  let c1_i32_1326 : BitVec 32 := 1#32
  let v1371 : BitVec 32 := Scalar.select v1370 c1_i32_1326 c4_i32_1324
  let v1372 : BitVec 32 := Scalar.remsi v1369 v1371
  let c0_i32_1328 : BitVec 32 := 0#32
  let v1374 : BitVec 1 := Scalar.cmpi .slt v1372 c0_i32_1328
  let c0_i32_1329 : BitVec 32 := 0#32
  let v1375 : BitVec 1 := Scalar.cmpi .slt v1371 c0_i32_1329
  let v1376 : BitVec 1 := Scalar.xori v1374 v1375
  let c0_i32_1327 : BitVec 32 := 0#32
  let v1373 : BitVec 1 := Scalar.cmpi .ne v1372 c0_i32_1327
  let v1377 : BitVec 1 := Scalar.andi v1376 v1373
  let v1378 : BitVec 32 := Scalar.addi v1372 v1371
  let v1379 : BitVec 32 := Scalar.select v1377 v1378 v1372
  let v1383 : BitVec 32 := Scalar.addi v1382 v1379
  let c1_i32_1339 : BitVec 32 := 1#32
  let v1384 : BitVec 32 := Scalar.muli v1383 c1_i32_1339
  let v1385 : BitVec 32 := Scalar.addi c0_i32_1340 v1384
  v1385.toNat
def k0_dev42 (d0 : Dev nD) : Nat :=
  let c0_i32_1360 : BitVec 32 := 0#32
  let c4_i32_1352 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1407 : BitVec 32 := Scalar.muli c4_i32_1352 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_1343 : BitVec 32 := 3#32
  let v1394 : BitVec 32 := Scalar.addi v29 c3_i32_1343
  let c4_i32_1344 : BitVec 32 := 4#32
  let c0_i32_1345 : BitVec 32 := 0#32
  let v1395 : BitVec 1 := Scalar.cmpi .eq c4_i32_1344 c0_i32_1345
  let c1_i32_1346 : BitVec 32 := 1#32
  let v1396 : BitVec 32 := Scalar.select v1395 c1_i32_1346 c4_i32_1344
  let v1397 : BitVec 32 := Scalar.remsi v1394 v1396
  let c0_i32_1348 : BitVec 32 := 0#32
  let v1399 : BitVec 1 := Scalar.cmpi .slt v1397 c0_i32_1348
  let c0_i32_1349 : BitVec 32 := 0#32
  let v1400 : BitVec 1 := Scalar.cmpi .slt v1396 c0_i32_1349
  let v1401 : BitVec 1 := Scalar.xori v1399 v1400
  let c0_i32_1347 : BitVec 32 := 0#32
  let v1398 : BitVec 1 := Scalar.cmpi .ne v1397 c0_i32_1347
  let v1402 : BitVec 1 := Scalar.andi v1401 v1398
  let v1403 : BitVec 32 := Scalar.addi v1397 v1396
  let v1404 : BitVec 32 := Scalar.select v1402 v1403 v1397
  let v1408 : BitVec 32 := Scalar.addi v1407 v1404
  let c1_i32_1359 : BitVec 32 := 1#32
  let v1409 : BitVec 32 := Scalar.muli v1408 c1_i32_1359
  let v1410 : BitVec 32 := Scalar.addi c0_i32_1360 v1409
  v1410.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S256x4096 : Shape := ⟨2, ![256, 4096]⟩
abbrev S4096x512 : Shape := ⟨2, ![4096, 512]⟩
abbrev S512x4096 : Shape := ⟨2, ![512, 4096]⟩
abbrev S256x512 : Shape := ⟨2, ![256, 512]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S512x4096, .f32⟩
  | .hbm, ⟨5, _⟩ => ⟨S512x4096, .f32⟩
  | .hbm, ⟨6, _⟩ => ⟨S512x4096, .f32⟩
  | .hbm, ⟨7, _⟩ => ⟨S256x512, .f32⟩
  | .hbm, ⟨8, _⟩ => ⟨S_, .f32⟩
  | .hbm, ⟨9, _⟩ => ⟨S256x512, .f32⟩
  | .hbm, ⟨10, _⟩ => ⟨S256x512, .f32⟩
  | .hbm, ⟨11, _⟩ => ⟨S256x4096, .f32⟩
  | .hbm, ⟨12, _⟩ => ⟨S256x512, .f32⟩
  | .hbm, ⟨13, _⟩ => ⟨S_, .f32⟩
  | .hbm, ⟨14, _⟩ => ⟨S256x512, .f32⟩
  | .hbm, ⟨15, _⟩ => ⟨S256x512, .f32⟩
  | .hbm, ⟨16, _⟩ => ⟨S256x4096, .f32⟩
  | .hbm, ⟨17, _⟩ => ⟨S256x512, .f32⟩
  | .hbm, ⟨18, _⟩ => ⟨S_, .f32⟩
  | .hbm, ⟨19, _⟩ => ⟨S256x512, .f32⟩
  | .hbm, ⟨20, _⟩ => ⟨S256x512, .f32⟩
  | .hbm, ⟨21, _⟩ => ⟨S256x4096, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Mesh.lean ====
/- The copies of the kernel as a table: 36 remote copies a device makes, in the order it starts them; where
   each goes, which semaphores it counts on, and the closed forms of the device and offset words. -/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.MlpProof

open Cert.KernelIdeal Cert.KernelIdeal.Gen
open Idealize.ShloMosaic
open Idealize.ShloMosaic.TcCoe

/-! ## The table of copies -/

/-- A copy: `12 * layer + 3 * phase + (k - 1)`, in the order the device starts them. -/
abbrev Ed : Type := Fin 36

/-- Phase 0 sends row blocks along a row of the mesh, 1 pieces of them along a column, 2 summed pieces along a column, 3 summed
    blocks along a row. -/
def ph (i : Ed) : ℕ := i.val / 3 % 4
def lay (i : Ed) : Fin 3 := ⟨i.val / 12, by have := i.isLt; omega⟩
/-- How many devices ahead the copy goes. -/
def kk (i : Ed) : ℕ := i.val % 3 + 1
/-- The slot it lands in. -/
def sl (i : Ed) : Fin 4 := ⟨3 - i.val % 3, by omega⟩

def mkDev (z r : ℕ) : Dev nD := ⟨4 * (z % 4) + r % 4, by show _ < 16; omega⟩
/-- Row and column of a device of the 4 × 4 mesh. -/
def zz (c : Dev nD) : ℕ := c.val / 4
def rr (c : Dev nD) : ℕ := c.val % 4
theorem zz_lt (c : Dev nD) : zz c < 4 := by have : c.val < 16 := c.isLt; unfold zz; omega
theorem rr_lt (c : Dev nD) : rr c < 4 := by unfold rr; omega

/-- The device `k` ahead of `c` in its row, and in its column. -/
def rowD (c : Dev nD) (k : ℕ) : Dev nD := mkDev (zz c) (rr c + k)
def colD (c : Dev nD) (k : ℕ) : Dev nD := mkDev (zz c + k) (rr c)

def isRow (i : Ed) : Bool := ph i == 0 || ph i == 3

def dst (c : Dev nD) (i : Ed) : Dev nD := if isRow i then rowD c (kk i) else colD c (kk i)
/-- Whose copy number `i` lands on `c`. -/
def src (c : Dev nD) (i : Ed) : Dev nD := if isRow i then rowD c (4 - kk i) else colD c (4 - kk i)

theorem src_dst (c : Dev nD) (i : Ed) : src (dst c i) i = c := by revert c i; decide +kernel
theorem dst_src (c : Dev nD) (i : Ed) : dst (src c i) i = c := by revert c i; decide +kernel

theorem zz_rowD (c : Dev nD) (k : ℕ) : zz (rowD c k) = zz c := by
  have := zz_lt c; unfold rowD mkDev zz at *; show (4 * _ + _) / 4 = _; omega
theorem rr_rowD (c : Dev nD) (k : ℕ) : rr (rowD c k) = (rr c + k) % 4 := by
  unfold rowD mkDev rr; show (4 * _ + _) % 4 = _; omega
theorem zz_colD (c : Dev nD) (k : ℕ) : zz (colD c k) = (zz c + k) % 4 := by
  have := rr_lt c; unfold colD mkDev zz at *; show (4 * _ + _) / 4 = _; omega
theorem rr_colD (c : Dev nD) (k : ℕ) : rr (colD c k) = rr c := by
  have := rr_lt c; unfold colD mkDev rr at *; show (4 * _ + _) % 4 = _; omega
theorem dev_ext {a b : Dev nD} (hz : zz a = zz b) (hr : rr a = rr b) : a = b := by
  unfold zz at hz; unfold rr at hr; exact Fin.ext (by omega)
theorem rowD_rowD (c : Dev nD) (j k : ℕ) (h : (k + j) % 4 = 0) : rowD (rowD c k) j = c :=
  dev_ext (by rw [zz_rowD, zz_rowD]) (by rw [rr_rowD, rr_rowD]; have := rr_lt c; omega)
theorem colD_colD (c : Dev nD) (j k : ℕ) (h : (k + j) % 4 = 0) : colD (colD c k) j = c :=
  dev_ext (by rw [zz_colD, zz_colD]; have := zz_lt c; omega) (by rw [rr_colD, rr_colD])

/-- The semaphore of the sender, and of the receiver. -/
def sendSem (i : Ed) : DmaSem sig := ⟨8 + 24 * ph i + 4 * (i.val / 12) + (3 - i.val % 3), by show _ < 104; have := i.isLt; unfold ph; omega⟩
def recvSem (i : Ed) : DmaSem sig := ⟨20 + 24 * ph i + 4 * (i.val / 12) + (3 - i.val % 3), by show _ < 104; have := i.isLt; unfold ph; omega⟩

/-- The copy a semaphore counts, and whether it is the receiver's. -/
def edgeOf (q : DmaSem sig) : Ed := ⟨(12 * ((q.val - 8) % 12 / 4) + 3 * ((q.val - 8) / 24) + (3 - (q.val - 8) % 4)) % 36, Nat.mod_lt _ (by decide)⟩
def isRecv (q : DmaSem sig) : Bool := (q.val - 8) / 12 % 2 == 1
/-- The semaphores the copies use (slot 0 of each array is not used). -/
def isLive (q : DmaSem sig) : Bool := decide (8 ≤ q.val) && (q.val % 4 != 0)

theorem edgeOf_send (i : Ed) : edgeOf (sendSem i) = i := by revert i; decide
theorem edgeOf_recv (i : Ed) : edgeOf (recvSem i) = i := by revert i; decide
theorem isRecv_send (i : Ed) : isRecv (sendSem i) = false := by revert i; decide
theorem isRecv_recv (i : Ed) : isRecv (recvSem i) = true := by revert i; decide
theorem isLive_send (i : Ed) : isLive (sendSem i) = true := by revert i; decide
theorem isLive_recv (i : Ed) : isLive (recvSem i) = true := by revert i; decide

/-- The order in which a device waits for the copies it receives: slots 1, 2, 3 of each phase. -/
def rv (j : Ed) : Ed := ⟨3 * (j.val / 3) + (2 - j.val % 3), by have := j.isLt; omega⟩
theorem rv_rv (j : Ed) : rv (rv j) = j := by revert j; decide

/-! ## The six devices of the handshake -/

abbrev Du : Type := Fin 6
/-- The device `c` signals with its `s`-th signal. -/
def tgt (c : Dev nD) (s : Du) : Dev nD := if s.val % 2 = 0 then rowD c (s.val / 2 + 1) else colD c (s.val / 2 + 1)
/-- Which signal opens the landing place of copy `i`. -/
def dutyOf (i : Ed) : Du := ⟨2 * (3 - kk i) + (if isRow i then 0 else 1), by unfold kk; split <;> omega⟩
theorem dst_tgt (c : Dev nD) (s : Du) (i : Ed) (h : dutyOf i = s) : dst (tgt c s) i = c := by subst h; revert c i; decide +kernel
/-- The device whose `s`-th signal reaches `c`. -/
def tgtInv (c : Dev nD) (s : Du) : Dev nD := if s.val % 2 = 0 then rowD c (4 - (s.val / 2 + 1)) else colD c (4 - (s.val / 2 + 1))
theorem tgt_tgtInv (c : Dev nD) (s : Du) : tgt (tgtInv c s) s = c := by revert c s; decide +kernel
theorem tgtInv_tgt (c : Dev nD) (s : Du) : tgtInv (tgt c s) s = c := by revert c s; decide +kernel

/-! ## Cells -/

abbrev readyS : SemLoc sig := .reg (cc0_scratch13.sem)
abbrev readyCell (c : Dev nD) : GSem nD τ sig := ((c : Thread nD τ), readyS)
abbrev sendCell (c : Dev nD) (i : Ed) : GSem nD τ sig := ((c : Thread nD τ), .dma (sendSem i))
abbrev recvCell (c : Dev nD) (i : Ed) : GSem nD τ sig := ((c : Thread nD τ), .dma (recvSem i))

/-- The kernel's own semaphores: the handshake's, then the 96 of the copies. -/
abbrev osem (k : Fin 97) : SemLoc sig := if k.val = 0 then readyS else .dma ⟨k.val + 7, by have := k.isLt; show _ < 104; omega⟩
abbrev kcell (ck : Dev nD × Fin 97) : GSem nD τ sig := ((ck.1 : Thread nD τ), osem ck.2)

theorem osem_zero : osem 0 = readyS := rfl
theorem osem_send (i : Ed) : ∃ k : Fin 97, osem k = .dma (sendSem i) := by revert i; decide
theorem osem_recv (i : Ed) : ∃ k : Fin 97, osem k = .dma (recvSem i) := by revert i; decide

/-! ## Closed forms of the device words -/

theorem dev1_eq (c : Dev nD) : (⟨k0_dev1 c, k0_dev1_lt c⟩ : Dev nD) = tgt c 0 := by revert c; decide +kernel
theorem dev2_eq (c : Dev nD) : (⟨k0_dev2 c, k0_dev2_lt c⟩ : Dev nD) = tgt c 1 := by revert c; decide +kernel
theorem dev3_eq (c : Dev nD) : (⟨k0_dev3 c, k0_dev3_lt c⟩ : Dev nD) = tgt c 2 := by revert c; decide +kernel
theorem dev4_eq (c : Dev nD) : (⟨k0_dev4 c, k0_dev4_lt c⟩ : Dev nD) = tgt c 3 := by revert c; decide +kernel
theorem dev5_eq (c : Dev nD) : (⟨k0_dev5 c, k0_dev5_lt c⟩ : Dev nD) = tgt c 4 := by revert c; decide +kernel
theorem dev6_eq (c : Dev nD) : (⟨k0_dev6 c, k0_dev6_lt c⟩ : Dev nD) = tgt c 5 := by revert c; decide +kernel
theorem dev7_eq (c : Dev nD) : (⟨k0_dev7 c, k0_dev7_lt c⟩ : Dev nD) = dst c 0 := by revert c; decide +kernel
theorem dev8_eq (c : Dev nD) : (⟨k0_dev8 c, k0_dev8_lt c⟩ : Dev nD) = dst c 1 := by revert c; decide +kernel
theorem dev9_eq (c : Dev nD) : (⟨k0_dev9 c, k0_dev9_lt c⟩ : Dev nD) = dst c 2 := by revert c; decide +kernel
theorem dev10_eq (c : Dev nD) : (⟨k0_dev10 c, k0_dev10_lt c⟩ : Dev nD) = dst c 3 := by revert c; decide +kernel
theorem dev11_eq (c : Dev nD) : (⟨k0_dev11 c, k0_dev11_lt c⟩ : Dev nD) = dst c 4 := by revert c; decide +kernel
theorem dev12_eq (c : Dev nD) : (⟨k0_dev12 c, k0_dev12_lt c⟩ : Dev nD) = dst c 5 := by revert c; decide +kernel
theorem dev13_eq (c : Dev nD) : (⟨k0_dev13 c, k0_dev13_lt c⟩ : Dev nD) = dst c 6 := by revert c; decide +kernel
theorem dev14_eq (c : Dev nD) : (⟨k0_dev14 c, k0_dev14_lt c⟩ : Dev nD) = dst c 7 := by revert c; decide +kernel
theorem dev15_eq (c : Dev nD) : (⟨k0_dev15 c, k0_dev15_lt c⟩ : Dev nD) = dst c 8 := by revert c; decide +kernel
theorem dev16_eq (c : Dev nD) : (⟨k0_dev16 c, k0_dev16_lt c⟩ : Dev nD) = dst c 9 := by revert c; decide +kernel
theorem dev17_eq (c : Dev nD) : (⟨k0_dev17 c, k0_dev17_lt c⟩ : Dev nD) = dst c 10 := by revert c; decide +kernel
theorem dev18_eq (c : Dev nD) : (⟨k0_dev18 c, k0_dev18_lt c⟩ : Dev nD) = dst c 11 := by revert c; decide +kernel
theorem dev19_eq (c : Dev nD) : (⟨k0_dev19 c, k0_dev19_lt c⟩ : Dev nD) = dst c 12 := by revert c; decide +kernel
theorem dev20_eq (c : Dev nD) : (⟨k0_dev20 c, k0_dev20_lt c⟩ : Dev nD) = dst c 13 := by revert c; decide +kernel
theorem dev21_eq (c : Dev nD) : (⟨k0_dev21 c, k0_dev21_lt c⟩ : Dev nD) = dst c 14 := by revert c; decide +kernel
theorem dev22_eq (c : Dev nD) : (⟨k0_dev22 c, k0_dev22_lt c⟩ : Dev nD) = dst c 15 := by revert c; decide +kernel
theorem dev23_eq (c : Dev nD) : (⟨k0_dev23 c, k0_dev23_lt c⟩ : Dev nD) = dst c 16 := by revert c; decide +kernel
theorem dev24_eq (c : Dev nD) : (⟨k0_dev24 c, k0_dev24_lt c⟩ : Dev nD) = dst c 17 := by revert c; decide +kernel
theorem dev25_eq (c : Dev nD) : (⟨k0_dev25 c, k0_dev25_lt c⟩ : Dev nD) = dst c 18 := by revert c; decide +kernel
theorem dev26_eq (c : Dev nD) : (⟨k0_dev26 c, k0_dev26_lt c⟩ : Dev nD) = dst c 19 := by revert c; decide +kernel
theorem dev27_eq (c : Dev nD) : (⟨k0_dev27 c, k0_dev27_lt c⟩ : Dev nD) = dst c 20 := by revert c; decide +kernel
theorem dev28_eq (c : Dev nD) : (⟨k0_dev28 c, k0_dev28_lt c⟩ : Dev nD) = dst c 21 := by revert c; decide +kernel
theorem dev29_eq (c : Dev nD) : (⟨k0_dev29 c, k0_dev29_lt c⟩ : Dev nD) = dst c 22 := by revert c; decide +kernel
theorem dev30_eq (c : Dev nD) : (⟨k0_dev30 c, k0_dev30_lt c⟩ : Dev nD) = dst c 23 := by revert c; decide +kernel
theorem dev31_eq (c : Dev nD) : (⟨k0_dev31 c, k0_dev31_lt c⟩ : Dev nD) = dst c 24 := by revert c; decide +kernel
theorem dev32_eq (c : Dev nD) : (⟨k0_dev32 c, k0_dev32_lt c⟩ : Dev nD) = dst c 25 := by revert c; decide +kernel
theorem dev33_eq (c : Dev nD) : (⟨k0_dev33 c, k0_dev33_lt c⟩ : Dev nD) = dst c 26 := by revert c; decide +kernel
theorem dev34_eq (c : Dev nD) : (⟨k0_dev34 c, k0_dev34_lt c⟩ : Dev nD) = dst c 27 := by revert c; decide +kernel
theorem dev35_eq (c : Dev nD) : (⟨k0_dev35 c, k0_dev35_lt c⟩ : Dev nD) = dst c 28 := by revert c; decide +kernel
theorem dev36_eq (c : Dev nD) : (⟨k0_dev36 c, k0_dev36_lt c⟩ : Dev nD) = dst c 29 := by revert c; decide +kernel
theorem dev37_eq (c : Dev nD) : (⟨k0_dev37 c, k0_dev37_lt c⟩ : Dev nD) = dst c 30 := by revert c; decide +kernel
theorem dev38_eq (c : Dev nD) : (⟨k0_dev38 c, k0_dev38_lt c⟩ : Dev nD) = dst c 31 := by revert c; decide +kernel
theorem dev39_eq (c : Dev nD) : (⟨k0_dev39 c, k0_dev39_lt c⟩ : Dev nD) = dst c 32 := by revert c; decide +kernel
theorem dev40_eq (c : Dev nD) : (⟨k0_dev40 c, k0_dev40_lt c⟩ : Dev nD) = dst c 33 := by revert c; decide +kernel
theorem dev41_eq (c : Dev nD) : (⟨k0_dev41 c, k0_dev41_lt c⟩ : Dev nD) = dst c 34 := by revert c; decide +kernel
theorem dev42_eq (c : Dev nD) : (⟨k0_dev42 c, k0_dev42_lt c⟩ : Dev nD) = dst c 35 := by revert c; decide +kernel

/-! ## Closed forms of the offset words -/

theorem off1_1_eq (c : Dev nD) : k0_off1 c 1#32 = ![0, 64 * ((rr c + 1) % 4), 0] := by revert c; decide +kernel
theorem off1_2_eq (c : Dev nD) : k0_off1 c 2#32 = ![0, 64 * ((rr c + 2) % 4), 0] := by revert c; decide +kernel
theorem off1_3_eq (c : Dev nD) : k0_off1 c 3#32 = ![0, 64 * ((rr c + 3) % 4), 0] := by revert c; decide +kernel
theorem off2_eq (c : Dev nD) : k0_off2 c = ![0, 64 * rr c, 0] := by revert c; decide +kernel
theorem off3_1_eq (c : Dev nD) : k0_off3 c 1#32 = ![0, 16 * ((zz c + 1) % 4), 0] := by revert c; decide +kernel
theorem off3_2_eq (c : Dev nD) : k0_off3 c 2#32 = ![0, 16 * ((zz c + 2) % 4), 0] := by revert c; decide +kernel
theorem off3_3_eq (c : Dev nD) : k0_off3 c 3#32 = ![0, 16 * ((zz c + 3) % 4), 0] := by revert c; decide +kernel
theorem off4_eq (c : Dev nD) : k0_off4 c = ![0, 16 * zz c, 0] := by revert c; decide +kernel
theorem off5_eq (c : Dev nD) : k0_off5 c = ![0, 64 * rr c + 16 * zz c, 0] := by revert c; decide +kernel
theorem off6_eq (c : Dev nD) : k0_off6 c = ![0, 64 * rr c + 16 * zz c, 0] := by revert c; decide +kernel
theorem off7_eq (c : Dev nD) : k0_off7 c = ![0, 64 * rr c, 0] := by revert c; decide +kernel
theorem off8_1_eq (c : Dev nD) : k0_off8 c 1#32 = ![1, 64 * ((rr c + 1) % 4), 0] := by revert c; decide +kernel
theorem off8_2_eq (c : Dev nD) : k0_off8 c 2#32 = ![1, 64 * ((rr c + 2) % 4), 0] := by revert c; decide +kernel
theorem off8_3_eq (c : Dev nD) : k0_off8 c 3#32 = ![1, 64 * ((rr c + 3) % 4), 0] := by revert c; decide +kernel
theorem off9_eq (c : Dev nD) : k0_off9 c = ![1, 64 * rr c, 0] := by revert c; decide +kernel
theorem off10_1_eq (c : Dev nD) : k0_off10 c 1#32 = ![1, 16 * ((zz c + 1) % 4), 0] := by revert c; decide +kernel
theorem off10_2_eq (c : Dev nD) : k0_off10 c 2#32 = ![1, 16 * ((zz c + 2) % 4), 0] := by revert c; decide +kernel
theorem off10_3_eq (c : Dev nD) : k0_off10 c 3#32 = ![1, 16 * ((zz c + 3) % 4), 0] := by revert c; decide +kernel
theorem off11_eq (c : Dev nD) : k0_off11 c = ![1, 16 * zz c, 0] := by revert c; decide +kernel
theorem off12_eq (c : Dev nD) : k0_off12 c = ![1, 64 * rr c + 16 * zz c, 0] := by revert c; decide +kernel
theorem off13_eq (c : Dev nD) : k0_off13 c = ![1, 64 * rr c + 16 * zz c, 0] := by revert c; decide +kernel
theorem off14_eq (c : Dev nD) : k0_off14 c = ![1, 64 * rr c, 0] := by revert c; decide +kernel
theorem off15_1_eq (c : Dev nD) : k0_off15 c 1#32 = ![2, 64 * ((rr c + 1) % 4), 0] := by revert c; decide +kernel
theorem off15_2_eq (c : Dev nD) : k0_off15 c 2#32 = ![2, 64 * ((rr c + 2) % 4), 0] := by revert c; decide +kernel
theorem off15_3_eq (c : Dev nD) : k0_off15 c 3#32 = ![2, 64 * ((rr c + 3) % 4), 0] := by revert c; decide +kernel
theorem off16_eq (c : Dev nD) : k0_off16 c = ![2, 64 * rr c, 0] := by revert c; decide +kernel
theorem off17_1_eq (c : Dev nD) : k0_off17 c 1#32 = ![2, 16 * ((zz c + 1) % 4), 0] := by revert c; decide +kernel
theorem off17_2_eq (c : Dev nD) : k0_off17 c 2#32 = ![2, 16 * ((zz c + 2) % 4), 0] := by revert c; decide +kernel
theorem off17_3_eq (c : Dev nD) : k0_off17 c 3#32 = ![2, 16 * ((zz c + 3) % 4), 0] := by revert c; decide +kernel
theorem off18_eq (c : Dev nD) : k0_off18 c = ![2, 16 * zz c, 0] := by revert c; decide +kernel
theorem off19_eq (c : Dev nD) : k0_off19 c = ![2, 64 * rr c + 16 * zz c, 0] := by revert c; decide +kernel
theorem off20_eq (c : Dev nD) : k0_off20 c = ![2, 64 * rr c + 16 * zz c, 0] := by revert c; decide +kernel
theorem off21_eq (c : Dev nD) : k0_off21 c = ![2, 64 * rr c, 0] := by revert c; decide +kernel

end Cert.MlpProof

end
-- ==== Proof.Vals.lean ====
/- What every buffer of the kernel holds once it is written, over any float values: the partial products of the three
   layers, their sums over a mesh row, over the mesh, and the gathered activations. -/
module

public import proofs.«01_k».proof.Proof.Mesh
public import Idealize.ShloMosaic.Lib.ValueIdxCore
public import Idealize.ShloMosaic.Lib.ValueLayout

@[expose] public section

noncomputable section

namespace Cert.MlpProof

open Cert.KernelIdeal Cert.KernelIdeal.Gen
open Idealize.ShloMosaic
open Idealize.ShloMosaic.TcCoe
open Idealize.ShloMosaic.ValueIdx

variable {F : FTy → Type} [FloatOps F]

/-- The blocks the devices start from. -/
structure Inp (F : FTy → Type) where
  x : Dev nD → Vec F S256x256 .f32
  wi : Fin 3 → Dev nD → Vec F S256x512 .f32
  wo : Fin 3 → Dev nD → Vec F S512x256 .f32

/-- A partial product on each device. -/
abbrev Part (F : FTy → Type) : Type := Dev nD → Vec F S1x256x512 .bf16

/-- The device's own 64 rows of its partial product. -/
def ownA (A : Part F) (c : Dev nD) : Vec F S1x64x512 .bf16 :=
  fun y => A c (ix3 (0 : Fin 1) (⟨64 * rr c + (y 1).val, by have := rr_lt c; have : (y 1).val < 64 := (y 1).isLt; omega⟩ : Fin 256) (y 2))
/-- The same rows of the device `j` ahead in the row. -/
def slotA (A : Part F) (c : Dev nD) (j : ℕ) : Vec F S1x1x64x512 .bf16 :=
  fun y => A (rowD c j) (ix3 (0 : Fin 1) (⟨64 * rr c + (y 2).val, by have := rr_lt c; have : (y 2).val < 64 := (y 2).isLt; omega⟩ : Fin 256) (y 3))

/-- The sum over the mesh row, of the device's 64 rows. -/
def sumRow (A : Part F) (c : Dev nD) : Vec F S1x64x512 .bf16 :=
  k0_pay3 (k0_pay2 (ownA A c) (slotA A c 1)) (slotA A c 2) (slotA A c 3)

def ownS (S : Dev nD → Vec F S1x64x512 .bf16) (c : Dev nD) : Vec F S1x16x512 .bf16 :=
  fun y => S c (ix3 (0 : Fin 1) (⟨16 * zz c + (y 1).val, by have := zz_lt c; have : (y 1).val < 16 := (y 1).isLt; omega⟩ : Fin 64) (y 2))
def slotS (S : Dev nD → Vec F S1x64x512 .bf16) (c : Dev nD) (j : ℕ) : Vec F S1x1x16x512 .bf16 :=
  fun y => S (colD c j) (ix3 (0 : Fin 1) (⟨16 * zz c + (y 2).val, by have := zz_lt c; have : (y 2).val < 16 := (y 2).isLt; omega⟩ : Fin 64) (y 3))

/-- The sum over the mesh, of the device's 16 rows, with negative entries replaced by zero. -/
def sumAll (A : Part F) (c : Dev nD) : Vec F S1x16x512 .bf16 :=
  k0_pay6 (k0_pay5 (k0_pay4 (ownS (sumRow A) c) (slotS (sumRow A) c 1)) (slotS (sumRow A) c 2) (slotS (sumRow A) c 3))

/-- The 16-row pieces of all devices put together: rows `64 r + 16 z ..` come from the device in row `z`, column `r`. -/
def gath (A : Part F) : Vec F S1x256x512 .bf16 :=
  fun y => sumAll A (mkDev ((y 1).val % 64 / 16) ((y 1).val / 64)) (ix3 (0 : Fin 1) (⟨(y 1).val % 16, Nat.mod_lt _ (by decide)⟩ : Fin 16) (y 2))

/-- The partial product of layer `l`. -/
def pA (I : Inp F) : ℕ → Part F
  | 0 => fun c => k0_pay1 (I.x c) (I.wi 0 c)
  | 1 => fun c => k0_pay8 (k0_pay7 (gath (fun d => k0_pay1 (I.x d) (I.wi 0 d))) (I.wo 0 c) (I.wi 1 c))
  | _ => fun c => k0_pay8 (k0_pay7 (gath (fun e => k0_pay8 (k0_pay7 (gath (fun d => k0_pay1 (I.x d) (I.wi 0 d))) (I.wo 0 e) (I.wi 1 e)))) (I.wo 1 c) (I.wi 2 c))

theorem pA_zero (I : Inp F) (c : Dev nD) : pA I 0 c = k0_pay1 (I.x c) (I.wi 0 c) := rfl
theorem pA_one (I : Inp F) (c : Dev nD) : pA I 1 c = k0_pay8 (k0_pay7 (gath (pA I 0)) (I.wo 0 c) (I.wi 1 c)) := rfl
theorem pA_two (I : Inp F) (c : Dev nD) : pA I 2 c = k0_pay8 (k0_pay7 (gath (pA I 1)) (I.wo 1 c) (I.wi 2 c)) := rfl

/-- The device's result. -/
def outV (I : Inp F) (c : Dev nD) : Vec F S256x256 .f32 := k0_pay23 (gath (pA I 2)) (I.wo 2 c)

/-! The kernel's later layers compute the same functions. -/

theorem sumRow_1 (A : Part F) (c : Dev nD) : k0_pay11 (k0_pay10 (k0_pay9 (ownA A c)) (slotA A c 1) (slotA A c 2)) (slotA A c 3) = sumRow A c := rfl
theorem sumAll_1 (A : Part F) (c : Dev nD) :
    k0_pay14 (k0_pay13 (k0_pay12 (ownS (sumRow A) c)) (slotS (sumRow A) c 1) (slotS (sumRow A) c 2)) (slotS (sumRow A) c 3) = sumAll A c := rfl
theorem pA_two' (I : Inp F) (c : Dev nD) : k0_pay16 (k0_pay15 (gath (pA I 1))) (I.wo 1 c) (I.wi 2 c) = pA I 2 c := rfl

/-! ## Buffers -/

def gA (I : Inp F) (c : Dev nD) : S3x256x512.Idx → Elt F .bf16 := fun x => pA I (x 0).val c (ix3 (0 : Fin 1) (x 1) (x 2))
def gR1 (I : Inp F) (c : Dev nD) : S3x4x64x512.Idx → Elt F .bf16 :=
  fun x => slotA (pA I (x 0).val) c (x 1).val (ix4 (0 : Fin 1) (0 : Fin 1) (x 2) (x 3))
def gS (I : Inp F) (c : Dev nD) : S3x64x512.Idx → Elt F .bf16 := fun x => sumRow (pA I (x 0).val) c (ix3 (0 : Fin 1) (x 1) (x 2))
def gR2 (I : Inp F) (c : Dev nD) : S3x4x16x512.Idx → Elt F .bf16 :=
  fun x => slotS (sumRow (pA I (x 0).val)) c (x 1).val (ix4 (0 : Fin 1) (0 : Fin 1) (x 2) (x 3))
def gH (I : Inp F) : S3x256x512.Idx → Elt F .bf16 := fun x => gath (pA I (x 0).val) (ix3 (0 : Fin 1) (x 1) (x 2))

/-! ## Regions -/

/-- Rows `a` up to `b` of plane `l`. -/
def rows (n : ℕ) (l a b : ℕ) : Finset (⟨3, ![3, n, 512]⟩ : Shape).Idx :=
  Finset.univ.filter fun x => (x 0).val = l ∧ a ≤ (x 1).val ∧ (x 1).val < b
/-- Slot `j` of plane `l`. -/
def slot (n : ℕ) (l j : ℕ) : Finset (⟨4, ![3, 4, n, 512]⟩ : Shape).Idx :=
  Finset.univ.filter fun x => (x 0).val = l ∧ (x 1).val = j

theorem mem_rows {n l a b : ℕ} {x : (⟨3, ![3, n, 512]⟩ : Shape).Idx} : x ∈ rows n l a b ↔ (x 0).val = l ∧ a ≤ (x 1).val ∧ (x 1).val < b := by
  unfold rows; rw [Finset.mem_filter]; exact ⟨fun h => h.2, fun h => ⟨Finset.mem_univ _, h⟩⟩
theorem mem_slot {n l j : ℕ} {x : (⟨4, ![3, 4, n, 512]⟩ : Shape).Idx} : x ∈ slot n l j ↔ (x 0).val = l ∧ (x 1).val = j := by
  unfold slot; rw [Finset.mem_filter]; exact ⟨fun h => h.2, fun h => ⟨Finset.mem_univ _, h⟩⟩

/-- Rows cut in four runs of `w`, in any order. -/
theorem rows_cut (n l a w : ℕ) (σ : Fin 4 → ℕ) (hσ : ∀ q, q < 4 → ∃ k, σ k = q) (hlt : ∀ k, σ k < 4) :
    rows n l a (a + 4 * w) = Finset.univ.biUnion fun k : Fin 4 => rows n l (a + w * σ k) (a + w * σ k + w) := by
  ext x
  simp only [Finset.mem_biUnion, Finset.mem_univ, true_and, mem_rows]
  constructor
  · rintro ⟨h0, h1, h2⟩
    have hw : 0 < w := by rcases Nat.eq_zero_or_pos w with rfl | h; · omega
                          · exact h
    have hq : ((x 1).val - a) / w < 4 := by rw [Nat.div_lt_iff_lt_mul hw]; omega
    obtain ⟨k, hk⟩ := hσ _ hq
    refine ⟨k, h0, ?_, ?_⟩
    · rw [hk]; have := Nat.div_mul_le_self ((x 1).val - a) w; rw [Nat.mul_comm] at this; omega
    · rw [hk]; have := Nat.lt_div_mul_add hw (a := (x 1).val - a); rw [Nat.mul_comm] at this; omega
  · rintro ⟨k, h0, h1, h2⟩
    have := hlt k
    have : w * σ k + w ≤ 4 * w := by
      have : w * σ k + w = w * (σ k + 1) := (Nat.mul_succ _ _).symm
      rw [this, Nat.mul_comm 4]; exact Nat.mul_le_mul_left _ (by omega)
    refine ⟨h0, by omega, by omega⟩
theorem rows_disj (n l a w : ℕ) (σ : Fin 4 → ℕ) (hinj : Function.Injective σ) :
    ∀ k k' : Fin 4, k ≠ k' → Disjoint (rows n l (a + w * σ k) (a + w * σ k + w)) (rows n l (a + w * σ k') (a + w * σ k' + w)) := by
  intro k k' hk
  rw [Finset.disjoint_left]; intro x h1 h2
  rw [mem_rows] at h1 h2
  have : σ k ≠ σ k' := fun h => hk (hinj h)
  rcases Nat.lt_or_gt_of_ne this with h | h
  · have : w * σ k + w ≤ w * σ k' := by rw [← Nat.mul_succ]; exact Nat.mul_le_mul_left _ h
    omega
  · have : w * σ k' + w ≤ w * σ k := by rw [← Nat.mul_succ]; exact Nat.mul_le_mul_left _ h
    omega

/-- The order of the four runs, seen from position `p`: itself, then those `k` ahead. -/
def ahead (p : ℕ) (k : Fin 4) : ℕ := (p + k.val) % 4
/-- Itself, then those `k` behind. -/
def behind (p : ℕ) (k : Fin 4) : ℕ := (p + (4 - k.val)) % 4
theorem ahead_surj (p : ℕ) : ∀ q, q < 4 → ∃ k, ahead p k = q := by
  intro q hq; refine ⟨⟨(q + (4 - p % 4)) % 4, Nat.mod_lt _ (by decide)⟩, ?_⟩; unfold ahead; simp only; omega
theorem behind_surj (p : ℕ) : ∀ q, q < 4 → ∃ k, behind p k = q := by
  intro q hq; refine ⟨⟨(p + (4 - q)) % 4, Nat.mod_lt _ (by decide)⟩, ?_⟩; unfold behind; simp only; omega
theorem ahead_inj (p : ℕ) : Function.Injective (ahead p) := by
  intro a b h; unfold ahead at h; have := a.isLt; have := b.isLt; exact Fin.ext (by omega)
theorem behind_inj (p : ℕ) : Function.Injective (behind p) := by
  intro a b h; unfold behind at h; have := a.isLt; have := b.isLt; exact Fin.ext (by omega)
theorem ahead_lt (p : ℕ) (k) : ahead p k < 4 := Nat.mod_lt _ (by decide)
theorem behind_lt (p : ℕ) (k) : behind p k < 4 := Nat.mod_lt _ (by decide)

end Cert.MlpProof

end
-- ==== Proof.Sched.lean ====
/- The protocol of the kernel: what each semaphore is paid, by whom, and what each payment hands over.

   READY (one cell a device): the six devices this one writes to and is written by each signal it once, at entry. The
   signal of a device hands over that device's landing places of this device's copies. The device waits for all six.
   SEND (36 cells a device used): a copy pays its own when it has read its source; the payment returns the source.
   RECEIVE (36 cells a device used): a copy pays the target's when it has landed; the payment hands over the landing
   place with its contents. -/
module

public import proofs.«01_k».proof.Proof.Vals
public import Idealize.ShloMosaic.Lib.Pipeline.Launch
public import Idealize.ShloMosaic.Lib.Pipeline.Kit
public import Idealize.ShloMosaic.Lib.Tactic
public import Idealize.ShloMosaic.Lib.Transfers

@[expose] public section

noncomputable section

namespace Cert.MlpProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_range)
open Idealize.ShloMosaic.Pipeline (Dat Cfg Window BodyObligation cellOf)

variable {F : FTy → Type} [FloatOps F]

abbrev UU : Type := UR sig nD τ × URounds (GSem nD τ sig) Du

local notation "𝕄" => MT nD τ sig Unit (Elt F) ℕ UU ℕ

abbrev EP : Emb (UR sig nD τ) (MT nD τ sig Unit (Elt F) ℕ UU ℕ) := embL
abbrev ER : Emb (URounds (GSem nD τ sig) Du) (MT nD τ sig Unit (Elt F) ℕ UU ℕ) := embR

abbrev 𝒱₀ : Variants := Variants.none

/-! ## Sets of copies -/

def ge (n : ℕ) : Finset Ed := Finset.univ.filter fun i => n ≤ i.val
def lt (n : ℕ) : Finset Ed := Finset.univ.filter fun i => i.val < n

theorem ge_step (i : Ed) : ge i.val = insert i (ge (i.val + 1)) := by
  ext j; simp only [ge, Finset.mem_filter, Finset.mem_univ, true_and, Finset.mem_insert, Fin.ext_iff]; omega
theorem lt_step (i : Ed) : lt (i.val + 1) = insert i (lt i.val) := by
  ext j; simp only [lt, Finset.mem_filter, Finset.mem_univ, true_and, Finset.mem_insert, Fin.ext_iff]; omega
theorem not_mem_ge (i : Ed) : i ∉ ge (i.val + 1) := by simp [ge]
theorem not_mem_lt (i : Ed) : i ∉ lt i.val := by simp [lt]
theorem ge_zero : ge 0 = Finset.univ := by ext j; simp [ge]
theorem lt_zero : lt 0 = ∅ := by ext j; simp [lt]
theorem ge_all : ge 36 = ∅ := by ext j; simp [ge]
theorem lt_all : lt 36 = Finset.univ := by ext j; simp [lt]

omit [FloatOps F] in
theorem sep_ge (i : Ed) (Φ : Ed → sProp 𝕄) : bigSep (ge i.val) Φ = iprop(Φ i ∗ bigSep (ge (i.val + 1)) Φ) := by
  rw [ge_step i]; exact bigSep_insert (not_mem_ge i)
omit [FloatOps F] in
theorem sep_lt (i : Ed) (Φ : Ed → sProp 𝕄) : bigSep (lt (i.val + 1)) Φ = iprop(Φ i ∗ bigSep (lt i.val) Φ) := by
  rw [lt_step i]; exact bigSep_insert (not_mem_lt i)

/-! ## Points-tos -/

abbrev pt0 (c : Dev nD) (S : Finset S3x256x512.Idx) (q : PosShare TreeShare) (f : S3x256x512.Idx → Elt F .bf16) : sProp 𝕄 := ((c : Thread nD τ).loc cc0_scratch0) ↦[S]{q} f
abbrev pt1 (c : Dev nD) (S : Finset S3x4x64x512.Idx) (q : PosShare TreeShare) (f : S3x4x64x512.Idx → Elt F .bf16) : sProp 𝕄 := ((c : Thread nD τ).loc cc0_scratch1) ↦[S]{q} f
abbrev pt2 (c : Dev nD) (S : Finset S3x64x512.Idx) (q : PosShare TreeShare) (f : S3x64x512.Idx → Elt F .bf16) : sProp 𝕄 := ((c : Thread nD τ).loc cc0_scratch2) ↦[S]{q} f
abbrev pt3 (c : Dev nD) (S : Finset S3x4x16x512.Idx) (q : PosShare TreeShare) (f : S3x4x16x512.Idx → Elt F .bf16) : sProp 𝕄 := ((c : Thread nD τ).loc cc0_scratch3) ↦[S]{q} f
abbrev pt4 (c : Dev nD) (S : Finset S3x256x512.Idx) (q : PosShare TreeShare) (f : S3x256x512.Idx → Elt F .bf16) : sProp 𝕄 := ((c : Thread nD τ).loc cc0_scratch4) ↦[S]{q} f

/-- The `k`-th run of `w` rows from row `a` of plane `l`, in the order `σ`. -/
def run (n l a w : ℕ) (σ : Fin 4 → ℕ) (k : Fin 4) : Finset (⟨3, ![3, n, 512]⟩ : Shape).Idx := rows n l (a + w * σ k) (a + w * σ k + w)

/-- How many devices ahead, as an index. -/
def kf (i : Ed) : Fin 4 := ⟨i.val % 3 + 1, by omega⟩

/-- The share kept for reading the whole plane and lent to the last phase; the share lent to the phase before. -/
abbrev qL : PosShare TreeShare := fullShare.left
abbrev qR : PosShare TreeShare := fullShare.right

/-- Where copy `i` lands on `d`, at any contents. -/
def land (d : Dev nD) (i : Ed) : sProp 𝕄 :=
  if ph i = 0 then iprop(∃ f, pt1 d (slot 64 (lay i).val (sl i).val) fullShare f)
  else if ph i = 1 then iprop(∃ f, pt3 d (slot 16 (lay i).val (sl i).val) fullShare f)
  else if ph i = 2 then iprop(∃ f, pt4 d (run 256 (lay i).val (64 * rr d) 16 (behind (zz d)) (kf i)) fullShare f)
  else iprop(∃ f, pt4 d (run 256 (lay i).val 0 64 (behind (rr d)) (kf i)) fullShare f)

variable (I : Inp F)

/-- The same, holding what the copy brings. -/
def landed (d : Dev nD) (i : Ed) : sProp 𝕄 :=
  if ph i = 0 then pt1 d (slot 64 (lay i).val (sl i).val) fullShare (gR1 I d)
  else if ph i = 1 then pt3 d (slot 16 (lay i).val (sl i).val) fullShare (gR2 I d)
  else if ph i = 2 then pt4 d (run 256 (lay i).val (64 * rr d) 16 (behind (zz d)) (kf i)) fullShare (gH I)
  else pt4 d (run 256 (lay i).val 0 64 (behind (rr d)) (kf i)) fullShare (gH I)

/-- What copy `i` of `c` reads. -/
def srcP (c : Dev nD) (i : Ed) : sProp 𝕄 :=
  if ph i = 0 then pt0 c (run 256 (lay i).val 0 64 (ahead (rr c)) (kf i)) fullShare (gA I c)
  else if ph i = 1 then pt2 c (run 64 (lay i).val 0 16 (ahead (zz c)) (kf i)) fullShare (gS I c)
  else if ph i = 2 then pt4 c (run 256 (lay i).val (64 * rr c) 16 (behind (zz c)) 0) (shareTokN qR (i.val % 3)) (gH I)
  else pt4 c (run 256 (lay i).val 0 64 (behind (rr c)) 0) (shareTokN qL (i.val % 3)) (gH I)

/-! ## The schedule -/

abbrev n64 : ℕ := (cc0_scratch1 : Ref sig .tc).dmaCredit S64x512 .bf16
abbrev n16 : ℕ := (cc0_scratch3 : Ref sig .tc).dmaCredit S16x512 .bf16
/-- What copy `i` counts. -/
def amt (i : Ed) : ℕ := if isRow i then n64 else n16
theorem n64_pos : 0 < n64 := View.dmaCredit_pos (View.whole cc0_scratch1 |>.slice (Rect.unit (s := S3x4x64x512) ![0, 3, 0, 0] S1x1x64x512.size inb_S3x4x64x512_S1x1x64x512_0_3_0_0) |>.reshape S64x512 (by decide)) (by decide)
theorem n16_pos : 0 < n16 := View.dmaCredit_pos (View.whole cc0_scratch3 |>.slice (Rect.unit (s := S3x4x16x512) ![0, 3, 0, 0] S1x1x16x512.size inb_S3x4x16x512_S1x1x16x512_0_3_0_0) |>.reshape S16x512 (by decide)) (by decide)
theorem amt_pos (i : Ed) : 0 < amt i := by unfold amt; split; exact n64_pos; exact n16_pos

/-- The landing places signal `s` hands to the device `d` it reaches. -/
def readyPay (d : Dev nD) (s : Du) : sProp 𝕄 := bigSep (Finset.univ.filter fun i => dutyOf i = s) fun i => land (dst d i) i
def dmaPay (c : Dev nD) (q : DmaSem sig) : sProp 𝕄 := if isRecv q then landed I c (edgeOf q) else srcP I c (edgeOf q)

def sched : Rounds.Schedule (GSem nD τ sig) Du 𝕄 where
  duties g r := if r = 0 ∧ g.1.2 = .tc then (match g.2 with | .reg _ => Finset.univ | .dma q => if isLive q then {0} else ∅) else ∅
  unitless _ := False
  amount g _ _ := match g.2 with | .reg _ => 1 | .dma q => amt (edgeOf q)
  payload g _ s := match g.2 with | .reg _ => readyPay g.1.1 s | .dma q => dmaPay I g.1.1 q
  amount_pos g _ _ _ := by rcases g with ⟨_, _ | q⟩; exact Nat.one_pos; exact amt_pos _

omit [FloatOps F] in
instance land_storable (d : Dev nD) (i : Ed) : BI.Storable (upEmb : UEmb _ 𝕄) (land (F := F) d i) := by
  unfold land; (repeat' split) <;> infer_instance
instance landed_storable (d : Dev nD) (i : Ed) : BI.Storable (upEmb : UEmb _ 𝕄) (landed I d i) := by
  unfold landed; (repeat' split) <;> infer_instance
instance srcP_storable (d : Dev nD) (i : Ed) : BI.Storable (upEmb : UEmb _ 𝕄) (srcP I d i) := by
  unfold srcP; (repeat' split) <;> infer_instance
instance sched_payload_storable (g : GSem nD τ sig) (r : ℕ) (d : Du) : BI.Storable (upEmb : UEmb _ 𝕄) ((sched I).payload g r d) := by
  rcases g with ⟨t, _ | q⟩
  · show BI.Storable upEmb (readyPay t.1 d); unfold readyPay; infer_instance
  · show BI.Storable upEmb (dmaPay I t.1 q); unfold dmaPay; split <;> infer_instance

section Facts
variable (c : Dev nD) (i : Ed)

theorem duties_ready : (sched I).duties (readyCell c) 0 = Finset.univ := by dsimp only [sched]; rw [if_pos ⟨rfl, rfl⟩]
theorem duties_send : (sched I).duties (sendCell c i) 0 = {0} := by dsimp only [sched]; rw [if_pos ⟨rfl, rfl⟩, if_pos (isLive_send i)]
theorem duties_recv : (sched I).duties (recvCell c i) 0 = {0} := by dsimp only [sched]; rw [if_pos ⟨rfl, rfl⟩, if_pos (isLive_recv i)]
theorem duties_later (g : GSem nD τ sig) : ∀ r, 1 ≤ r → (sched I).duties g r = ∅ :=
  fun r hr => by dsimp only [sched]; exact if_neg fun h => by omega
theorem duties_dead (q : DmaSem sig) (hq : isLive q = false) : ∀ r, 0 ≤ r → (sched I).duties ((c : Thread nD τ), .dma q) r = ∅ :=
  fun r _ => by dsimp only [sched]; rw [hq]; split <;> rfl
theorem amount_ready (s : Du) : (sched I).amount (readyCell c) 0 s = 1 := rfl
theorem amount_send (s : Du) : (sched I).amount (sendCell c i) 0 s = amt i := by dsimp only [sched]; rw [edgeOf_send]
theorem amount_recv (s : Du) : (sched I).amount (recvCell c i) 0 s = amt i := by dsimp only [sched]; rw [edgeOf_recv]
theorem payload_ready (s : Du) : (sched I).payload (readyCell c) 0 s = readyPay c s := rfl
theorem payload_send (s : Du) : (sched I).payload (sendCell c i) 0 s = srcP I c i := by
  dsimp only [sched]; unfold dmaPay; rw [isRecv_send, edgeOf_send]; rfl
theorem payload_recv (s : Du) : (sched I).payload (recvCell c i) 0 s = landed I c i := by
  dsimp only [sched]; unfold dmaPay; rw [isRecv_recv, edgeOf_recv]; rfl
theorem expect_ready : (sched I).expect (readyCell c) 0 = 6 := by
  unfold Schedule.expect Schedule.amountOf; rw [duties_ready, Finset.sum_congr rfl fun s _ => amount_ready I c s]; decide
theorem expect_send : (sched I).expect (sendCell c i) 0 = amt i := by
  unfold Schedule.expect Schedule.amountOf; rw [duties_send, Finset.sum_singleton, amount_send]
theorem expect_recv : (sched I).expect (recvCell c i) 0 = amt i := by
  unfold Schedule.expect Schedule.amountOf; rw [duties_recv, Finset.sum_singleton, amount_recv]
theorem rest_send : bigSep ((sched I).duties (sendCell c i) 0 \ ∅) (fun u => (sched I).payload (sendCell c i) 0 u) = srcP I c i := by
  rw [Finset.sdiff_empty, duties_send, bigSep_singleton, payload_send]
theorem rest_recv : bigSep ((sched I).duties (recvCell c i) 0 \ ∅) (fun u => (sched I).payload (recvCell c i) 0 u) = landed I c i := by
  rw [Finset.sdiff_empty, duties_recv, bigSep_singleton, payload_recv]
theorem rest_ready : bigSep ((sched I).duties (readyCell c) 0 \ ∅) (fun u => (sched I).payload (readyCell c) 0 u)
    ⊢ bigSep Finset.univ fun i : Ed => land (dst c i) i := by
  rw [Finset.sdiff_empty, duties_ready, bigSep_congr (s := Finset.univ) fun s _ => payload_ready I c s]
  unfold readyPay
  have e : (Finset.univ.biUnion fun s : Du => Finset.univ.filter fun i : Ed => dutyOf i = s) = Finset.univ := by ext i; simp
  have h := bigSep_biUnion Finset.univ (fun s : Du => Finset.univ.filter fun i : Ed => dutyOf i = s) (Φ := fun i : Ed => (land (dst c i) i : sProp 𝕄))
  rw [e] at h; exact h
/-- What `c` pays with its `s`-th signal: its own landing places of that device's copies. -/
theorem pay_ready (s : Du) : (sched I).payload (readyCell (tgt c s)) 0 s = bigSep (Finset.univ.filter fun i => dutyOf i = s) fun i => land c i := by
  rw [payload_ready]; unfold readyPay
  exact bigSep_congr fun i hi => by rw [dst_tgt c s i (Finset.mem_filter.mp hi).2]

end Facts

/-! ## What a device owes, and the levels -/

def owedE (c : Dev nD) (n : ℕ) : CellTallies nD τ sig Unit := ∑ i ∈ ge n, tallyAt (recvCell (dst c i) i) () (amt i)
def owedR (c : Dev nD) (n : ℕ) : CellTallies nD τ sig Unit := ∑ s ∈ Finset.univ.filter (fun s : Du => n ≤ s.val), tallyAt (readyCell (tgt c s)) () 1
def O₀ (c : Dev nD) : CellTallies nD τ sig Unit := owedE c 0 + owedR c 0

theorem owedE_step (c : Dev nD) (i : Ed) : owedE c i.val = owedE c (i.val + 1) + tallyAt (recvCell (dst c i) i) () (amt i) := by
  unfold owedE; rw [ge_step i, Finset.sum_insert (not_mem_ge i), add_comm]
theorem owedE_all (c : Dev nD) : owedE c 36 = 0 := by unfold owedE; rw [ge_all, Finset.sum_empty]
theorem owedR_step (c : Dev nD) (s : Du) : owedE c 0 + owedR c s.val = (owedE c 0 + owedR c (s.val + 1)) + tallyAt (readyCell (tgt c s)) () 1 := by
  have : (Finset.univ.filter fun t : Du => s.val ≤ t.val) = insert s (Finset.univ.filter fun t : Du => s.val + 1 ≤ t.val) := by
    ext j; simp only [Finset.mem_filter, Finset.mem_univ, true_and, Finset.mem_insert, Fin.ext_iff]; omega
  unfold owedR; rw [this, Finset.sum_insert (by simp), add_comm (tallyAt _ _ _), add_assoc]
theorem owedR_all (c : Dev nD) : owedE c 0 + owedR c 6 = owedE c 0 := by
  have : (Finset.univ.filter fun t : Du => 6 ≤ t.val) = ∅ := by decide
  unfold owedR; rw [this, Finset.sum_empty, add_zero]

def L (g : GSem nD τ sig) : Finset Unit := if g.1.2 = .tc then {()} else ∅
def lv (g : GSem nD τ sig) (_ : Unit) : ℕ := match g.2 with | .reg _ => 1 | .dma q => if isRecv q && isLive q then 2 + (edgeOf q).val / 3 else 0
theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (i : Ed) (u : Unit) : lv (recvCell c i) u = 2 + i.val / 3 := by
  dsimp only [lv]; rw [isRecv_recv, isLive_recv, edgeOf_recv]; rfl
theorem lv_ready (c : Dev nD) (u : Unit) : lv (readyCell c) u = 1 := rfl

theorem owedE_pos {c : Dev nD} {n : ℕ} {g : GSem nD τ sig} {u : Unit} (h : 0 < owedE c n g u) : ∃ i : Ed, n ≤ i.val ∧ g = recvCell (dst c i) i := by
  unfold owedE at h
  rw [Finset.sum_apply, Finsupp.finset_sum_apply] at h
  by_contra hn
  refine absurd h (Nat.not_lt.mpr (le_of_eq (Finset.sum_eq_zero fun i hi => ?_)))
  rw [tallyAt_apply]
  exact if_neg fun hg => hn ⟨i, (Finset.mem_filter.mp hi).2, hg.1⟩
theorem owedR_pos {c : Dev nD} {n : ℕ} {g : GSem nD τ sig} {u : Unit} (h : 0 < owedR c n g u) : ∃ s : Du, g = readyCell (tgt c s) := by
  unfold owedR at h
  rw [Finset.sum_apply, Finsupp.finset_sum_apply] at h
  by_contra hn
  refine absurd h (Nat.not_lt.mpr (le_of_eq (Finset.sum_eq_zero fun i hi => ?_)))
  rw [tallyAt_apply]
  exact if_neg fun hg => hn ⟨i, hg.1⟩

omit [FloatOps F] in
/-- A wait at a level below every copy still owed. -/
theorem mayWait_lt (c : Dev nD) (sm : SemLoc sig) (n v : ℕ) (hv : lv ((c : Thread nD τ), sm) () ≤ v) (hn : ∀ i : Ed, n ≤ i.val → v < 2 + i.val / 3) :
    (levAts L lv : sProp 𝕄) ⊢ MayWait (c : Thread nD τ) sm () (owedE c n) :=
  MayOwe.of_cut (L := L) (lev := lv) v (fun p hp => by rw [Finset.mem_singleton.mp hp, L_tc]; exact Finset.mem_singleton_self _)
    (fun g u hg => by obtain ⟨i, hi, rfl⟩ := owedE_pos hg; rw [L_tc]; exact Finset.mem_singleton_self _)
    (fun p hp => by rw [Finset.mem_singleton.mp hp]; exact hv)
    (fun g u hg => by obtain ⟨i, hi, rfl⟩ := owedE_pos hg; rw [lv_recv]; exact hn i hi)

omit [FloatOps F] in
theorem mayWait_stage (c : Dev nD) (q : DmaSem sig) (hq : (isRecv q && isLive q) = false) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => ?_) (fun p hp => by rw [Finset.mem_singleton.mp hp]; dsimp only [lv]; rw [hq]; exact le_refl 0) (fun g u hg => ?_)
    all_goals
      have : 0 < owedE c 0 g u ∨ 0 < owedR c 0 g u := by
        unfold O₀ at hg; rw [Pi.add_apply, Finsupp.add_apply] at hg; omega
      rcases this with h | h
      · obtain ⟨i, -, rfl⟩ := owedE_pos h
        first | (rw [L_tc]; exact Finset.mem_singleton_self _) | (rw [lv_recv]; omega)
      · obtain ⟨s, rfl⟩ := owedR_pos h
        first | (rw [L_tc]; exact Finset.mem_singleton_self _) | (rw [lv_ready]; omega)
  · rw [MayWait_zero]; iintro -; iempintro

/-! ## The records every device has -/

/-- The cell is kept by the protocol. -/
def cinv (g : GSem nD τ sig) : sProp 𝕄 := iprop(∃ κ : ℕ, cellInv ER (sched I) κ g)
instance cinv_persistent (g : GSem nD τ sig) : BI.Persistent (cinv I g) := by unfold cinv; infer_instance

def recs : sProp 𝕄 := iprop((bigSep Finset.univ fun ck : Dev nD × Fin 97 => cinv I (kcell ck))
    ∗ (bigSep Finset.univ fun ck : Dev nD × Fin 97 => reached ER (kcell ck) 0) ∗ levAts L lv)
instance recs_persistent : BI.Persistent (recs I) := by unfold recs; infer_instance

theorem recs_cell (c : Dev nD) (k : Fin 97) : recs I ⊢ iprop(cinv I (kcell (c, k)) ∗ reached ER (kcell (c, k)) 0) := by
  unfold recs
  iintro ⟨#H1, #H2, -⟩
  isplitr
  · iapply (show (bigSep Finset.univ fun ck : Dev nD × Fin 97 => cinv I (kcell ck)) ⊢ cinv I (kcell (c, k)) from bigSep_elim (Finset.mem_univ (c, k))); iexact H1
  · iapply (show (bigSep Finset.univ fun ck : Dev nD × Fin 97 => (reached ER (kcell ck) 0 : sProp 𝕄)) ⊢ reached ER (kcell (c, k)) 0 from bigSep_elim (Finset.mem_univ (c, k))); iexact H2
theorem recs_lev : recs I ⊢ (levAts L lv : sProp 𝕄) := by unfold recs; iintro ⟨-, -, #H⟩; iexact H
theorem recs_ready (c : Dev nD) : recs I ⊢ iprop(cinv I (readyCell c) ∗ reached ER (readyCell c) 0) := recs_cell I c 0
theorem recs_send (c : Dev nD) (i : Ed) : recs I ⊢ iprop(cinv I (sendCell c i) ∗ reached ER (sendCell c i) 0) := by
  obtain ⟨k, hk⟩ := osem_send i
  have := recs_cell I c k; unfold kcell at this; dsimp only at this; rw [hk] at this; exact this
theorem recs_recv (c : Dev nD) (i : Ed) : recs I ⊢ iprop(cinv I (recvCell c i) ∗ reached ER (recvCell c i) 0) := by
  obtain ⟨k, hk⟩ := osem_recv i
  have := recs_cell I c k; unfold kcell at this; dsimp only at this; rw [hk] at this; exact this

end Cert.MlpProof

end
-- ==== Proof.Geo.lean ====
/- The views of the kernel's slices: their elements as runs of rows and slots, and what a copy writes. -/
module

public import proofs.«01_k».proof.Proof.Sched

@[expose] public section

noncomputable section

namespace Cert.MlpProof

open Cert.KernelIdeal Cert.KernelIdeal.Gen
open Idealize.ShloMosaic
open Idealize.ShloMosaic.TcCoe
open Idealize.ShloMosaic.ValueIdx

variable {F : FTy → Type} [FloatOps F]

abbrev M0 : Memref sig .tc .vmem S256x256 .f32 := Memref.whole cc0_stg0_0
abbrev M1 : Memref sig .tc .vmem S256x512 .f32 := Memref.whole cc0_stg1_0
abbrev M2 : Memref sig .tc .vmem S512x256 .f32 := Memref.whole cc0_stg2_0
abbrev M3 : Memref sig .tc .vmem S256x512 .f32 := Memref.whole cc0_stg3_0
abbrev M4 : Memref sig .tc .vmem S512x256 .f32 := Memref.whole cc0_stg4_0
abbrev M5 : Memref sig .tc .vmem S256x512 .f32 := Memref.whole cc0_stg5_0
abbrev M6 : Memref sig .tc .vmem S512x256 .f32 := Memref.whole cc0_stg6_0
abbrev M7 : Memref sig .tc .vmem S256x256 .f32 := Memref.whole cc0_stg7_0
abbrev M8 : Memref sig .tc .vmem S3x256x512 .bf16 := Memref.whole cc0_scratch0
abbrev M9 : Memref sig .tc .vmem S3x4x64x512 .bf16 := Memref.whole cc0_scratch1
abbrev M10 : Memref sig .tc .vmem S3x64x512 .bf16 := Memref.whole cc0_scratch2
abbrev M11 : Memref sig .tc .vmem S3x4x16x512 .bf16 := Memref.whole cc0_scratch3
abbrev M12 : Memref sig .tc .vmem S3x256x512 .bf16 := Memref.whole cc0_scratch4

/-! ## Elements of a rectangle -/

theorem set_unit3 {n w : ℕ} (l o : ℕ) {off : Fin 3 → ℕ} (hoff : off = ![l, o, 0])
    (inb : ∀ a, off a + (⟨3, ![1, w, 512]⟩ : Shape).size a ≤ (⟨3, ![3, n, 512]⟩ : Shape).size a) :
    (Rect.unit (s := ⟨3, ![3, n, 512]⟩) off (⟨3, ![1, w, 512]⟩ : Shape).size inb).set = rows n l o (o + w) := by
  subst hoff
  ext x
  rw [mem_rows]
  constructor
  · intro h
    have h0 := Rect.mem_set_unit.mp h 0; have h1 := Rect.mem_set_unit.mp h 1
    have e0 : l ≤ (x 0).val ∧ (x 0).val < l + 1 := h0
    have e1 : o ≤ (x 1).val ∧ (x 1).val < o + w := h1
    exact ⟨by omega, e1.1, e1.2⟩
  · rintro ⟨h0, h1, h2⟩
    refine Rect.mem_set_unit.mpr fun a => ?_
    match a with
    | ⟨0, _⟩ => show l ≤ (x 0).val ∧ (x 0).val < l + 1; omega
    | ⟨1, _⟩ => show o ≤ (x 1).val ∧ (x 1).val < o + w; omega
    | ⟨2, _⟩ => show 0 ≤ (x 2).val ∧ (x 2).val < 0 + 512; have : (x 2).val < 512 := (x 2).isLt; omega

theorem set_unit4 {n : ℕ} (l j : ℕ) {off : Fin 4 → ℕ} (hoff : off = ![l, j, 0, 0])
    (inb : ∀ a, off a + (⟨4, ![1, 1, n, 512]⟩ : Shape).size a ≤ (⟨4, ![3, 4, n, 512]⟩ : Shape).size a) :
    (Rect.unit (s := ⟨4, ![3, 4, n, 512]⟩) off (⟨4, ![1, 1, n, 512]⟩ : Shape).size inb).set = slot n l j := by
  subst hoff
  ext x
  rw [mem_slot]
  constructor
  · intro h
    have h0 := Rect.mem_set_unit.mp h 0; have h1 := Rect.mem_set_unit.mp h 1
    have e0 : l ≤ (x 0).val ∧ (x 0).val < l + 1 := h0
    have e1 : j ≤ (x 1).val ∧ (x 1).val < j + 1 := h1
    exact ⟨by omega, by omega⟩
  · rintro ⟨h0, h1⟩
    refine Rect.mem_set_unit.mpr fun a => ?_
    match a with
    | ⟨0, _⟩ => show l ≤ (x 0).val ∧ (x 0).val < l + 1; omega
    | ⟨1, _⟩ => show j ≤ (x 1).val ∧ (x 1).val < j + 1; omega
    | ⟨2, _⟩ => show 0 ≤ (x 2).val ∧ (x 2).val < 0 + n; have : (x 2).val < n := (x 2).isLt; omega
    | ⟨3, _⟩ => show 0 ≤ (x 3).val ∧ (x 3).val < 0 + 512; have : (x 3).val < 512 := (x 3).isLt; omega

/-! ## Where a rectangle places an index -/

theorem emb_unit3 {n w : ℕ} (l o : ℕ) {off : Fin 3 → ℕ} (hoff : off = ![l, o, 0])
    (inb : ∀ a, off a + (⟨3, ![1, w, 512]⟩ : Shape).size a ≤ (⟨3, ![3, n, 512]⟩ : Shape).size a) (u : Fin 1) (a : Fin w) (b : Fin 512) (hl : l < 3) (ho : o + a.val < n) :
    (Rect.unit (s := ⟨3, ![3, n, 512]⟩) off (⟨3, ![1, w, 512]⟩ : Shape).size inb).emb (ix3 u a b) = ix3 (⟨l, hl⟩ : Fin 3) (⟨o + a.val, ho⟩ : Fin n) b := by
  subst hoff
  funext d
  match d with
  | ⟨0, _⟩ => exact Fin.ext (show l + 1 * u.val = l by omega)
  | ⟨1, _⟩ => exact Fin.ext (show o + 1 * a.val = o + a.val by omega)
  | ⟨2, _⟩ => exact Fin.ext (show 0 + 1 * b.val = b.val by omega)

theorem emb_unit4 {n : ℕ} (l j : ℕ) {off : Fin 4 → ℕ} (hoff : off = ![l, j, 0, 0])
    (inb : ∀ a, off a + (⟨4, ![1, 1, n, 512]⟩ : Shape).size a ≤ (⟨4, ![3, 4, n, 512]⟩ : Shape).size a) (u v : Fin 1) (a : Fin n) (b : Fin 512) (hl : l < 3) (hj : j < 4) :
    (Rect.unit (s := ⟨4, ![3, 4, n, 512]⟩) off (⟨4, ![1, 1, n, 512]⟩ : Shape).size inb).emb (ix4 u v a b) = ix4 (⟨l, hl⟩ : Fin 3) (⟨j, hj⟩ : Fin 4) a b := by
  subst hoff
  funext d
  match d with
  | ⟨0, _⟩ => exact Fin.ext (show l + 1 * u.val = l by omega)
  | ⟨1, _⟩ => exact Fin.ext (show j + 1 * v.val = j by omega)
  | ⟨2, _⟩ => exact Fin.ext (show 0 + 1 * a.val = a.val by omega)
  | ⟨3, _⟩ => exact Fin.ext (show 0 + 1 * b.val = b.val by omega)

theorem off3_lt {n w : ℕ} {l o : ℕ} {off : Fin 3 → ℕ} (hoff : off = ![l, o, 0])
    (inb : ∀ a, off a + (⟨3, ![1, w, 512]⟩ : Shape).size a ≤ (⟨3, ![3, n, 512]⟩ : Shape).size a) (a : Fin w) : o + a.val < n := by
  subst hoff; have h : o + w ≤ n := inb 1; omega

/-! ## Reading a slice of a buffer -/

/-- A load of rows of a rank 3 buffer. -/
theorem read_own8 (I : Inp F) (c : Dev nD) (l : Fin 3) {off : Fin 3 → ℕ} (hoff : off = ![l.val, 64 * rr c, 0]) (inb : ∀ a, off a + S1x64x512.size a ≤ S3x256x512.size a) :
    (M8 : Memref sig .tc .vmem S3x256x512 .bf16).view.readAt (Elt F) (Rect.unit (s := S3x256x512) off S1x64x512.size inb).toLoadRect (gA I c) = ownA (pA I l.val) c := by
  funext y
  rw [eq_ix3 y]
  show gA I c ((Rect.unit (s := S3x256x512) off S1x64x512.size inb).emb (ix3 (y 0) (y 1) (y 2))) = _
  rw [emb_unit3 l.val (64 * rr c) hoff inb (y 0) (y 1) (y 2) l.isLt (off3_lt (w := 64) hoff inb (y 1))]
  rfl
theorem read_own10 (I : Inp F) (c : Dev nD) (l : Fin 3) {off : Fin 3 → ℕ} (hoff : off = ![l.val, 16 * zz c, 0]) (inb : ∀ a, off a + S1x16x512.size a ≤ S3x64x512.size a) :
    (M10 : Memref sig .tc .vmem S3x64x512 .bf16).view.readAt (Elt F) (Rect.unit (s := S3x64x512) off S1x16x512.size inb).toLoadRect (gS I c) = ownS (sumRow (pA I l.val)) c := by
  funext y
  rw [eq_ix3 y]
  show gS I c ((Rect.unit (s := S3x64x512) off S1x16x512.size inb).emb (ix3 (y 0) (y 1) (y 2))) = _
  rw [emb_unit3 l.val (16 * zz c) hoff inb (y 0) (y 1) (y 2) l.isLt (off3_lt (w := 16) hoff inb (y 1))]
  rfl
theorem read_slot9 (I : Inp F) (c : Dev nD) (l : Fin 3) (j : Fin 4) {off : Fin 4 → ℕ} (hoff : off = ![l.val, j.val, 0, 0]) (inb : ∀ a, off a + S1x1x64x512.size a ≤ S3x4x64x512.size a) :
    (M9 : Memref sig .tc .vmem S3x4x64x512 .bf16).view.readAt (Elt F) (Rect.unit (s := S3x4x64x512) off S1x1x64x512.size inb).toLoadRect (gR1 I c) = slotA (pA I l.val) c j.val := by
  funext y
  rw [eq_ix4 y]
  show gR1 I c ((Rect.unit (s := S3x4x64x512) off S1x1x64x512.size inb).emb (ix4 (y 0) (y 1) (y 2) (y 3))) = _
  rw [emb_unit4 l.val j.val hoff inb (y 0) (y 1) (y 2) (y 3) l.isLt j.isLt]
  rfl
theorem read_slot11 (I : Inp F) (c : Dev nD) (l : Fin 3) (j : Fin 4) {off : Fin 4 → ℕ} (hoff : off = ![l.val, j.val, 0, 0]) (inb : ∀ a, off a + S1x1x16x512.size a ≤ S3x4x16x512.size a) :
    (M11 : Memref sig .tc .vmem S3x4x16x512 .bf16).view.readAt (Elt F) (Rect.unit (s := S3x4x16x512) off S1x1x16x512.size inb).toLoadRect (gR2 I c) = slotS (sumRow (pA I l.val)) c j.val := by
  funext y
  rw [eq_ix4 y]
  show gR2 I c ((Rect.unit (s := S3x4x16x512) off S1x1x16x512.size inb).emb (ix4 (y 0) (y 1) (y 2) (y 3))) = _
  rw [emb_unit4 l.val j.val hoff inb (y 0) (y 1) (y 2) (y 3) l.isLt j.isLt]
  rfl
theorem read_plane12 (I : Inp F) (l : Fin 3) {off : Fin 3 → ℕ} (hoff : off = ![l.val, 0, 0]) (inb : ∀ a, off a + S1x256x512.size a ≤ S3x256x512.size a) :
    (M12 : Memref sig .tc .vmem S3x256x512 .bf16).view.readAt (Elt F) (Rect.unit (s := S3x256x512) off S1x256x512.size inb).toLoadRect (gH I) = gath (pA I l.val) := by
  funext y
  rw [eq_ix3 y]
  show gH I ((Rect.unit (s := S3x256x512) off S1x256x512.size inb).emb (ix3 (y 0) (y 1) (y 2))) = _
  rw [emb_unit3 l.val 0 hoff inb (y 0) (y 1) (y 2) l.isLt (off3_lt (w := 256) hoff inb (y 1))]
  unfold gH gath
  show sumAll _ (mkDev ((0 + (y 1).val) % 64 / 16) ((0 + (y 1).val) / 64)) (ix3 _ (⟨(0 + (y 1).val) % 16, _⟩ : Fin 16) _) = _
  simp only [Nat.zero_add]

/-! ## What a store leaves on the elements it writes -/

theorem write8 (I : Inp F) (c : Dev nD) (l : Fin 3) {off : Fin 3 → ℕ} (hoff : off = ![l.val, 0, 0]) (inb : ∀ a, off a + S1x256x512.size a ≤ S3x256x512.size a)
    (f : (cc0_scratch0 : Ref sig .tc).ty.Contents (Elt F)) {w : Vec F S1x256x512 .bf16} (hw : w = pA I l.val c) :
    ∀ x ∈ rows 256 l.val 0 256, ((M8 : Memref sig .tc .vmem S3x256x512 .bf16).access (Rect.unit (s := S3x256x512) off S1x256x512.size inb)).write (Elt F) f w Finset.univ x = gA I c x := by
  intro x hx
  have hx' : x ∈ ((View.whole (cc0_scratch0 : Ref sig .tc)).slice (Rect.unit (s := S3x256x512) off S1x256x512.size inb)).set := by
    rw [View.set_slice_whole]; have := set_unit3 (n := 256) (w := 256) l.val 0 hoff inb; rw [Nat.zero_add] at this; rw [this]; exact hx
  obtain ⟨(y : S1x256x512.Idx), -, rfl⟩ := Finset.mem_map.mp hx'
  refine (View.write_emb_of_mem (v := (M8 : Memref sig .tc .vmem S3x256x512 .bf16).access (Rect.unit (s := S3x256x512) off S1x256x512.size inb)) f w (Finset.mem_univ y)).trans ?_
  subst hw
  show pA I l.val c y = gA I c ((Rect.unit (s := S3x256x512) off S1x256x512.size inb).emb y)
  have e := (congrArg (Rect.unit (s := S3x256x512) off S1x256x512.size inb).emb (eq_ix3 y)).trans (emb_unit3 l.val 0 hoff inb (y 0) (y 1) (y 2) l.isLt (off3_lt (w := 256) hoff inb (y 1)))
  refine Eq.trans ?_ (congrArg (gA I c) e.symm)
  show _ = pA I l.val c (ix3 (0 : Fin 1) (⟨0 + (y 1).val, _⟩ : Fin 256) (y 2))
  congr 1
  funext d
  match d with
  | ⟨0, _⟩ => exact Subsingleton.elim (α := Fin 1) _ _
  | ⟨1, _⟩ => exact Fin.ext (show (y 1).val = 0 + (y 1).val by omega)
  | ⟨2, _⟩ => rfl

theorem write10 (I : Inp F) (c : Dev nD) (l : Fin 3) {off : Fin 3 → ℕ} (hoff : off = ![l.val, 0, 0]) (inb : ∀ a, off a + S1x64x512.size a ≤ S3x64x512.size a)
    (f : (cc0_scratch2 : Ref sig .tc).ty.Contents (Elt F)) {w : Vec F S1x64x512 .bf16} (hw : w = sumRow (pA I l.val) c) :
    ∀ x ∈ rows 64 l.val 0 64, ((M10 : Memref sig .tc .vmem S3x64x512 .bf16).access (Rect.unit (s := S3x64x512) off S1x64x512.size inb)).write (Elt F) f w Finset.univ x = gS I c x := by
  intro x hx
  have hx' : x ∈ ((View.whole (cc0_scratch2 : Ref sig .tc)).slice (Rect.unit (s := S3x64x512) off S1x64x512.size inb)).set := by
    rw [View.set_slice_whole]; have := set_unit3 (n := 64) (w := 64) l.val 0 hoff inb; rw [Nat.zero_add] at this; rw [this]; exact hx
  obtain ⟨(y : S1x64x512.Idx), -, rfl⟩ := Finset.mem_map.mp hx'
  refine (View.write_emb_of_mem (v := (M10 : Memref sig .tc .vmem S3x64x512 .bf16).access (Rect.unit (s := S3x64x512) off S1x64x512.size inb)) f w (Finset.mem_univ y)).trans ?_
  subst hw
  show sumRow (pA I l.val) c y = gS I c ((Rect.unit (s := S3x64x512) off S1x64x512.size inb).emb y)
  have e := (congrArg (Rect.unit (s := S3x64x512) off S1x64x512.size inb).emb (eq_ix3 y)).trans (emb_unit3 l.val 0 hoff inb (y 0) (y 1) (y 2) l.isLt (off3_lt (w := 64) hoff inb (y 1)))
  refine Eq.trans ?_ (congrArg (gS I c) e.symm)
  show _ = sumRow (pA I l.val) c (ix3 (0 : Fin 1) (⟨0 + (y 1).val, _⟩ : Fin 64) (y 2))
  congr 1
  funext d
  match d with
  | ⟨0, _⟩ => exact Subsingleton.elim (α := Fin 1) _ _
  | ⟨1, _⟩ => exact Fin.ext (show (y 1).val = 0 + (y 1).val by omega)
  | ⟨2, _⟩ => rfl

theorem mkDev_self (c : Dev nD) : mkDev (zz c) (rr c) = c := dev_ext
  (by have := zz_lt c; have := rr_lt c; unfold mkDev; show (4 * (zz c % 4) + rr c % 4) / 4 = zz c; omega)
  (by have := zz_lt c; have := rr_lt c; unfold mkDev; show (4 * (zz c % 4) + rr c % 4) % 4 = rr c; omega)

theorem write12 (I : Inp F) (c : Dev nD) (l : Fin 3) {off : Fin 3 → ℕ} (hoff : off = ![l.val, 64 * rr c + 16 * zz c, 0]) (inb : ∀ a, off a + S1x16x512.size a ≤ S3x256x512.size a)
    (f : (cc0_scratch4 : Ref sig .tc).ty.Contents (Elt F)) {w : Vec F S1x16x512 .bf16} (hw : w = sumAll (pA I l.val) c) :
    ∀ x ∈ rows 256 l.val (64 * rr c + 16 * zz c) (64 * rr c + 16 * zz c + 16),
      ((M12 : Memref sig .tc .vmem S3x256x512 .bf16).access (Rect.unit (s := S3x256x512) off S1x16x512.size inb)).write (Elt F) f w Finset.univ x = gH I x := by
  intro x hx
  have hx' : x ∈ ((View.whole (cc0_scratch4 : Ref sig .tc)).slice (Rect.unit (s := S3x256x512) off S1x16x512.size inb)).set := by
    rw [View.set_slice_whole]; have := set_unit3 (n := 256) (w := 16) l.val _ hoff inb; rw [this]; exact hx
  obtain ⟨(y : S1x16x512.Idx), -, rfl⟩ := Finset.mem_map.mp hx'
  refine (View.write_emb_of_mem (v := (M12 : Memref sig .tc .vmem S3x256x512 .bf16).access (Rect.unit (s := S3x256x512) off S1x16x512.size inb)) f w (Finset.mem_univ y)).trans ?_
  subst hw
  show sumAll (pA I l.val) c y = gH I ((Rect.unit (s := S3x256x512) off S1x16x512.size inb).emb y)
  have e := (congrArg (Rect.unit (s := S3x256x512) off S1x16x512.size inb).emb (eq_ix3 y)).trans (emb_unit3 l.val _ hoff inb (y 0) (y 1) (y 2) l.isLt (off3_lt (w := 16) hoff inb (y 1)))
  refine Eq.trans ?_ (congrArg (gH I) e.symm)
  have hz := zz_lt c; have hr := rr_lt c; have hy : (y 1).val < 16 := (y 1).isLt
  have e1 : (64 * rr c + 16 * zz c + (y 1).val) % 64 / 16 = zz c := by omega
  have e2 : (64 * rr c + 16 * zz c + (y 1).val) / 64 = rr c := by omega
  have e3 : (64 * rr c + 16 * zz c + (y 1).val) % 16 = (y 1).val := by omega
  show _ = sumAll (pA I l.val) (mkDev ((64 * rr c + 16 * zz c + (y 1).val) % 64 / 16) ((64 * rr c + 16 * zz c + (y 1).val) / 64))
    (ix3 (0 : Fin 1) (⟨(64 * rr c + 16 * zz c + (y 1).val) % 16, _⟩ : Fin 16) (y 2))
  rw [e1, e2, mkDev_self]
  congr 1
  funext d
  match d with
  | ⟨0, _⟩ => exact Subsingleton.elim (α := Fin 1) _ _
  | ⟨1, _⟩ => exact Fin.ext e3.symm
  | ⟨2, _⟩ => rfl

/-! ## The slices the copies go between -/

section Slices
variable {off : Fin 3 → ℕ} {off4 : Fin 4 → ℕ}

abbrev V8 (inb : ∀ a, off a + S1x64x512.size a ≤ S3x256x512.size a) : Memref sig .tc .vmem S64x512 .bf16 :=
  ((M8 : Memref sig .tc .vmem S3x256x512 .bf16).slice (Rect.unit (s := S3x256x512) off S1x64x512.size inb) (fun _ => rfl)).squeeze S64x512 squeezes_S1x64x512_S64x512
abbrev V9 (inb : ∀ a, off4 a + S1x1x64x512.size a ≤ S3x4x64x512.size a) : Memref sig .tc .vmem S64x512 .bf16 :=
  ((M9 : Memref sig .tc .vmem S3x4x64x512 .bf16).slice (Rect.unit (s := S3x4x64x512) off4 S1x1x64x512.size inb) (fun _ => rfl)).squeeze S64x512 squeezes_S1x1x64x512_S64x512
abbrev V10 (inb : ∀ a, off a + S1x16x512.size a ≤ S3x64x512.size a) : Memref sig .tc .vmem S16x512 .bf16 :=
  ((M10 : Memref sig .tc .vmem S3x64x512 .bf16).slice (Rect.unit (s := S3x64x512) off S1x16x512.size inb) (fun _ => rfl)).squeeze S16x512 squeezes_S1x16x512_S16x512
abbrev V11 (inb : ∀ a, off4 a + S1x1x16x512.size a ≤ S3x4x16x512.size a) : Memref sig .tc .vmem S16x512 .bf16 :=
  ((M11 : Memref sig .tc .vmem S3x4x16x512 .bf16).slice (Rect.unit (s := S3x4x16x512) off4 S1x1x16x512.size inb) (fun _ => rfl)).squeeze S16x512 squeezes_S1x1x16x512_S16x512
abbrev V12 (inb : ∀ a, off a + S1x16x512.size a ≤ S3x256x512.size a) : Memref sig .tc .vmem S16x512 .bf16 :=
  ((M12 : Memref sig .tc .vmem S3x256x512 .bf16).slice (Rect.unit (s := S3x256x512) off S1x16x512.size inb) (fun _ => rfl)).squeeze S16x512 squeezes_S1x16x512_S16x512
abbrev V13 (inb : ∀ a, off a + S1x64x512.size a ≤ S3x256x512.size a) : Memref sig .tc .vmem S64x512 .bf16 :=
  ((M12 : Memref sig .tc .vmem S3x256x512 .bf16).slice (Rect.unit (s := S3x256x512) off S1x64x512.size inb) (fun _ => rfl)).squeeze S64x512 squeezes_S1x64x512_S64x512

theorem set_V8 (inb) {l o : ℕ} (h : off = ![l, o, 0]) : (V8 (off := off) inb).view.set = rows 256 l o (o + 64) := by
  show ((View.whole (cc0_scratch0 : Ref sig .tc)).slice (Rect.unit (s := S3x256x512) off S1x64x512.size inb) |>.reshape S64x512 _).set = _
  rw [View.set_reshape, View.set_slice_whole]; exact set_unit3 l o h inb
theorem set_V9 (inb) {l j : ℕ} (h : off4 = ![l, j, 0, 0]) : (V9 (off4 := off4) inb).view.set = slot 64 l j := by
  show ((View.whole (cc0_scratch1 : Ref sig .tc)).slice (Rect.unit (s := S3x4x64x512) off4 S1x1x64x512.size inb) |>.reshape S64x512 _).set = _
  rw [View.set_reshape, View.set_slice_whole]; exact set_unit4 l j h inb
theorem set_V10 (inb) {l o : ℕ} (h : off = ![l, o, 0]) : (V10 (off := off) inb).view.set = rows 64 l o (o + 16) := by
  show ((View.whole (cc0_scratch2 : Ref sig .tc)).slice (Rect.unit (s := S3x64x512) off S1x16x512.size inb) |>.reshape S16x512 _).set = _
  rw [View.set_reshape, View.set_slice_whole]; exact set_unit3 l o h inb
theorem set_V11 (inb) {l j : ℕ} (h : off4 = ![l, j, 0, 0]) : (V11 (off4 := off4) inb).view.set = slot 16 l j := by
  show ((View.whole (cc0_scratch3 : Ref sig .tc)).slice (Rect.unit (s := S3x4x16x512) off4 S1x1x16x512.size inb) |>.reshape S16x512 _).set = _
  rw [View.set_reshape, View.set_slice_whole]; exact set_unit4 l j h inb
theorem set_V12 (inb) {l o : ℕ} (h : off = ![l, o, 0]) : (V12 (off := off) inb).view.set = rows 256 l o (o + 16) := by
  show ((View.whole (cc0_scratch4 : Ref sig .tc)).slice (Rect.unit (s := S3x256x512) off S1x16x512.size inb) |>.reshape S16x512 _).set = _
  rw [View.set_reshape, View.set_slice_whole]; exact set_unit3 l o h inb
theorem set_V13 (inb) {l o : ℕ} (h : off = ![l, o, 0]) : (V13 (off := off) inb).view.set = rows 256 l o (o + 64) := by
  show ((View.whole (cc0_scratch4 : Ref sig .tc)).slice (Rect.unit (s := S3x256x512) off S1x64x512.size inb) |>.reshape S64x512 _).set = _
  rw [View.set_reshape, View.set_slice_whole]; exact set_unit3 l o h inb

/-! ## What each copy leaves where it lands -/

theorem copy0 (I : Inp F) (c : Dev nD) (l : Fin 3) (k : ℕ) (j : Fin 4) (hk : k + j.val = 4) (inb) (inb4)
    (h : off = ![l.val, 64 * ((rr c + k) % 4), 0]) (h4 : off4 = ![l.val, j.val, 0, 0]) (fd : (cc0_scratch1 : Ref sig .tc).ty.Contents (Elt F)) :
    ∀ x ∈ slot 64 l.val j.val, (V9 (off4 := off4) inb4).view.write (Elt F) fd ((V8 (off := off) inb).view.read (Elt F) (gA I c)) Finset.univ x = gR1 I (rowD c k) x := by
  intro x hx
  rw [← set_V9 inb4 h4] at hx
  obtain ⟨y, -, rfl⟩ := Finset.mem_map.mp hx
  refine (View.write_emb_of_mem (v := (V9 (off4 := off4) inb4).view) fd _ (Finset.mem_univ y)).trans ?_
  show gA I c ((Rect.unit (s := S3x256x512) off S1x64x512.size inb).emb (Shape.reshapeEquiv _ y))
    = gR1 I (rowD c k) ((Rect.unit (s := S3x4x64x512) off4 S1x1x64x512.size inb4).emb (Shape.reshapeEquiv _ y))
  rw [eq_ix2 y]
  refine (congrArg _ (congrArg _ (reshapeEquiv_ix2_1ab _ (y 0) (y 1)))).trans (Eq.trans ?_ (congrArg _ (congrArg _ (reshapeEquiv_ix2_11ab _ (y 0) (y 1)))).symm)
  refine (congrArg (gA I c) (emb_unit3 l.val _ h inb _ (y 0) (y 1) l.isLt (off3_lt (w := 64) h inb (y 0)))).trans (Eq.trans ?_ (congrArg (gR1 I (rowD c k)) (emb_unit4 l.val j.val h4 inb4 _ _ (y 0) (y 1) l.isLt j.isLt).symm))
  show pA I l.val c (ix3 _ _ _) = pA I l.val (rowD (rowD c k) j.val) (ix3 _ _ _)
  rw [rowD_rowD c j.val k (by omega)]
  congr 1
  funext d
  match d with
  | ⟨0, _⟩ => rfl
  | ⟨1, _⟩ => exact Fin.ext (show 64 * ((rr c + k) % 4) + (y 0).val = 64 * rr (rowD c k) + (y 0).val by rw [rr_rowD])
  | ⟨2, _⟩ => rfl

theorem copy1 (I : Inp F) (c : Dev nD) (l : Fin 3) (k : ℕ) (j : Fin 4) (hk : k + j.val = 4) (inb) (inb4)
    (h : off = ![l.val, 16 * ((zz c + k) % 4), 0]) (h4 : off4 = ![l.val, j.val, 0, 0]) (fd : (cc0_scratch3 : Ref sig .tc).ty.Contents (Elt F)) :
    ∀ x ∈ slot 16 l.val j.val, (V11 (off4 := off4) inb4).view.write (Elt F) fd ((V10 (off := off) inb).view.read (Elt F) (gS I c)) Finset.univ x = gR2 I (colD c k) x := by
  intro x hx
  rw [← set_V11 inb4 h4] at hx
  obtain ⟨y, -, rfl⟩ := Finset.mem_map.mp hx
  refine (View.write_emb_of_mem (v := (V11 (off4 := off4) inb4).view) fd _ (Finset.mem_univ y)).trans ?_
  show gS I c ((Rect.unit (s := S3x64x512) off S1x16x512.size inb).emb (Shape.reshapeEquiv _ y))
    = gR2 I (colD c k) ((Rect.unit (s := S3x4x16x512) off4 S1x1x16x512.size inb4).emb (Shape.reshapeEquiv _ y))
  rw [eq_ix2 y]
  refine (congrArg _ (congrArg _ (reshapeEquiv_ix2_1ab _ (y 0) (y 1)))).trans (Eq.trans ?_ (congrArg _ (congrArg _ (reshapeEquiv_ix2_11ab _ (y 0) (y 1)))).symm)
  refine (congrArg (gS I c) (emb_unit3 l.val _ h inb _ (y 0) (y 1) l.isLt (off3_lt (w := 16) h inb (y 0)))).trans (Eq.trans ?_ (congrArg (gR2 I (colD c k)) (emb_unit4 l.val j.val h4 inb4 _ _ (y 0) (y 1) l.isLt j.isLt).symm))
  show sumRow (pA I l.val) c (ix3 _ _ _) = sumRow (pA I l.val) (colD (colD c k) j.val) (ix3 _ _ _)
  rw [colD_colD c j.val k (by omega)]
  congr 1
  funext d
  match d with
  | ⟨0, _⟩ => rfl
  | ⟨1, _⟩ => exact Fin.ext (show 16 * ((zz c + k) % 4) + (y 0).val = 16 * zz (colD c k) + (y 0).val by rw [zz_colD])
  | ⟨2, _⟩ => rfl

theorem copy2 (I : Inp F) (l o : ℕ) (inb) (h : off = ![l, o, 0]) (fd : (cc0_scratch4 : Ref sig .tc).ty.Contents (Elt F)) :
    ∀ x ∈ rows 256 l o (o + 16), (V12 (off := off) inb).view.write (Elt F) fd ((V12 (off := off) inb).view.read (Elt F) (gH I)) Finset.univ x = gH I x := by
  intro x hx
  rw [← set_V12 inb h] at hx
  obtain ⟨y, -, rfl⟩ := Finset.mem_map.mp hx
  exact (View.write_emb_of_mem (v := (V12 (off := off) inb).view) fd _ (Finset.mem_univ y)).trans rfl
theorem copy3 (I : Inp F) (l o : ℕ) (inb) (h : off = ![l, o, 0]) (fd : (cc0_scratch4 : Ref sig .tc).ty.Contents (Elt F)) :
    ∀ x ∈ rows 256 l o (o + 64), (V13 (off := off) inb).view.write (Elt F) fd ((V13 (off := off) inb).view.read (Elt F) (gH I)) Finset.univ x = gH I x := by
  intro x hx
  rw [← set_V13 inb h] at hx
  obtain ⟨y, -, rfl⟩ := Finset.mem_map.mp hx
  exact (View.write_emb_of_mem (v := (V13 (off := off) inb).view) fd _ (Finset.mem_univ y)).trans rfl

end Slices

end Cert.MlpProof

end
-- ==== Proof.Steps.lean ====
/- The steps of the kernel's body: a copy of each phase, the waits, the loads and the stores. -/
module

public import proofs.«01_k».proof.Proof.Sched
public import proofs.«01_k».proof.Proof.Geo

@[expose] public section

noncomputable section

namespace Cert.MlpProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_range)
open Idealize.ShloMosaic.Pipeline (Dat Cfg Window BodyObligation cellOf)

variable {F : FTy → Type} [FloatOps F]

local notation "𝕄" => MT nD τ sig Unit (Elt F) ℕ UU ℕ

variable (I : Inp F)

/-- The program `p` of device `c`, ending in `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## What a device holds between two operations -/

/-- Owing the copies from number `n` on. -/
def Ows (c : Dev nD) (n : ℕ) : sProp 𝕄 := iprop(∃ W, owes (c : Thread nD τ) (owedE c n) W)
/-- Copies from `n` on: both duties and the landing place; earlier ones: the credit on the send cell. -/
def Snd (c : Dev nD) (n : ℕ) : sProp 𝕄 :=
  iprop((bigSep (ge n) fun i => iprop(dutyTok ER (sendCell c i) 0 (0 : Du) ∗ dutyTok ER (recvCell (dst c i) i) 0 (0 : Du) ∗ land (dst c i) i))
    ∗ bigSep (lt n) fun i => cred (tallyAt (sendCell c i) () (amt i)))
/-- Receive waits from `m` on: the credit and the position; earlier ones: the closed cell. -/
def Rcv (c : Dev nD) (m : ℕ) : sProp 𝕄 :=
  iprop((bigSep (ge m) fun j => iprop(cred (tallyAt (recvCell c (rv j)) () (amt (rv j))) ∗ atPos ER (recvCell c (rv j)) 0 (∅ : Finset Du) 0))
    ∗ bigSep (lt m) fun j => semVal (recvCell c (rv j)) 0)
/-- Send waits from `m` on: the position; earlier ones: the closed cell and the source. -/
def Swt (c : Dev nD) (m : ℕ) : sProp 𝕄 :=
  iprop((bigSep (ge m) fun i => iprop(cred (tallyAt (sendCell c i) () (amt i)) ∗ atPos ER (sendCell c i) 0 (∅ : Finset Du) 0))
    ∗ bigSep (lt m) fun i => iprop(semVal (sendCell c i) 0 ∗ srcP I c i))
/-- While copying and receiving. -/
def Core (c : Dev nD) (n m : ℕ) : sProp 𝕄 := iprop(recs I ∗ Ows c n ∗ Snd c n ∗ Rcv c m)
/-- While waiting for the sources. -/
def Tail (c : Dev nD) (m : ℕ) : sProp 𝕄 := iprop(recs I ∗ Ows c 36 ∗ Swt I c m)

/-! ## A copy -/

theorem wp_copy (c n : Dev nD) (i : Ed) (hn : n = dst c i) {s : Shape} (A B : Memref sig .tc .vmem s .bf16) (sS rS : DmaSem sig) (hsS : sS = sendSem i) (hrS : rS = recvSem i)
    (q : PosShare TreeShare) (fs : Buf (Elt F) (A.view.loc (c : Thread nD τ)))
    {hsc : (B : Memref sig (Dev.tc n : Thread nD τ).2.kind .vmem s .bf16).view.ref.isScScratch = false} {hsrc : A.view.WordExact} {hdst : B.view.WordExact}
    {hsem : DmaTarget.Typed .vmem (.dma rS) (.remote (Dev.tc n : Thread nD τ) B (.dma sS) hsc)}
    (hN : B.view.amount (.dma rS : SemLoc sig) = amt i)
    (hA : srcP I c i = (A.view.loc (c : Thread nD τ) ↦[A.view.set]{q} fs))
    (hland : land (dst c i) i ⊢ iprop(∃ fd, (B.view.loc (dst c i : Thread nD τ) ↦[B.view.set]{fullShare} fd : sProp 𝕄)))
    (hput : ∀ fd, (B.view.loc (dst c i : Thread nD τ) ↦[B.view.set]{fullShare} B.view.write (Elt F) fd (A.view.read (Elt F) fs) Finset.univ : sProp 𝕄) ⊢ landed I (dst c i) i)
    (m : ℕ) {α : Type} {Q : α → sProp 𝕄} {k : PUnit → Prog (TpuEff nD τ sig (Elt F) Λ₀ .tc) α} :
    iprop(Core I c i.val m ∗ srcP I c i)
      ⊢ iprop((Core I c (i.val + 1) m -∗ WP c (k ⟨⟩) Q)
          -∗ WP c (.op (.enqueueDma A (.remote (Dev.tc n : Thread nD τ) B (.dma sS) hsc) (.dma rS) hsrc hdst hsem) k) Q) := by
  subst hn; subst hsS; subst hrS
  unfold Core Ows Snd
  rw [sep_ge i, sep_lt i]
  iintro ⟨⟨#Hr, ⟨%W, HO⟩, ⟨⟨⟨Ht1, Ht2, Hl⟩, Hge⟩, Hlt⟩, HR⟩, HS⟩ Hk
  ihave #H1 := (recs_send I c i) $$ Hr
  ihave #H2 := (recs_recv I (dst c i) i) $$ Hr
  unfold cinv
  icases H1 with ⟨⟨%κ₁, #HI1⟩, #Hr1⟩
  icases H2 with ⟨⟨%κ₂, #HI2⟩, #Hr2⟩
  ihave HS := (Entails.of_eq hA) $$ HS
  ihave Hl' := hland $$ Hl
  icases Hl' with ⟨%fd, Hl⟩
  iapply (Rounds.wp_send_pointsTo 𝒱₀ ER (sched I) (c : Thread nD τ) none (κ₁ := κ₁) (κ₂ := κ₂) (q := q) (fs := fs) (fd := fd)
    (r₁ := 0) (r₂ := 0) (d₁ := (0 : Du)) (d₂ := (0 : Du))
    (show (0 : Du) ∈ (sched I).duties (sendCell c i) 0 by rw [duties_send]; exact Finset.mem_singleton_self _)
    (show (0 : Du) ∈ (sched I).duties (recvCell (dst c i) i) 0 by rw [duties_recv]; exact Finset.mem_singleton_self _)
    () () (amt i) hN (amount_send I c i 0) (amount_recv I (dst c i) i 0) (owedE c (i.val + 1)) (owedE_step c i) (W := W)
    (by rw [show (sched I).payload ((c : Thread nD τ), .dma (sendSem i)) 0 0 = srcP I c i from payload_send I c i 0, hA])
    (by rw [show (sched I).payload ((dst c i : Thread nD τ), .dma (recvSem i)) 0 0 = landed I (dst c i) i from payload_recv I (dst c i) i 0]; exact hput fd))
    $$ [HS Hl HO Ht1 Ht2]
  · isplitr; · iexact HI1
    isplitr; · iexact HI2
    isplitl [HS]; · iexact HS
    isplitl [Hl]; · iexact Hl
    isplitl [HO]; · iexact HO
    isplitl [Ht1]; · iexact Ht1
    isplitr; · iexact Hr1
    isplitl [Ht2]; · iexact Ht2
    iexact Hr2
  iintro ⟨Hc, HO⟩
  iapply Hk
  isplitr; · iexact Hr
  isplitl [HO]; · iexists W; iexact HO
  isplitl [Hge Hlt Hc]
  · isplitl [Hge]; · iexact Hge
    isplitl [Hc]; · iexact Hc
    iexact Hlt
  iexact HR

theorem copy_ph0 (c n : Dev nD) (i : Ed) (hp : ph i = 0) (hn : n = dst c i) {off : Fin 3 → ℕ} {off4 : Fin 4 → ℕ}
    {inb : ∀ a, off a + S1x64x512.size a ≤ S3x256x512.size a} {inb4 : ∀ a, off4 a + S1x1x64x512.size a ≤ S3x4x64x512.size a}
    (h : off = ![(lay i).val, 64 * ((rr c + kk i) % 4), 0]) (h4 : off4 = ![(lay i).val, (sl i).val, 0, 0])
    (sS rS : DmaSem sig) (hsS : sS = sendSem i) (hrS : rS = recvSem i)
    {hsc : ((V9 inb4 : Memref sig .tc .vmem S64x512 .bf16) : Memref sig (Dev.tc n : Thread nD τ).2.kind .vmem S64x512 .bf16).view.ref.isScScratch = false} {hsrc : (V8 inb).view.WordExact} {hdst : (V9 inb4).view.WordExact}
    {hsem : DmaTarget.Typed .vmem (.dma rS) (.remote (Dev.tc n : Thread nD τ) (V9 inb4 : Memref sig .tc .vmem S64x512 .bf16) (.dma sS) hsc)}
    (m : ℕ) {α : Type} {Q : α → sProp 𝕄} {k : PUnit → Prog (TpuEff nD τ sig (Elt F) Λ₀ .tc) α} :
    iprop(Core I c i.val m ∗ srcP I c i)
      ⊢ iprop((Core I c (i.val + 1) m -∗ WP c (k ⟨⟩) Q)
          -∗ WP c (.op (.enqueueDma (V8 inb) (.remote (Dev.tc n : Thread nD τ) (V9 inb4) (.dma sS) hsc) (.dma rS) hsrc hdst hsem) k) Q) := by
  have hrow : isRow i = true := by unfold isRow; rw [hp]; rfl
  have hd : dst c i = rowD c (kk i) := by unfold dst; rw [hrow]; rfl
  refine wp_copy I c n i hn (V8 inb) (V9 inb4) sS rS hsS hrS fullShare (gA I c) ?_ ?_ ?_ (fun fd => ?_) m
  · unfold amt; rw [hrow]; rfl
  · have e := set_V8 inb h
    unfold srcP; simp only [hp, if_true, if_false, Nat.reduceEqDiff, one_ne_zero, OfNat.ofNat_ne_zero, reduceIte]
    rw [e]
    show pt0 c (run 256 (lay i).val 0 64 (ahead (rr c)) (kf i)) fullShare (gA I c) = pt0 c (rows 256 (lay i).val (64 * ((rr c + kk i) % 4)) (64 * ((rr c + kk i) % 4) + 64)) fullShare (gA I c)
    have e2 : run 256 (lay i).val 0 64 (ahead (rr c)) (kf i) = rows 256 (lay i).val (64 * ((rr c + kk i) % 4)) (64 * ((rr c + kk i) % 4) + 64) := by
      show rows 256 (lay i).val (0 + 64 * ((rr c + kk i) % 4)) (0 + 64 * ((rr c + kk i) % 4) + 64) = _
      rw [Nat.zero_add]
    rw [e2]
  · unfold land; simp only [hp, if_true, if_false, Nat.reduceEqDiff, one_ne_zero, OfNat.ofNat_ne_zero, reduceIte]
    rw [set_V9 inb4 h4]
    exact BI.Entails.refl _
  · unfold landed; simp only [hp, if_true, if_false, Nat.reduceEqDiff, one_ne_zero, OfNat.ofNat_ne_zero, reduceIte]
    have hk : kk i + (sl i).val = 4 := by unfold kk sl; show i.val % 3 + 1 + (3 - i.val % 3) = 4; omega
    have hc := copy0 I c (lay i) (kk i) (sl i) hk inb inb4 h h4 fd
    rw [← hd] at hc
    rw [set_V9 inb4 h4]
    rw [pointsTo_congr hc]

theorem copy_ph1 (c n : Dev nD) (i : Ed) (hp : ph i = 1) (hn : n = dst c i) {off : Fin 3 → ℕ} {off4 : Fin 4 → ℕ}
    {inb : ∀ a, off a + S1x16x512.size a ≤ S3x64x512.size a} {inb4 : ∀ a, off4 a + S1x1x16x512.size a ≤ S3x4x16x512.size a}
    (h : off = ![(lay i).val, 16 * ((zz c + kk i) % 4), 0]) (h4 : off4 = ![(lay i).val, (sl i).val, 0, 0])
    (sS rS : DmaSem sig) (hsS : sS = sendSem i) (hrS : rS = recvSem i)
    {hsc : ((V11 inb4 : Memref sig .tc .vmem S16x512 .bf16) : Memref sig (Dev.tc n : Thread nD τ).2.kind .vmem S16x512 .bf16).view.ref.isScScratch = false} {hsrc : (V10 inb).view.WordExact} {hdst : (V11 inb4).view.WordExact}
    {hsem : DmaTarget.Typed .vmem (.dma rS) (.remote (Dev.tc n : Thread nD τ) (V11 inb4 : Memref sig .tc .vmem S16x512 .bf16) (.dma sS) hsc)}
    (m : ℕ) {α : Type} {Q : α → sProp 𝕄} {k : PUnit → Prog (TpuEff nD τ sig (Elt F) Λ₀ .tc) α} :
    iprop(Core I c i.val m ∗ srcP I c i)
      ⊢ iprop((Core I c (i.val + 1) m -∗ WP c (k ⟨⟩) Q)
          -∗ WP c (.op (.enqueueDma (V10 inb) (.remote (Dev.tc n : Thread nD τ) (V11 inb4) (.dma sS) hsc) (.dma rS) hsrc hdst hsem) k) Q) := by
  have hrow : isRow i = false := by unfold isRow; rw [hp]; rfl
  have hd : dst c i = colD c (kk i) := by unfold dst; rw [hrow]; rfl
  refine wp_copy I c n i hn (V10 inb) (V11 inb4) sS rS hsS hrS fullShare (gS I c) ?_ ?_ ?_ (fun fd => ?_) m
  · unfold amt; rw [hrow]; rfl
  · have e := set_V10 inb h
    unfold srcP; simp only [hp, if_true, if_false, Nat.reduceEqDiff, one_ne_zero, OfNat.ofNat_ne_zero, reduceIte]
    rw [e]
    show pt2 c (run 64 (lay i).val 0 16 (ahead (zz c)) (kf i)) fullShare (gS I c) = pt2 c (rows 64 (lay i).val (16 * ((zz c + kk i) % 4)) (16 * ((zz c + kk i) % 4) + 16)) fullShare (gS I c)
    have e2 : run 64 (lay i).val 0 16 (ahead (zz c)) (kf i) = rows 64 (lay i).val (16 * ((zz c + kk i) % 4)) (16 * ((zz c + kk i) % 4) + 16) := by
      show rows 64 (lay i).val (0 + 16 * ((zz c + kk i) % 4)) (0 + 16 * ((zz c + kk i) % 4) + 16) = _
      rw [Nat.zero_add]
    rw [e2]
  · unfold land; simp only [hp, if_true, if_false, Nat.reduceEqDiff, one_ne_zero, OfNat.ofNat_ne_zero, reduceIte]
    rw [set_V11 inb4 h4]
    exact BI.Entails.refl _
  · unfold landed; simp only [hp, if_true, if_false, Nat.reduceEqDiff, one_ne_zero, OfNat.ofNat_ne_zero, reduceIte]
    have hk : kk i + (sl i).val = 4 := by unfold kk sl; show i.val % 3 + 1 + (3 - i.val % 3) = 4; omega
    have hc := copy1 I c (lay i) (kk i) (sl i) hk inb inb4 h h4 fd
    rw [← hd] at hc
    rw [set_V11 inb4 h4]
    rw [pointsTo_congr hc]

theorem copy_ph2 (c n : Dev nD) (i : Ed) (hp : ph i = 2) (hn : n = dst c i) {off : Fin 3 → ℕ}
    {inb : ∀ a, off a + S1x16x512.size a ≤ S3x256x512.size a}
    (h : off = ![(lay i).val, 64 * rr c + 16 * zz c, 0])
    (sS rS : DmaSem sig) (hsS : sS = sendSem i) (hrS : rS = recvSem i)
    {hsc : ((V12 inb : Memref sig .tc .vmem S16x512 .bf16) : Memref sig (Dev.tc n : Thread nD τ).2.kind .vmem S16x512 .bf16).view.ref.isScScratch = false} {hsrc : (V12 inb).view.WordExact} {hdst : (V12 inb).view.WordExact}
    {hsem : DmaTarget.Typed .vmem (.dma rS) (.remote (Dev.tc n : Thread nD τ) (V12 inb : Memref sig .tc .vmem S16x512 .bf16) (.dma sS) hsc)}
    (m : ℕ) {α : Type} {Q : α → sProp 𝕄} {k : PUnit → Prog (TpuEff nD τ sig (Elt F) Λ₀ .tc) α} :
    iprop(Core I c i.val m ∗ srcP I c i)
      ⊢ iprop((Core I c (i.val + 1) m -∗ WP c (k ⟨⟩) Q)
          -∗ WP c (.op (.enqueueDma (V12 inb) (.remote (Dev.tc n : Thread nD τ) (V12 inb) (.dma sS) hsc) (.dma rS) hsrc hdst hsem) k) Q) := by
  have hrow : isRow i = false := by unfold isRow; rw [hp]; rfl
  have hd : dst c i = colD c (kk i) := by unfold dst; rw [hrow]; rfl
  have es := set_V12 inb h
  have hkf : (kf i).val = kk i := rfl
  have hk4 : kk i < 4 := by unfold kk; omega
  have hz := zz_lt c
  have e1 : run 256 (lay i).val (64 * rr c) 16 (behind (zz c)) 0 = rows 256 (lay i).val (64 * rr c + 16 * zz c) (64 * rr c + 16 * zz c + 16) := by
    show rows 256 (lay i).val (64 * rr c + 16 * ((zz c + (4 - 0)) % 4)) (64 * rr c + 16 * ((zz c + (4 - 0)) % 4) + 16) = _
    congr 1 <;> omega
  have e2 : run 256 (lay i).val (64 * rr (dst c i)) 16 (behind (zz (dst c i))) (kf i) = rows 256 (lay i).val (64 * rr c + 16 * zz c) (64 * rr c + 16 * zz c + 16) := by
    show rows 256 (lay i).val (64 * rr (dst c i) + 16 * ((zz (dst c i) + (4 - (kf i).val)) % 4)) (64 * rr (dst c i) + 16 * ((zz (dst c i) + (4 - (kf i).val)) % 4) + 16) = _
    rw [hd, hkf, zz_colD, rr_colD]
    congr 1 <;> omega
  refine wp_copy I c n i hn (V12 inb) (V12 inb) sS rS hsS hrS (shareTokN qR (i.val % 3)) (gH I) ?_ ?_ ?_ (fun fd => ?_) m
  · unfold amt; rw [hrow]; rfl
  · unfold srcP; simp only [hp, if_true, if_false, Nat.reduceEqDiff, one_ne_zero, OfNat.ofNat_ne_zero, reduceIte]
    rw [es, e1]
  · unfold land; simp only [hp, if_true, if_false, Nat.reduceEqDiff, one_ne_zero, OfNat.ofNat_ne_zero, reduceIte]
    rw [es, e2]
    exact BI.Entails.refl _
  · unfold landed; simp only [hp, if_true, if_false, Nat.reduceEqDiff, one_ne_zero, OfNat.ofNat_ne_zero, reduceIte]
    rw [es, e2]
    rw [pointsTo_congr (copy2 I (lay i).val (64 * rr c + 16 * zz c) inb h fd)]

theorem copy_ph3 (c n : Dev nD) (i : Ed) (hp : ph i = 3) (hn : n = dst c i) {off : Fin 3 → ℕ}
    {inb : ∀ a, off a + S1x64x512.size a ≤ S3x256x512.size a}
    (h : off = ![(lay i).val, 64 * rr c, 0])
    (sS rS : DmaSem sig) (hsS : sS = sendSem i) (hrS : rS = recvSem i)
    {hsc : ((V13 inb : Memref sig .tc .vmem S64x512 .bf16) : Memref sig (Dev.tc n : Thread nD τ).2.kind .vmem S64x512 .bf16).view.ref.isScScratch = false} {hsrc : (V13 inb).view.WordExact} {hdst : (V13 inb).view.WordExact}
    {hsem : DmaTarget.Typed .vmem (.dma rS) (.remote (Dev.tc n : Thread nD τ) (V13 inb : Memref sig .tc .vmem S64x512 .bf16) (.dma sS) hsc)}
    (m : ℕ) {α : Type} {Q : α → sProp 𝕄} {k : PUnit → Prog (TpuEff nD τ sig (Elt F) Λ₀ .tc) α} :
    iprop(Core I c i.val m ∗ srcP I c i)
      ⊢ iprop((Core I c (i.val + 1) m -∗ WP c (k ⟨⟩) Q)
          -∗ WP c (.op (.enqueueDma (V13 inb) (.remote (Dev.tc n : Thread nD τ) (V13 inb) (.dma sS) hsc) (.dma rS) hsrc hdst hsem) k) Q) := by
  have hrow : isRow i = true := by unfold isRow; rw [hp]; rfl
  have hd : dst c i = rowD c (kk i) := by unfold dst; rw [hrow]; rfl
  have es := set_V13 inb h
  have hkf : (kf i).val = kk i := rfl
  have hk4 : kk i < 4 := by unfold kk; omega
  have hz := rr_lt c
  have e1 : run 256 (lay i).val (0) 64 (behind (rr c)) 0 = rows 256 (lay i).val (64 * rr c) (64 * rr c + 64) := by
    show rows 256 (lay i).val (0 + 64 * ((rr c + (4 - 0)) % 4)) (0 + 64 * ((rr c + (4 - 0)) % 4) + 64) = _
    congr 1 <;> omega
  have e2 : run 256 (lay i).val (0) 64 (behind (rr (dst c i))) (kf i) = rows 256 (lay i).val (64 * rr c) (64 * rr c + 64) := by
    show rows 256 (lay i).val (0 + 64 * ((rr (dst c i) + (4 - (kf i).val)) % 4)) (0 + 64 * ((rr (dst c i) + (4 - (kf i).val)) % 4) + 64) = _
    rw [hd, hkf, rr_rowD]
    congr 1 <;> omega
  refine wp_copy I c n i hn (V13 inb) (V13 inb) sS rS hsS hrS (shareTokN qL (i.val % 3)) (gH I) ?_ ?_ ?_ (fun fd => ?_) m
  · unfold amt; rw [hrow]; rfl
  · unfold srcP; simp only [hp, if_true, if_false, Nat.reduceEqDiff, one_ne_zero, OfNat.ofNat_ne_zero, reduceIte]
    rw [es, e1]
  · unfold land; simp only [hp, if_true, if_false, Nat.reduceEqDiff, one_ne_zero, OfNat.ofNat_ne_zero, reduceIte]
    rw [es, e2]
    exact BI.Entails.refl _
  · unfold landed; simp only [hp, if_true, if_false, Nat.reduceEqDiff, one_ne_zero, OfNat.ofNat_ne_zero, reduceIte]
    rw [es, e2]
    rw [pointsTo_congr (copy3 I (lay i).val (64 * rr c) inb h fd)]

/-! ## The waits -/

theorem recs_levels : recs I ⊢ (levAts L lv : sProp 𝕄) := by unfold recs; iintro ⟨-, -, #H⟩; iexact H
set_option maxRecDepth 100000 in
theorem recs_may (c : Dev nD) (n : ℕ) (j : Ed) (hn : ∀ i : Ed, n ≤ i.val → 2 + j.val / 3 < 2 + i.val / 3) :
    recs I ⊢ MayWait (c : Thread nD τ) (.dma (recvSem j)) () (owedE c n) := by
  have h := mayWait_lt (F := F) c (.dma (recvSem j)) n (2 + j.val / 3) (le_of_eq (lv_recv c j ())) hn
  exact BI.Entails.trans (recs_levels I) h
set_option maxRecDepth 100000 in
theorem recs_may_ready (c : Dev nD) : recs I ⊢ MayWait (c : Thread nD τ) (.reg cc0_scratch13.sem) () (owedE c 0) := by
  have h := mayWait_lt (F := F) c (.reg cc0_scratch13.sem) 0 1 (le_of_eq (lv_ready c ())) (fun i _ => by omega)
  exact BI.Entails.trans (recs_levels I) h

theorem recv_wait (c : Dev nD) (n : ℕ) (j : Ed) (hn : ∀ i : Ed, n ≤ i.val → 2 + (rv j).val / 3 < 2 + i.val / 3) (sm : DmaSem sig) (hsm : sm = recvSem (rv j))
    {s s' : Shape} {e e' : EltTy} {A : Memref sig .tc .vmem s e} {B : Memref sig .tc .vmem s' e'} {hA : A.view.WordExact} {hB : B.view.WordExact}
    (hk : ∀ K : PUnit → sProp 𝕄, wpE (defs₀ (F := F)) 𝒱₀ (c : Thread nD τ) none Set.univ (.waitDma2 sm A B hA hB) K = waitSpec (c : Thread nD τ) Set.univ (.dma sm) (amt (rv j)) K)
    {α : Type} {Q : α → sProp 𝕄} {k : PUnit → Prog (TpuEff nD τ sig (Elt F) Λ₀ .tc) α} :
    Core I c n j.val
      ⊢ iprop((Core I c n (j.val + 1) -∗ landed I c (rv j) -∗ WP c (k ⟨⟩) Q) -∗ WP c (.op (.waitDma2 sm A B hA hB) k) Q) := by
  subst hsm
  unfold Core Ows Rcv
  rw [sep_ge j, sep_lt j]
  iintro ⟨#Hr, ⟨%W, HO⟩, HS, ⟨⟨⟨Hc, Hat⟩, Hge⟩, Hlt⟩⟩ Hk
  ihave #H1 := (recs_recv I c (rv j)) $$ Hr
  unfold cinv
  icases H1 with ⟨⟨%κ₁, #HI1⟩, #Hr1⟩
  iapply (Rounds.wp_wait_rest_token 𝒱₀ ER (sched I) (c : Thread nD τ) none (κ := κ₁)
      hk (Set.mem_univ _) () (O := owedE c n) (W := W) (R := 0) (m := 0) (T := ∅)
      (by rw [Nat.zero_add]; exact (expect_recv I c (rv j)).symm)) $$ [Hc HO Hat]
  · isplitr; · iexact HI1
    isplitl [Hc]; · iexact Hc
    isplitl [HO]; · iexact HO
    isplitr
    · iapply (recs_may I c n (rv j) hn); iexact Hr
    iexact Hat
  iintro ⟨HO, Hat, -, Hpay⟩
  ihave Hp := (Entails.of_eq (rest_recv I c (rv j))) $$ Hpay
  imod (Rounds.cell_close ER (sched I) (Set.mem_univ κ₁) (fun h => h) (R := 0 + 1) (duties_later I (recvCell c (rv j)))) $$ [Hat] with Hz
  · isplitr; · iexact HI1
    iexact Hat
  iapply Hk $$ [HO HS Hge Hlt Hz] [Hp]
  · isplitr; · iexact Hr
    isplitl [HO]; · iexists _; iexact HO
    isplitl [HS]; · iexact HS
    isplitl [Hge]; · iexact Hge
    isplitl [Hz]; · iexact Hz
    iexact Hlt
  · iexact Hp

theorem send_wait (c : Dev nD) (j : Ed) (sm : DmaSem sig) (hsm : sm = sendSem j)
    {s s' : Shape} {e e' : EltTy} {A : Memref sig .tc .vmem s e} {B : Memref sig .tc .vmem s' e'} {hA : A.view.WordExact} {hB : B.view.WordExact}
    (hk : ∀ K : PUnit → sProp 𝕄, wpE (defs₀ (F := F)) 𝒱₀ (c : Thread nD τ) none Set.univ (.waitDma2 sm A B hA hB) K = waitSpec (c : Thread nD τ) Set.univ (.dma sm) (amt j) K)
    {α : Type} {Q : α → sProp 𝕄} {k : PUnit → Prog (TpuEff nD τ sig (Elt F) Λ₀ .tc) α} :
    Tail I c j.val
      ⊢ iprop((Tail I c (j.val + 1) -∗ WP c (k ⟨⟩) Q) -∗ WP c (.op (.waitDma2 sm A B hA hB) k) Q) := by
  subst hsm
  unfold Tail Ows Swt
  rw [sep_ge j, sep_lt j]
  iintro ⟨#Hr, ⟨%W, HO⟩, ⟨⟨⟨Hc, Hat⟩, Hge⟩, Hlt⟩⟩ Hk
  ihave #H1 := (recs_send I c j) $$ Hr
  unfold cinv
  icases H1 with ⟨⟨%κ₁, #HI1⟩, #Hr1⟩
  iapply (Rounds.wp_wait_rest_token 𝒱₀ ER (sched I) (c : Thread nD τ) none (κ := κ₁)
      hk (Set.mem_univ _) () (O := owedE c 36) (W := W) (R := 0) (m := 0) (T := ∅)
      (by rw [Nat.zero_add]; exact (expect_send I c j).symm)) $$ [Hc HO Hat]
  · isplitr; · iexact HI1
    isplitl [Hc]; · iexact Hc
    isplitl [HO]; · iexact HO
    isplitr
    · rw [owedE_all, MayWait_zero]; iempintro
    iexact Hat
  iintro ⟨HO, Hat, -, Hpay⟩
  ihave Hp := (Entails.of_eq (rest_send I c j)) $$ Hpay
  imod (Rounds.cell_close ER (sched I) (Set.mem_univ κ₁) (fun h => h) (R := 0 + 1) (duties_later I (sendCell c j))) $$ [Hat] with Hz
  · isplitr; · iexact HI1
    iexact Hat
  iapply Hk
  isplitr; · iexact Hr
  isplitl [HO]; · iexists _; iexact HO
  isplitl [Hge]; · iexact Hge
  isplitl [Hz Hp]
  · isplitl [Hz] <;> iassumption
  iexact Hlt

end Cert.MlpProof

end
-- ==== Proof.Slabs.lean ====
/- Cutting the buffers into the pieces that travel, and putting the pieces together again. -/
module

public import proofs.«01_k».proof.Proof.Steps

@[expose] public section

noncomputable section

namespace Cert.MlpProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_range)
open Idealize.ShloMosaic.Pipeline (Dat Cfg Window BodyObligation cellOf)

variable {F : FTy → Type} [FloatOps F]

local notation "𝕄" => MT nD τ sig Unit (Elt F) ℕ UU ℕ

variable (I : Inp F)

/-! ## Products over small index types -/

theorem sep3 {M : Type} [URA M] (Φ : Fin 3 → sProp M) : bigSep Finset.univ Φ = iprop(Φ 0 ∗ Φ 1 ∗ Φ 2) :=
  bigSep_univ_eq_bigSepL [(0 : Fin 3), 1, 2] (by decide) (by decide) Φ
theorem sep4 {M : Type} [URA M] (Φ : Fin 4 → sProp M) : bigSep Finset.univ Φ = iprop(Φ 0 ∗ Φ 1 ∗ Φ 2 ∗ Φ 3) :=
  bigSep_univ_eq_bigSepL [(0 : Fin 4), 1, 2, 3] (by decide) (by decide) Φ
theorem sep6 {M : Type} [URA M] (Φ : Fin 6 → sProp M) : bigSep Finset.univ Φ = iprop(Φ 0 ∗ Φ 1 ∗ Φ 2 ∗ Φ 3 ∗ Φ 4 ∗ Φ 5) :=
  bigSep_univ_eq_bigSepL [(0 : Fin 6), 1, 2, 3, 4, 5] (by decide) (by decide) Φ

/-! ## A slab in four runs -/

section Cut
omit [FloatOps F]

theorem cut0 (c : Dev nD) (l : ℕ) (σ : Fin 4 → ℕ) (hσ : ∀ q, q < 4 → ∃ k, σ k = q) (hlt : ∀ k, σ k < 4) (hinj : Function.Injective σ) (q : PosShare TreeShare) (f : S3x256x512.Idx → Elt F .bf16) :
    pt0 c (rows 256 l 0 256) q f = iprop(pt0 c (run 256 l 0 64 σ 0) q f ∗ pt0 c (run 256 l 0 64 σ 1) q f ∗ pt0 c (run 256 l 0 64 σ 2) q f ∗ pt0 c (run 256 l 0 64 σ 3) q f) := by
  rw [show rows 256 l 0 256 = Finset.univ.biUnion (run 256 l 0 64 σ) from (by rw [Nat.zero_add] : rows 256 l 0 256 = rows 256 l 0 (0 + 256)).trans (rows_cut 256 l 0 64 σ hσ hlt)]
  exact (pointsTo_biUnion (ℓ := (c : Thread nD τ).loc cc0_scratch0) Finset.univ (run 256 l 0 64 σ) (fun k _ k' _ h => rows_disj 256 l 0 64 σ hinj k k' h)).trans (sep4 _)

theorem cut2 (c : Dev nD) (l : ℕ) (σ : Fin 4 → ℕ) (hσ : ∀ q, q < 4 → ∃ k, σ k = q) (hlt : ∀ k, σ k < 4) (hinj : Function.Injective σ) (q : PosShare TreeShare) (f : S3x64x512.Idx → Elt F .bf16) :
    pt2 c (rows 64 l 0 64) q f = iprop(pt2 c (run 64 l 0 16 σ 0) q f ∗ pt2 c (run 64 l 0 16 σ 1) q f ∗ pt2 c (run 64 l 0 16 σ 2) q f ∗ pt2 c (run 64 l 0 16 σ 3) q f) := by
  rw [show rows 64 l 0 64 = Finset.univ.biUnion (run 64 l 0 16 σ) from (by rw [Nat.zero_add] : rows 64 l 0 64 = rows 64 l 0 (0 + 64)).trans (rows_cut 64 l 0 16 σ hσ hlt)]
  exact (pointsTo_biUnion (ℓ := (c : Thread nD τ).loc cc0_scratch2) Finset.univ (run 64 l 0 16 σ) (fun k _ k' _ h => rows_disj 64 l 0 16 σ hinj k k' h)).trans (sep4 _)

theorem cut4 (c : Dev nD) (l : ℕ) (σ : Fin 4 → ℕ) (hσ : ∀ q, q < 4 → ∃ k, σ k = q) (hlt : ∀ k, σ k < 4) (hinj : Function.Injective σ) (q : PosShare TreeShare) (f : S3x256x512.Idx → Elt F .bf16) :
    pt4 c (rows 256 l 0 256) q f = iprop(pt4 c (run 256 l 0 64 σ 0) q f ∗ pt4 c (run 256 l 0 64 σ 1) q f ∗ pt4 c (run 256 l 0 64 σ 2) q f ∗ pt4 c (run 256 l 0 64 σ 3) q f) := by
  rw [show rows 256 l 0 256 = Finset.univ.biUnion (run 256 l 0 64 σ) from (by rw [Nat.zero_add] : rows 256 l 0 256 = rows 256 l 0 (0 + 256)).trans (rows_cut 256 l 0 64 σ hσ hlt)]
  exact (pointsTo_biUnion (ℓ := (c : Thread nD τ).loc cc0_scratch4) Finset.univ (run 256 l 0 64 σ) (fun k _ k' _ h => rows_disj 256 l 0 64 σ hinj k k' h)).trans (sep4 _)

theorem cut4s (c : Dev nD) (l : ℕ) (a : ℕ) (σ : Fin 4 → ℕ) (hσ : ∀ q, q < 4 → ∃ k, σ k = q) (hlt : ∀ k, σ k < 4) (hinj : Function.Injective σ) (q : PosShare TreeShare) (f : S3x256x512.Idx → Elt F .bf16) :
    pt4 c (rows 256 l a (a + 64)) q f = iprop(pt4 c (run 256 l a 16 σ 0) q f ∗ pt4 c (run 256 l a 16 σ 1) q f ∗ pt4 c (run 256 l a 16 σ 2) q f ∗ pt4 c (run 256 l a 16 σ 3) q f) := by
  rw [show rows 256 l a (a + 64) = Finset.univ.biUnion (run 256 l a 16 σ) from rows_cut 256 l a 16 σ hσ hlt]
  exact (pointsTo_biUnion (ℓ := (c : Thread nD τ).loc cc0_scratch4) Finset.univ (run 256 l a 16 σ) (fun k _ k' _ h => rows_disj 256 l a 16 σ hinj k k' h)).trans (sep4 _)

end Cut

/-! ## A share in four -/

omit [FloatOps F] in
theorem share_cut (c : Dev nD) (S : Finset S3x256x512.Idx) (q : PosShare TreeShare) (f : S3x256x512.Idx → Elt F .bf16) :
    pt4 c S q f ⊣⊢ iprop(pt4 c S (shareDrop q 3) f ∗ pt4 c S (shareTokN q 0) f ∗ pt4 c S (shareTokN q 1) f ∗ pt4 c S (shareTokN q 2) f) := by
  have h := pointsTo_toks_range (ℓ := (c : Thread nD τ).loc cc0_scratch4) (S := S) (f := f) (Val := Elt F) (Ix := Unit) (Name := ℕ) (U := UU) (Lvl := ℕ) q 3
  rw [show bigSep (Finset.range 3) (fun i => (((c : Thread nD τ).loc cc0_scratch4) ↦[S]{shareTokN q i} f : sProp 𝕄))
    = iprop(pt4 c S (shareTokN q 0) f ∗ pt4 c S (shareTokN q 1) f ∗ pt4 c S (shareTokN q 2) f) from by
      rw [show Finset.range 3 = {0, 1, 2} from by decide, bigSep_insert (by decide), bigSep_insert (by decide), bigSep_singleton]; rfl] at h
  exact h
omit [FloatOps F] in
theorem share_half (c : Dev nD) (S : Finset S3x256x512.Idx) (f : S3x256x512.Idx → Elt F .bf16) :
    pt4 c S fullShare f ⊣⊢ iprop(pt4 c S qL f ∗ pt4 c S qR f) := pointsTo_share (PosShare.mem_left_op_right _)

/-! ## What a copy reads and where it lands, by phase -/

section Phases
variable (c : Dev nD) {i : Ed}

theorem srcP_0 (hp : ph i = 0) : srcP I c i = pt0 c (run 256 (lay i).val 0 64 (ahead (rr c)) (kf i)) fullShare (gA I c) := by
  unfold srcP; simp only [hp, if_true, if_false, Nat.reduceEqDiff, one_ne_zero, OfNat.ofNat_ne_zero, reduceIte]

theorem srcP_1 (hp : ph i = 1) : srcP I c i = pt2 c (run 64 (lay i).val 0 16 (ahead (zz c)) (kf i)) fullShare (gS I c) := by
  unfold srcP; simp only [hp, if_true, if_false, Nat.reduceEqDiff, one_ne_zero, OfNat.ofNat_ne_zero, reduceIte]

theorem srcP_2 (hp : ph i = 2) : srcP I c i = pt4 c (run 256 (lay i).val (64 * rr c) 16 (behind (zz c)) 0) (shareTokN qR (i.val % 3)) (gH I) := by
  unfold srcP; simp only [hp, if_true, if_false, Nat.reduceEqDiff, one_ne_zero, OfNat.ofNat_ne_zero, reduceIte]

theorem srcP_3 (hp : ph i = 3) : srcP I c i = pt4 c (run 256 (lay i).val 0 64 (behind (rr c)) 0) (shareTokN qL (i.val % 3)) (gH I) := by
  unfold srcP; simp only [hp, if_true, if_false, Nat.reduceEqDiff, one_ne_zero, OfNat.ofNat_ne_zero, reduceIte]

theorem landed_0 (hp : ph i = 0) : landed I c i = pt1 c (slot 64 (lay i).val (sl i).val) fullShare (gR1 I c) := by
  unfold landed; simp only [hp, if_true, if_false, Nat.reduceEqDiff, one_ne_zero, OfNat.ofNat_ne_zero, reduceIte]

theorem landed_1 (hp : ph i = 1) : landed I c i = pt3 c (slot 16 (lay i).val (sl i).val) fullShare (gR2 I c) := by
  unfold landed; simp only [hp, if_true, if_false, Nat.reduceEqDiff, one_ne_zero, OfNat.ofNat_ne_zero, reduceIte]

theorem landed_2 (hp : ph i = 2) : landed I c i = pt4 c (run 256 (lay i).val (64 * rr c) 16 (behind (zz c)) (kf i)) fullShare (gH I) := by
  unfold landed; simp only [hp, if_true, if_false, Nat.reduceEqDiff, one_ne_zero, OfNat.ofNat_ne_zero, reduceIte]

theorem landed_3 (hp : ph i = 3) : landed I c i = pt4 c (run 256 (lay i).val 0 64 (behind (rr c)) (kf i)) fullShare (gH I) := by
  unfold landed; simp only [hp, if_true, if_false, Nat.reduceEqDiff, one_ne_zero, OfNat.ofNat_ne_zero, reduceIte]
omit [FloatOps F] in
theorem land_0 (hp : ph i = 0) : (land c i : sProp 𝕄) = iprop(∃ f, pt1 c (slot 64 (lay i).val (sl i).val) fullShare f) := by
  unfold land; simp only [hp, if_true, if_false, Nat.reduceEqDiff, one_ne_zero, OfNat.ofNat_ne_zero, reduceIte]
omit [FloatOps F] in
theorem land_1 (hp : ph i = 1) : (land c i : sProp 𝕄) = iprop(∃ f, pt3 c (slot 16 (lay i).val (sl i).val) fullShare f) := by
  unfold land; simp only [hp, if_true, if_false, Nat.reduceEqDiff, one_ne_zero, OfNat.ofNat_ne_zero, reduceIte]
omit [FloatOps F] in
theorem land_2 (hp : ph i = 2) : (land c i : sProp 𝕄) = iprop(∃ f, pt4 c (run 256 (lay i).val (64 * rr c) 16 (behind (zz c)) (kf i)) fullShare f) := by
  unfold land; simp only [hp, if_true, if_false, Nat.reduceEqDiff, one_ne_zero, OfNat.ofNat_ne_zero, reduceIte]
omit [FloatOps F] in
theorem land_3 (hp : ph i = 3) : (land c i : sProp 𝕄) = iprop(∃ f, pt4 c (run 256 (lay i).val 0 64 (behind (rr c)) (kf i)) fullShare f) := by
  unfold land; simp only [hp, if_true, if_false, Nat.reduceEqDiff, one_ne_zero, OfNat.ofNat_ne_zero, reduceIte]

end Phases

/-- The three copies of phase `p` of layer `l`. -/
structure Trio (l : Fin 3) (p : ℕ) (i₁ i₂ i₃ : Ed) : Prop where
  h₁ : i₁.val = 12 * l.val + 3 * p
  h₂ : i₂.val = 12 * l.val + 3 * p + 1
  h₃ : i₃.val = 12 * l.val + 3 * p + 2
  hp : p < 4

section Trio
variable {l : Fin 3} {p : ℕ} {i₁ i₂ i₃ : Ed} (h : Trio l p i₁ i₂ i₃)
include h
theorem Trio.ph₁ : ph i₁ = p := by have := h.h₁; have := h.hp; unfold ph; omega
theorem Trio.ph₂ : ph i₂ = p := by have := h.h₂; have := h.hp; unfold ph; omega
theorem Trio.ph₃ : ph i₃ = p := by have := h.h₃; have := h.hp; unfold ph; omega
theorem Trio.lay₁ : lay i₁ = l := by have := h.h₁; have := h.hp; exact Fin.ext (show i₁.val / 12 = l.val by omega)
theorem Trio.lay₂ : lay i₂ = l := by have := h.h₂; have := h.hp; exact Fin.ext (show i₂.val / 12 = l.val by omega)
theorem Trio.lay₃ : lay i₃ = l := by have := h.h₃; have := h.hp; exact Fin.ext (show i₃.val / 12 = l.val by omega)
theorem Trio.m₁ : i₁.val % 3 = 0 := by have := h.h₁; omega
theorem Trio.m₂ : i₂.val % 3 = 1 := by have := h.h₂; omega
theorem Trio.m₃ : i₃.val % 3 = 2 := by have := h.h₃; omega
theorem Trio.k₁ : kf i₁ = 1 := Fin.ext (show i₁.val % 3 + 1 = 1 by rw [h.m₁])
theorem Trio.k₂ : kf i₂ = 2 := Fin.ext (show i₂.val % 3 + 1 = 2 by rw [h.m₂])
theorem Trio.k₃ : kf i₃ = 3 := Fin.ext (show i₃.val % 3 + 1 = 3 by rw [h.m₃])
theorem Trio.s₁ : sl i₁ = 3 := Fin.ext (show 3 - i₁.val % 3 = 3 by rw [h.m₁])
theorem Trio.s₂ : sl i₂ = 2 := Fin.ext (show 3 - i₂.val % 3 = 2 by rw [h.m₂])
theorem Trio.s₃ : sl i₃ = 1 := Fin.ext (show 3 - i₃.val % 3 = 1 by rw [h.m₃])
end Trio

/-! ## The pieces kept -/

/-- Plane `l` of the partial products: before, and after, what this device keeps of it. -/
def A0 (c : Dev nD) (l : Fin 3) : sProp 𝕄 := iprop(∃ f, pt0 c (rows 256 l.val 0 256) fullShare f)
def A1 (c : Dev nD) (l : Fin 3) : sProp 𝕄 := pt0 c (run 256 l.val 0 64 (ahead (rr c)) 0) fullShare (gA I c)
/-- Plane `l` of the row sums. -/
def S0 (c : Dev nD) (l : Fin 3) : sProp 𝕄 := iprop(∃ f, pt2 c (rows 64 l.val 0 64) fullShare f)
def S1 (c : Dev nD) (l : Fin 3) : sProp 𝕄 := pt2 c (run 64 l.val 0 16 (ahead (zz c)) 0) fullShare (gS I c)
/-- Plane `l` of the full sums: the sixteen rows this device computes. -/
abbrev Q4 (c : Dev nD) (l : Fin 3) (k : Fin 4) : Finset S3x256x512.Idx := run 256 l.val (64 * rr c) 16 (behind (zz c)) k
abbrev B4 (c : Dev nD) (l : Fin 3) (k : Fin 4) : Finset S3x256x512.Idx := run 256 l.val 0 64 (behind (rr c)) k
def H0 (c : Dev nD) (l : Fin 3) : sProp 𝕄 := iprop(∃ f, pt4 c (Q4 c l 0) fullShare f)
def H1 (c : Dev nD) (l : Fin 3) : sProp 𝕄 := iprop(pt4 c (Q4 c l 0) qL (gH I) ∗ pt4 c (Q4 c l 0) (shareDrop qR 3) (gH I))
/-- Kept aside of the block once it is gathered in the column. -/
def HR (c : Dev nD) (l : Fin 3) : sProp 𝕄 :=
  iprop(pt4 c (Q4 c l 0) (shareDrop qR 3) (gH I) ∗ pt4 c (Q4 c l 1) qR (gH I) ∗ pt4 c (Q4 c l 2) qR (gH I) ∗ pt4 c (Q4 c l 3) qR (gH I))
def H2 (c : Dev nD) (l : Fin 3) : sProp 𝕄 := iprop(pt4 c (B4 c l 0) (shareDrop qL 3) (gH I) ∗ HR I c l)
/-- Kept aside of another block. -/
def HB (c : Dev nD) (l : Fin 3) (k : Fin 4) : sProp 𝕄 :=
  iprop(pt4 c (B4 c l k) qR (gH I) ∗ pt4 c (B4 c l k) (shareTokN qL 0) (gH I) ∗ pt4 c (B4 c l k) (shareTokN qL 1) (gH I) ∗ pt4 c (B4 c l k) (shareTokN qL 2) (gH I))
/-- The plane, to read. -/
def HP (c : Dev nD) (l : Fin 3) : sProp 𝕄 := pt4 c (rows 256 l.val 0 256) (shareDrop qL 3) (gH I)
def HK (c : Dev nD) (l : Fin 3) : sProp 𝕄 := iprop(HR I c l ∗ HB I c l 1 ∗ HB I c l 2 ∗ HB I c l 3)

section Merge
variable (c : Dev nD) {l : Fin 3} {i₁ i₂ i₃ j₁ j₂ j₃ : Ed}

theorem split_A (h : Trio l 0 i₁ i₂ i₃) : pt0 c (rows 256 l.val 0 256) fullShare (gA I c) = iprop(A1 I c l ∗ srcP I c i₁ ∗ srcP I c i₂ ∗ srcP I c i₃) := by
  rw [srcP_0 I c h.ph₁, srcP_0 I c h.ph₂, srcP_0 I c h.ph₃, h.lay₁, h.lay₂, h.lay₃, h.k₁, h.k₂, h.k₃]
  exact cut0 c l.val (ahead (rr c)) (ahead_surj _) (ahead_lt _) (ahead_inj _) fullShare (gA I c)
theorem split_S (h : Trio l 1 i₁ i₂ i₃) : pt2 c (rows 64 l.val 0 64) fullShare (gS I c) = iprop(S1 I c l ∗ srcP I c i₁ ∗ srcP I c i₂ ∗ srcP I c i₃) := by
  rw [srcP_1 I c h.ph₁, srcP_1 I c h.ph₂, srcP_1 I c h.ph₃, h.lay₁, h.lay₂, h.lay₃, h.k₁, h.k₂, h.k₃]
  exact cut2 c l.val (ahead (zz c)) (ahead_surj _) (ahead_lt _) (ahead_inj _) fullShare (gS I c)
theorem split_H (h : Trio l 2 i₁ i₂ i₃) : pt4 c (Q4 c l 0) fullShare (gH I) ⊢ iprop(H1 I c l ∗ srcP I c i₁ ∗ srcP I c i₂ ∗ srcP I c i₃) := by
  rw [srcP_2 I c h.ph₁, srcP_2 I c h.ph₂, srcP_2 I c h.ph₃, h.lay₁, h.lay₂, h.lay₃, h.m₁, h.m₂, h.m₃]
  unfold H1
  iintro H
  ihave H := (share_half c (Q4 c l 0) (gH I)).1 $$ H
  icases H with ⟨HL, HR⟩
  ihave H := (share_cut c (Q4 c l 0) qR (gH I)).1 $$ HR
  icases H with ⟨Hd, H0, H1, H2⟩
  isplitl [HL Hd]; · isplitl [HL] <;> iassumption
  isplitl [H0]; · iexact H0
  isplitl [H1] <;> iassumption
/-- The block complete: its share to lend to the last phase. -/
theorem merge_2 (h : Trio l 2 i₁ i₂ i₃) (h' : Trio l 3 j₁ j₂ j₃) :
    iprop(H1 I c l ∗ landed I c i₁ ∗ landed I c i₂ ∗ landed I c i₃) ⊢ iprop(H2 I c l ∗ srcP I c j₁ ∗ srcP I c j₂ ∗ srcP I c j₃) := by
  rw [srcP_3 I c h'.ph₁, srcP_3 I c h'.ph₂, srcP_3 I c h'.ph₃, h'.lay₁, h'.lay₂, h'.lay₃, h'.m₁, h'.m₂, h'.m₃,
    landed_2 I c h.ph₁, landed_2 I c h.ph₂, landed_2 I c h.ph₃, h.lay₁, h.lay₂, h.lay₃, h.k₁, h.k₂, h.k₃]
  unfold H1 H2 HR
  iintro ⟨⟨HL0, HR0⟩, Q1, Q2, Q3⟩
  ihave Q1 := (share_half c (Q4 c l 1) (gH I)).1 $$ Q1
  icases Q1 with ⟨HL1, HR1⟩
  ihave Q2 := (share_half c (Q4 c l 2) (gH I)).1 $$ Q2
  icases Q2 with ⟨HL2, HR2⟩
  ihave Q3 := (share_half c (Q4 c l 3) (gH I)).1 $$ Q3
  icases Q3 with ⟨HL3, HR3⟩
  have e : pt4 c (B4 c l 0) qL (gH I) = iprop(pt4 c (Q4 c l 0) qL (gH I) ∗ pt4 c (Q4 c l 1) qL (gH I) ∗ pt4 c (Q4 c l 2) qL (gH I) ∗ pt4 c (Q4 c l 3) qL (gH I)) := by
    have hr := rr_lt c
    rw [show B4 c l 0 = rows 256 l.val (64 * rr c) (64 * rr c + 64) from by
      show rows 256 l.val (0 + 64 * ((rr c + (4 - 0)) % 4)) (0 + 64 * ((rr c + (4 - 0)) % 4) + 64) = _
      congr 1 <;> omega]
    exact cut4s c l.val (64 * rr c) (behind (zz c)) (behind_surj _) (behind_lt _) (behind_inj _) qL (gH I)
  ihave HB := (Entails.of_eq e.symm) $$ [HL0 HL1 HL2 HL3]
  · isplitl [HL0]; · iexact HL0
    isplitl [HL1]; · iexact HL1
    isplitl [HL2] <;> iassumption
  ihave H := (share_cut c (B4 c l 0) qL (gH I)).1 $$ HB
  icases H with ⟨Hd, H0, H1, H2⟩
  isplitl [Hd HR0 HR1 HR2 HR3]
  · isplitl [Hd]; · iexact Hd
    isplitl [HR0]; · iexact HR0
    isplitl [HR1]; · iexact HR1
    isplitl [HR2] <;> iassumption
  isplitl [H0]; · iexact H0
  isplitl [H1] <;> iassumption
/-- A block arrived: the share kept to read. -/
theorem block_in (k : Fin 4) : pt4 c (B4 c l k) fullShare (gH I) ⊣⊢ iprop(pt4 c (B4 c l k) (shareDrop qL 3) (gH I) ∗ HB I c l k) := by
  unfold HB
  constructor
  · iintro H
    ihave H := (share_half c (B4 c l k) (gH I)).1 $$ H
    icases H with ⟨HL, HR⟩
    ihave H := (share_cut c (B4 c l k) qL (gH I)).1 $$ HL
    icases H with ⟨Hd, H0, H1, H2⟩
    isplitl [Hd]; · iexact Hd
    isplitl [HR]; · iexact HR
    isplitl [H0]; · iexact H0
    isplitl [H1] <;> iassumption
  · iintro ⟨Hd, HR, H0, H1, H2⟩
    iapply (share_half c (B4 c l k) (gH I)).2
    isplitr [HR]
    · iapply (share_cut c (B4 c l k) qL (gH I)).2
      isplitl [Hd]; · iexact Hd
      isplitl [H0]; · iexact H0
      isplitl [H1] <;> iassumption
    · iexact HR
/-- The plane complete. -/
theorem merge_3 (h : Trio l 3 i₁ i₂ i₃) :
    iprop(H2 I c l ∗ landed I c i₁ ∗ landed I c i₂ ∗ landed I c i₃) ⊢ iprop(HP I c l ∗ HK I c l) := by
  rw [landed_3 I c h.ph₁, landed_3 I c h.ph₂, landed_3 I c h.ph₃, h.lay₁, h.lay₂, h.lay₃, h.k₁, h.k₂, h.k₃]
  unfold H2 HP HK
  iintro ⟨⟨HB0, HR⟩, Q1, Q2, Q3⟩
  ihave Q1 := (block_in I c 1).1 $$ Q1
  icases Q1 with ⟨HB1, HK1⟩
  ihave Q2 := (block_in I c 2).1 $$ Q2
  icases Q2 with ⟨HB2, HK2⟩
  ihave Q3 := (block_in I c 3).1 $$ Q3
  icases Q3 with ⟨HB3, HK3⟩
  isplitl [HB0 HB1 HB2 HB3]
  · iapply (Entails.of_eq (cut4 c l.val (behind (rr c)) (behind_surj _) (behind_lt _) (behind_inj _) (shareDrop qL 3) (gH I)).symm)
    isplitl [HB0]; · iexact HB0
    isplitl [HB1]; · iexact HB1
    isplitl [HB2] <;> iassumption
  isplitl [HR]; · iexact HR
  isplitl [HK1]; · iexact HK1
  isplitl [HK2] <;> iassumption
/-- At the end: everything lent has come back. -/
theorem whole_H (h : Trio l 2 i₁ i₂ i₃) (h' : Trio l 3 j₁ j₂ j₃) :
    iprop((HP I c l ∗ HK I c l) ∗ (srcP I c i₁ ∗ srcP I c i₂ ∗ srcP I c i₃) ∗ srcP I c j₁ ∗ srcP I c j₂ ∗ srcP I c j₃)
      ⊢ pt4 c (rows 256 l.val 0 256) fullShare (gH I) := by
  rw [srcP_3 I c h'.ph₁, srcP_3 I c h'.ph₂, srcP_3 I c h'.ph₃, h'.lay₁, h'.lay₂, h'.lay₃, h'.m₁, h'.m₂, h'.m₃,
    srcP_2 I c h.ph₁, srcP_2 I c h.ph₂, srcP_2 I c h.ph₃, h.lay₁, h.lay₂, h.lay₃, h.m₁, h.m₂, h.m₃]
  unfold HP HK HR
  iintro ⟨⟨HP, ⟨Rd, R1, R2, R3⟩, K1, K2, K3⟩, ⟨T0, T1, T2⟩, U0, U1, U2⟩
  ihave HP := (Entails.of_eq (cut4 c l.val (behind (rr c)) (behind_surj _) (behind_lt _) (behind_inj _) (shareDrop qL 3) (gH I))) $$ HP
  icases HP with ⟨D0, D1, D2, D3⟩
  have e : pt4 c (B4 c l 0) qR (gH I) = iprop(pt4 c (Q4 c l 0) qR (gH I) ∗ pt4 c (Q4 c l 1) qR (gH I) ∗ pt4 c (Q4 c l 2) qR (gH I) ∗ pt4 c (Q4 c l 3) qR (gH I)) := by
    have hr := rr_lt c
    rw [show B4 c l 0 = rows 256 l.val (64 * rr c) (64 * rr c + 64) from by
      show rows 256 l.val (0 + 64 * ((rr c + (4 - 0)) % 4)) (0 + 64 * ((rr c + (4 - 0)) % 4) + 64) = _
      congr 1 <;> omega]
    exact cut4s c l.val (64 * rr c) (behind (zz c)) (behind_surj _) (behind_lt _) (behind_inj _) qR (gH I)
  ihave R0 := (share_cut c (Q4 c l 0) qR (gH I)).2 $$ [Rd T0 T1 T2]
  · isplitl [Rd]; · iexact Rd
    isplitl [T0]; · iexact T0
    isplitl [T1] <;> iassumption
  ihave HBR := (Entails.of_eq e.symm) $$ [R0 R1 R2 R3]
  · isplitl [R0]; · iexact R0
    isplitl [R1]; · iexact R1
    isplitl [R2] <;> iassumption
  ihave HBL := (share_cut c (B4 c l 0) qL (gH I)).2 $$ [D0 U0 U1 U2]
  · isplitl [D0]; · iexact D0
    isplitl [U0]; · iexact U0
    isplitl [U1] <;> iassumption
  ihave X0 := (share_half c (B4 c l 0) (gH I)).2 $$ [HBL HBR]
  · isplitl [HBL] <;> iassumption
  ihave X1 := (block_in I c 1).2 $$ [D1 K1]
  · isplitl [D1] <;> iassumption
  ihave X2 := (block_in I c 2).2 $$ [D2 K2]
  · isplitl [D2] <;> iassumption
  ihave X3 := (block_in I c 3).2 $$ [D3 K3]
  · isplitl [D3] <;> iassumption
  iapply (Entails.of_eq (cut4 c l.val (behind (rr c)) (behind_surj _) (behind_lt _) (behind_inj _) fullShare (gH I)).symm)
  isplitl [X0]; · iexact X0
  isplitl [X1]; · iexact X1
  isplitl [X2] <;> iassumption

end Merge

end Cert.MlpProof

end
-- ==== Proof.Steps2.lean ====
/- The steps of the kernel's body: loads, stores, the signals and the wait at the start. -/
module

public import proofs.«01_k».proof.Proof.Slabs

@[expose] public section

noncomputable section

namespace Cert.MlpProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_range)
open Idealize.ShloMosaic.Pipeline (Dat Cfg Window BodyObligation cellOf)

variable {F : FTy → Type} [FloatOps F]

local notation "𝕄" => MT nD τ sig Unit (Elt F) ℕ UU ℕ

variable (I : Inp F) {α : Type}

/-! ## Loads -/

theorem setOn_whole (b : Ref sig .tc) (r : Rect b.ty.shape) : (View.whole b).setOn r.set = r.set := (View.set_slice (View.whole b) r).symm.trans (View.set_slice_whole b r)

theorem ld {Q : α → sProp 𝕄} (c : Dev nD) {s : Shape} {e : EltTy} (m : Memref sig .tc .vmem s e) (r : Rect s) {hl : m.view.LoadsAt r.toLoadRect} {S : Finset (Idx (m.view.loc (c : Thread nD τ)))} {q : PosShare TreeShare} {f : Buf (Elt F) (m.view.loc (c : Thread nD τ))}
    {v : r.shape.Idx → Elt F e} (hS : m.view.setOn r.set ⊆ S) (hv : m.view.readAt (Elt F) r.toLoadRect f = v) {k : (r.shape.Idx → Elt F e) → Prog (TpuEff nD τ sig (Elt F) Λ₀ .tc) α} :
    (m.view.loc (c : Thread nD τ) ↦[S]{q} f) ⊢ iprop(((m.view.loc (c : Thread nD τ) ↦[S]{q} f) -∗ WP c (k v) Q) -∗ WP c (.op (.load m r.toLoadRect hl) k) Q) := by
  subst hv; exact wp_load 𝒱₀ (c : Thread nD τ) none Set.univ (r := r.toLoadRect) hS

theorem sub3 {n w l o a b : ℕ} {off : Fin 3 → ℕ} (hoff : off = ![l, o, 0]) (inb : ∀ a, off a + (⟨3, ![1, w, 512]⟩ : Shape).size a ≤ (⟨3, ![3, n, 512]⟩ : Shape).size a) (ha : a ≤ o) (hb : o + w ≤ b) :
    (Rect.unit (s := ⟨3, ![3, n, 512]⟩) off (⟨3, ![1, w, 512]⟩ : Shape).size inb).set ⊆ rows n l a b := by
  rw [set_unit3 l o hoff inb]; intro x hx; rw [mem_rows] at hx ⊢; exact ⟨hx.1, by omega, by omega⟩

/-- What a whole staging buffer holds. -/
abbrev stg (c : Dev nD) (b : Ref sig .tc) (X : b.ty.Contents (Elt F)) : sProp 𝕄 := (((c : Thread nD τ).loc b) ↦{fullShare} X)

theorem hz : (![0, 0] : Fin 2 → Nat) = fun _ => 0 := funext fun a => by fin_cases a <;> rfl

theorem ld_stg0 {Q : α → sProp 𝕄} (c : Dev nD) {v : Vec F S256x256 .f32} {inb} {hl} {k : Vec F S256x256 .f32 → Prog (TpuEff nD τ sig (Elt F) Λ₀ .tc) α} :
    (stg c cc0_stg0_0 v : sProp 𝕄) ⊢ iprop((stg c cc0_stg0_0 v -∗ WP c (k v) Q) -∗ WP c (.op (.load (M0 : Memref sig .tc .vmem S256x256 .f32) (Rect.unit (s := S256x256) ![0, 0] S256x256.size inb).toLoadRect hl) k) Q) :=
  ld c M0 (Rect.unit (s := S256x256) ![0, 0] S256x256.size inb) (Finset.subset_univ _) (Memref.readAt_unit_zero (Elt F) cc0_stg0_0 hz _ v)

theorem ld_stg1 {Q : α → sProp 𝕄} (c : Dev nD) {v : Vec F S256x512 .f32} {inb} {hl} {k : Vec F S256x512 .f32 → Prog (TpuEff nD τ sig (Elt F) Λ₀ .tc) α} :
    (stg c cc0_stg1_0 v : sProp 𝕄) ⊢ iprop((stg c cc0_stg1_0 v -∗ WP c (k v) Q) -∗ WP c (.op (.load (M1 : Memref sig .tc .vmem S256x512 .f32) (Rect.unit (s := S256x512) ![0, 0] S256x512.size inb).toLoadRect hl) k) Q) :=
  ld c M1 (Rect.unit (s := S256x512) ![0, 0] S256x512.size inb) (Finset.subset_univ _) (Memref.readAt_unit_zero (Elt F) cc0_stg1_0 hz _ v)

theorem ld_stg2 {Q : α → sProp 𝕄} (c : Dev nD) {v : Vec F S512x256 .f32} {inb} {hl} {k : Vec F S512x256 .f32 → Prog (TpuEff nD τ sig (Elt F) Λ₀ .tc) α} :
    (stg c cc0_stg2_0 v : sProp 𝕄) ⊢ iprop((stg c cc0_stg2_0 v -∗ WP c (k v) Q) -∗ WP c (.op (.load (M2 : Memref sig .tc .vmem S512x256 .f32) (Rect.unit (s := S512x256) ![0, 0] S512x256.size inb).toLoadRect hl) k) Q) :=
  ld c M2 (Rect.unit (s := S512x256) ![0, 0] S512x256.size inb) (Finset.subset_univ _) (Memref.readAt_unit_zero (Elt F) cc0_stg2_0 hz _ v)

theorem ld_stg3 {Q : α → sProp 𝕄} (c : Dev nD) {v : Vec F S256x512 .f32} {inb} {hl} {k : Vec F S256x512 .f32 → Prog (TpuEff nD τ sig (Elt F) Λ₀ .tc) α} :
    (stg c cc0_stg3_0 v : sProp 𝕄) ⊢ iprop((stg c cc0_stg3_0 v -∗ WP c (k v) Q) -∗ WP c (.op (.load (M3 : Memref sig .tc .vmem S256x512 .f32) (Rect.unit (s := S256x512) ![0, 0] S256x512.size inb).toLoadRect hl) k) Q) :=
  ld c M3 (Rect.unit (s := S256x512) ![0, 0] S256x512.size inb) (Finset.subset_univ _) (Memref.readAt_unit_zero (Elt F) cc0_stg3_0 hz _ v)

theorem ld_stg4 {Q : α → sProp 𝕄} (c : Dev nD) {v : Vec F S512x256 .f32} {inb} {hl} {k : Vec F S512x256 .f32 → Prog (TpuEff nD τ sig (Elt F) Λ₀ .tc) α} :
    (stg c cc0_stg4_0 v : sProp 𝕄) ⊢ iprop((stg c cc0_stg4_0 v -∗ WP c (k v) Q) -∗ WP c (.op (.load (M4 : Memref sig .tc .vmem S512x256 .f32) (Rect.unit (s := S512x256) ![0, 0] S512x256.size inb).toLoadRect hl) k) Q) :=
  ld c M4 (Rect.unit (s := S512x256) ![0, 0] S512x256.size inb) (Finset.subset_univ _) (Memref.readAt_unit_zero (Elt F) cc0_stg4_0 hz _ v)

theorem ld_stg5 {Q : α → sProp 𝕄} (c : Dev nD) {v : Vec F S256x512 .f32} {inb} {hl} {k : Vec F S256x512 .f32 → Prog (TpuEff nD τ sig (Elt F) Λ₀ .tc) α} :
    (stg c cc0_stg5_0 v : sProp 𝕄) ⊢ iprop((stg c cc0_stg5_0 v -∗ WP c (k v) Q) -∗ WP c (.op (.load (M5 : Memref sig .tc .vmem S256x512 .f32) (Rect.unit (s := S256x512) ![0, 0] S256x512.size inb).toLoadRect hl) k) Q) :=
  ld c M5 (Rect.unit (s := S256x512) ![0, 0] S256x512.size inb) (Finset.subset_univ _) (Memref.readAt_unit_zero (Elt F) cc0_stg5_0 hz _ v)

theorem ld_stg6 {Q : α → sProp 𝕄} (c : Dev nD) {v : Vec F S512x256 .f32} {inb} {hl} {k : Vec F S512x256 .f32 → Prog (TpuEff nD τ sig (Elt F) Λ₀ .tc) α} :
    (stg c cc0_stg6_0 v : sProp 𝕄) ⊢ iprop((stg c cc0_stg6_0 v -∗ WP c (k v) Q) -∗ WP c (.op (.load (M6 : Memref sig .tc .vmem S512x256 .f32) (Rect.unit (s := S512x256) ![0, 0] S512x256.size inb).toLoadRect hl) k) Q) :=
  ld c M6 (Rect.unit (s := S512x256) ![0, 0] S512x256.size inb) (Finset.subset_univ _) (Memref.readAt_unit_zero (Elt F) cc0_stg6_0 hz _ v)

theorem ld_stg7 {Q : α → sProp 𝕄} (c : Dev nD) {v : Vec F S256x256 .f32} {inb} {hl} {k : Vec F S256x256 .f32 → Prog (TpuEff nD τ sig (Elt F) Λ₀ .tc) α} :
    (stg c cc0_stg7_0 v : sProp 𝕄) ⊢ iprop((stg c cc0_stg7_0 v -∗ WP c (k v) Q) -∗ WP c (.op (.load (M7 : Memref sig .tc .vmem S256x256 .f32) (Rect.unit (s := S256x256) ![0, 0] S256x256.size inb).toLoadRect hl) k) Q) :=
  ld c M7 (Rect.unit (s := S256x256) ![0, 0] S256x256.size inb) (Finset.subset_univ _) (Memref.readAt_unit_zero (Elt F) cc0_stg7_0 hz _ v)

theorem ld_own8 {Q : α → sProp 𝕄} (c : Dev nD) (l : Fin 3) {off : Fin 3 → ℕ} {inb : ∀ a, off a + S1x64x512.size a ≤ S3x256x512.size a} (hoff : off = ![l.val, 64 * rr c, 0]) {hl}
    {k : Vec F S1x64x512 .bf16 → Prog (TpuEff nD τ sig (Elt F) Λ₀ .tc) α} :
    A1 I c l ⊢ iprop((A1 I c l -∗ WP c (k (ownA (pA I l.val) c)) Q) -∗ WP c (.op (.load (M8 : Memref sig .tc .vmem S3x256x512 .bf16) (Rect.unit (s := S3x256x512) off S1x64x512.size inb).toLoadRect hl) k) Q) := by
  unfold A1
  exact ld c M8 (Rect.unit (s := S3x256x512) off S1x64x512.size inb) (by
    show (View.whole (cc0_scratch0 : Ref sig .tc)).setOn (Rect.unit (s := S3x256x512) off S1x64x512.size inb).set ⊆ _
    rw [setOn_whole]; exact sub3 hoff inb ((have h := rr_lt c; ⟨by simp only [ahead]; show 0 + 64 * ((rr c + 0) % 4) ≤ _; omega, by simp only [ahead]; show _ ≤ 0 + 64 * ((rr c + 0) % 4) + 64; omega⟩ : 0 + 64 * ahead (rr c) 0 ≤ 64 * rr c ∧ 64 * rr c + 64 ≤ 0 + 64 * ahead (rr c) 0 + 64)).1 ((have h := rr_lt c; ⟨by simp only [ahead]; show 0 + 64 * ((rr c + 0) % 4) ≤ _; omega, by simp only [ahead]; show _ ≤ 0 + 64 * ((rr c + 0) % 4) + 64; omega⟩ : 0 + 64 * ahead (rr c) 0 ≤ 64 * rr c ∧ 64 * rr c + 64 ≤ 0 + 64 * ahead (rr c) 0 + 64)).2) (read_own8 I c l hoff inb)

theorem ld_own10 {Q : α → sProp 𝕄} (c : Dev nD) (l : Fin 3) {off : Fin 3 → ℕ} {inb : ∀ a, off a + S1x16x512.size a ≤ S3x64x512.size a} (hoff : off = ![l.val, 16 * zz c, 0]) {hl}
    {k : Vec F S1x16x512 .bf16 → Prog (TpuEff nD τ sig (Elt F) Λ₀ .tc) α} :
    S1 I c l ⊢ iprop((S1 I c l -∗ WP c (k (ownS (sumRow (pA I l.val)) c)) Q) -∗ WP c (.op (.load (M10 : Memref sig .tc .vmem S3x64x512 .bf16) (Rect.unit (s := S3x64x512) off S1x16x512.size inb).toLoadRect hl) k) Q) := by
  unfold S1
  exact ld c M10 (Rect.unit (s := S3x64x512) off S1x16x512.size inb) (by
    show (View.whole (cc0_scratch2 : Ref sig .tc)).setOn (Rect.unit (s := S3x64x512) off S1x16x512.size inb).set ⊆ _
    rw [setOn_whole]; exact sub3 hoff inb ((have h := zz_lt c; ⟨by simp only [ahead]; show 0 + 16 * ((zz c + 0) % 4) ≤ _; omega, by simp only [ahead]; show _ ≤ 0 + 16 * ((zz c + 0) % 4) + 16; omega⟩ : 0 + 16 * ahead (zz c) 0 ≤ 16 * zz c ∧ 16 * zz c + 16 ≤ 0 + 16 * ahead (zz c) 0 + 16)).1 ((have h := zz_lt c; ⟨by simp only [ahead]; show 0 + 16 * ((zz c + 0) % 4) ≤ _; omega, by simp only [ahead]; show _ ≤ 0 + 16 * ((zz c + 0) % 4) + 16; omega⟩ : 0 + 16 * ahead (zz c) 0 ≤ 16 * zz c ∧ 16 * zz c + 16 ≤ 0 + 16 * ahead (zz c) 0 + 16)).2) (read_own10 I c l hoff inb)

theorem ld_plane {Q : α → sProp 𝕄} (c : Dev nD) (l : Fin 3) {off : Fin 3 → ℕ} {inb : ∀ a, off a + S1x256x512.size a ≤ S3x256x512.size a} (hoff : off = ![l.val, 0, 0]) {hl}
    {k : Vec F S1x256x512 .bf16 → Prog (TpuEff nD τ sig (Elt F) Λ₀ .tc) α} :
    HP I c l ⊢ iprop((HP I c l -∗ WP c (k (gath (pA I l.val))) Q) -∗ WP c (.op (.load (M12 : Memref sig .tc .vmem S3x256x512 .bf16) (Rect.unit (s := S3x256x512) off S1x256x512.size inb).toLoadRect hl) k) Q) := by
  unfold HP
  exact ld c M12 (Rect.unit (s := S3x256x512) off S1x256x512.size inb) (by
    show (View.whole (cc0_scratch4 : Ref sig .tc)).setOn (Rect.unit (s := S3x256x512) off S1x256x512.size inb).set ⊆ _
    rw [setOn_whole]; exact sub3 hoff inb ((⟨le_refl 0, le_refl _⟩ : 0 ≤ 0 ∧ 0 + 256 ≤ 256)).1 ((⟨le_refl 0, le_refl _⟩ : 0 ≤ 0 ∧ 0 + 256 ≤ 256)).2) (read_plane12 I l hoff inb)

theorem ld_slot9 {Q : α → sProp 𝕄} (c : Dev nD) (i : Ed) (hp : ph i = 0) {off : Fin 4 → ℕ} {inb : ∀ a, off a + S1x1x64x512.size a ≤ S3x4x64x512.size a} (hoff : off = ![(lay i).val, (sl i).val, 0, 0]) {hl}
    {k : Vec F S1x1x64x512 .bf16 → Prog (TpuEff nD τ sig (Elt F) Λ₀ .tc) α} :
    landed I c i ⊢ iprop((landed I c i -∗ WP c (k (slotA (pA I (lay i).val) c (sl i).val)) Q) -∗ WP c (.op (.load (M9 : Memref sig .tc .vmem S3x4x64x512 .bf16) (Rect.unit (s := S3x4x64x512) off S1x1x64x512.size inb).toLoadRect hl) k) Q) := by
  rw [landed_0 I c hp]
  exact ld c M9 (Rect.unit (s := S3x4x64x512) off S1x1x64x512.size inb) (by
    show (View.whole (cc0_scratch1 : Ref sig .tc)).setOn (Rect.unit (s := S3x4x64x512) off S1x1x64x512.size inb).set ⊆ _
    rw [setOn_whole]; exact (set_unit4 (lay i).val (sl i).val hoff inb).subset) (read_slot9 I c (lay i) (sl i) hoff inb)

theorem ld_slot11 {Q : α → sProp 𝕄} (c : Dev nD) (i : Ed) (hp : ph i = 1) {off : Fin 4 → ℕ} {inb : ∀ a, off a + S1x1x16x512.size a ≤ S3x4x16x512.size a} (hoff : off = ![(lay i).val, (sl i).val, 0, 0]) {hl}
    {k : Vec F S1x1x16x512 .bf16 → Prog (TpuEff nD τ sig (Elt F) Λ₀ .tc) α} :
    landed I c i ⊢ iprop((landed I c i -∗ WP c (k (slotS (sumRow (pA I (lay i).val)) c (sl i).val)) Q) -∗ WP c (.op (.load (M11 : Memref sig .tc .vmem S3x4x16x512 .bf16) (Rect.unit (s := S3x4x16x512) off S1x1x16x512.size inb).toLoadRect hl) k) Q) := by
  rw [landed_1 I c hp]
  exact ld c M11 (Rect.unit (s := S3x4x16x512) off S1x1x16x512.size inb) (by
    show (View.whole (cc0_scratch3 : Ref sig .tc)).setOn (Rect.unit (s := S3x4x16x512) off S1x1x16x512.size inb).set ⊆ _
    rw [setOn_whole]; exact (set_unit4 (lay i).val (sl i).val hoff inb).subset) (read_slot11 I c (lay i) (sl i) hoff inb)

/-! ## Loads whose value nothing uses, and stores -/

theorem dead8 {Q : α → sProp 𝕄} (c : Dev nD) (l : Fin 3) {off : Fin 3 → ℕ} {inb : ∀ a, off a + S1x256x512.size a ≤ S3x256x512.size a} (hoff : off = ![l.val, 0, 0]) {hl}
    {k : Vec F S1x256x512 .bf16 → Prog (TpuEff nD τ sig (Elt F) Λ₀ .tc) α} :
    (A0 c l : sProp 𝕄) ⊢ iprop((∀ v, A0 c l -∗ WP c (k v) Q) -∗ WP c (.op (.load (M8 : Memref sig .tc .vmem S3x256x512 .bf16) (Rect.unit (s := S3x256x512) off S1x256x512.size inb).toLoadRect hl) k) Q) := by
  unfold A0
  iintro ⟨%f, H⟩ Hk
  iapply (ld c M8 (f := f) (Rect.unit (s := S3x256x512) off S1x256x512.size inb) (by
    show (View.whole (cc0_scratch0 : Ref sig .tc)).setOn (Rect.unit (s := S3x256x512) off S1x256x512.size inb).set ⊆ _
    rw [setOn_whole]; exact sub3 hoff inb ((⟨le_refl 0, le_refl _⟩ : 0 ≤ 0 ∧ 0 + 256 ≤ 256)).1 ((⟨le_refl 0, le_refl _⟩ : 0 ≤ 0 ∧ 0 + 256 ≤ 256)).2) rfl) $$ H
  iintro H
  iapply Hk; iexists f; iexact H

theorem st8 {Q : α → sProp 𝕄} (c : Dev nD) {l : Fin 3} {i₁ i₂ i₃ : Ed} (h : Trio l 0 i₁ i₂ i₃) {off : Fin 3 → ℕ} {inb : ∀ a, off a + S1x256x512.size a ≤ S3x256x512.size a} (hoff : off = ![l.val, 0, 0])
    {w : Vec F S1x256x512 .bf16} (hw : w = pA I l.val c) {hx : ((M8 : Memref sig .tc .vmem S3x256x512 .bf16).access (Rect.unit (s := S3x256x512) off S1x256x512.size inb)).Stores Finset.univ} {hm : Finset.univ = Finset.univ ∨ ∀ a, (Rect.unit (s := S3x256x512) off S1x256x512.size inb).stride a = 1} {k : PUnit → Prog (TpuEff nD τ sig (Elt F) Λ₀ .tc) α} :
    A0 c l ⊢ iprop(((A1 I c l ∗ srcP I c i₁ ∗ srcP I c i₂ ∗ srcP I c i₃) -∗ WP c (k ⟨⟩) Q) -∗ WP c (.op (.store (M8 : Memref sig .tc .vmem S3x256x512 .bf16) (Rect.unit (s := S3x256x512) off S1x256x512.size inb) w Finset.univ hx hm) k) Q) := by
  unfold A0
  have hcong : ∀ f, (pt0 c (rows 256 l.val 0 256) fullShare (((M8 : Memref sig .tc .vmem S3x256x512 .bf16).access (Rect.unit (s := S3x256x512) off S1x256x512.size inb)).write (Elt F) f w Finset.univ) : sProp 𝕄) = pt0 c (rows 256 l.val 0 256) fullShare (gA I c) :=
    fun f => pointsTo_congr (fun x hx => write8 I c l hoff inb f hw x hx)
  iintro ⟨%f, H⟩ Hk
  iapply (wp_store 𝒱₀ (c : Thread nD τ) none Set.univ (m := (M8 : Memref sig .tc .vmem S3x256x512 .bf16)) (r := Rect.unit (s := S3x256x512) off S1x256x512.size inb) (Mk := Finset.univ) (f := f) (by
    show (View.whole (cc0_scratch0 : Ref sig .tc) |>.slice (Rect.unit (s := S3x256x512) off S1x256x512.size inb)).set ⊆ _
    rw [View.set_slice_whole]; exact sub3 hoff inb ((⟨le_refl 0, le_refl _⟩ : 0 ≤ 0 ∧ 0 + 256 ≤ 256)).1 ((⟨le_refl 0, le_refl _⟩ : 0 ≤ 0 ∧ 0 + 256 ≤ 256)).2)) $$ H
  iintro H
  ihave H := (Entails.of_eq (hcong f)) $$ H
  ihave H := (Entails.of_eq (split_A I c h)) $$ H; iapply Hk; iexact H

theorem dead10 {Q : α → sProp 𝕄} (c : Dev nD) (l : Fin 3) {off : Fin 3 → ℕ} {inb : ∀ a, off a + S1x64x512.size a ≤ S3x64x512.size a} (hoff : off = ![l.val, 0, 0]) {hl}
    {k : Vec F S1x64x512 .bf16 → Prog (TpuEff nD τ sig (Elt F) Λ₀ .tc) α} :
    (S0 c l : sProp 𝕄) ⊢ iprop((∀ v, S0 c l -∗ WP c (k v) Q) -∗ WP c (.op (.load (M10 : Memref sig .tc .vmem S3x64x512 .bf16) (Rect.unit (s := S3x64x512) off S1x64x512.size inb).toLoadRect hl) k) Q) := by
  unfold S0
  iintro ⟨%f, H⟩ Hk
  iapply (ld c M10 (f := f) (Rect.unit (s := S3x64x512) off S1x64x512.size inb) (by
    show (View.whole (cc0_scratch2 : Ref sig .tc)).setOn (Rect.unit (s := S3x64x512) off S1x64x512.size inb).set ⊆ _
    rw [setOn_whole]; exact sub3 hoff inb ((⟨le_refl 0, le_refl _⟩ : 0 ≤ 0 ∧ 0 + 64 ≤ 64)).1 ((⟨le_refl 0, le_refl _⟩ : 0 ≤ 0 ∧ 0 + 64 ≤ 64)).2) rfl) $$ H
  iintro H
  iapply Hk; iexists f; iexact H

theorem st10 {Q : α → sProp 𝕄} (c : Dev nD) {l : Fin 3} {i₁ i₂ i₃ : Ed} (h : Trio l 1 i₁ i₂ i₃) {off : Fin 3 → ℕ} {inb : ∀ a, off a + S1x64x512.size a ≤ S3x64x512.size a} (hoff : off = ![l.val, 0, 0])
    {w : Vec F S1x64x512 .bf16} (hw : w = sumRow (pA I l.val) c) {hx : ((M10 : Memref sig .tc .vmem S3x64x512 .bf16).access (Rect.unit (s := S3x64x512) off S1x64x512.size inb)).Stores Finset.univ} {hm : Finset.univ = Finset.univ ∨ ∀ a, (Rect.unit (s := S3x64x512) off S1x64x512.size inb).stride a = 1} {k : PUnit → Prog (TpuEff nD τ sig (Elt F) Λ₀ .tc) α} :
    S0 c l ⊢ iprop(((S1 I c l ∗ srcP I c i₁ ∗ srcP I c i₂ ∗ srcP I c i₃) -∗ WP c (k ⟨⟩) Q) -∗ WP c (.op (.store (M10 : Memref sig .tc .vmem S3x64x512 .bf16) (Rect.unit (s := S3x64x512) off S1x64x512.size inb) w Finset.univ hx hm) k) Q) := by
  unfold S0
  have hcong : ∀ f, (pt2 c (rows 64 l.val 0 64) fullShare (((M10 : Memref sig .tc .vmem S3x64x512 .bf16).access (Rect.unit (s := S3x64x512) off S1x64x512.size inb)).write (Elt F) f w Finset.univ) : sProp 𝕄) = pt2 c (rows 64 l.val 0 64) fullShare (gS I c) :=
    fun f => pointsTo_congr (fun x hx => write10 I c l hoff inb f hw x hx)
  iintro ⟨%f, H⟩ Hk
  iapply (wp_store 𝒱₀ (c : Thread nD τ) none Set.univ (m := (M10 : Memref sig .tc .vmem S3x64x512 .bf16)) (r := Rect.unit (s := S3x64x512) off S1x64x512.size inb) (Mk := Finset.univ) (f := f) (by
    show (View.whole (cc0_scratch2 : Ref sig .tc) |>.slice (Rect.unit (s := S3x64x512) off S1x64x512.size inb)).set ⊆ _
    rw [View.set_slice_whole]; exact sub3 hoff inb ((⟨le_refl 0, le_refl _⟩ : 0 ≤ 0 ∧ 0 + 64 ≤ 64)).1 ((⟨le_refl 0, le_refl _⟩ : 0 ≤ 0 ∧ 0 + 64 ≤ 64)).2)) $$ H
  iintro H
  ihave H := (Entails.of_eq (hcong f)) $$ H
  ihave H := (Entails.of_eq (split_S I c h)) $$ H; iapply Hk; iexact H

theorem dead12 {Q : α → sProp 𝕄} (c : Dev nD) (l : Fin 3) {off : Fin 3 → ℕ} {inb : ∀ a, off a + S1x16x512.size a ≤ S3x256x512.size a} (hoff : off = ![l.val, 64 * rr c + 16 * zz c, 0]) {hl}
    {k : Vec F S1x16x512 .bf16 → Prog (TpuEff nD τ sig (Elt F) Λ₀ .tc) α} :
    (H0 c l : sProp 𝕄) ⊢ iprop((∀ v, H0 c l -∗ WP c (k v) Q) -∗ WP c (.op (.load (M12 : Memref sig .tc .vmem S3x256x512 .bf16) (Rect.unit (s := S3x256x512) off S1x16x512.size inb).toLoadRect hl) k) Q) := by
  unfold H0
  iintro ⟨%f, H⟩ Hk
  iapply (ld c M12 (f := f) (Rect.unit (s := S3x256x512) off S1x16x512.size inb) (by
    show (View.whole (cc0_scratch4 : Ref sig .tc)).setOn (Rect.unit (s := S3x256x512) off S1x16x512.size inb).set ⊆ _
    rw [setOn_whole]; exact sub3 hoff inb ((have h := zz_lt c; ⟨by show 64 * rr c + 16 * ((zz c + 4) % 4) ≤ _; omega, by show _ ≤ 64 * rr c + 16 * ((zz c + 4) % 4) + 16; omega⟩ : 64 * rr c + 16 * behind (zz c) 0 ≤ 64 * rr c + 16 * zz c ∧ 64 * rr c + 16 * zz c + 16 ≤ 64 * rr c + 16 * behind (zz c) 0 + 16)).1 ((have h := zz_lt c; ⟨by show 64 * rr c + 16 * ((zz c + 4) % 4) ≤ _; omega, by show _ ≤ 64 * rr c + 16 * ((zz c + 4) % 4) + 16; omega⟩ : 64 * rr c + 16 * behind (zz c) 0 ≤ 64 * rr c + 16 * zz c ∧ 64 * rr c + 16 * zz c + 16 ≤ 64 * rr c + 16 * behind (zz c) 0 + 16)).2) rfl) $$ H
  iintro H
  iapply Hk; iexists f; iexact H

theorem st12 {Q : α → sProp 𝕄} (c : Dev nD) {l : Fin 3} {i₁ i₂ i₃ : Ed} (h : Trio l 2 i₁ i₂ i₃) {off : Fin 3 → ℕ} {inb : ∀ a, off a + S1x16x512.size a ≤ S3x256x512.size a} (hoff : off = ![l.val, 64 * rr c + 16 * zz c, 0])
    {w : Vec F S1x16x512 .bf16} (hw : w = sumAll (pA I l.val) c) {hx : ((M12 : Memref sig .tc .vmem S3x256x512 .bf16).access (Rect.unit (s := S3x256x512) off S1x16x512.size inb)).Stores Finset.univ} {hm : Finset.univ = Finset.univ ∨ ∀ a, (Rect.unit (s := S3x256x512) off S1x16x512.size inb).stride a = 1} {k : PUnit → Prog (TpuEff nD τ sig (Elt F) Λ₀ .tc) α} :
    H0 c l ⊢ iprop(((H1 I c l ∗ srcP I c i₁ ∗ srcP I c i₂ ∗ srcP I c i₃) -∗ WP c (k ⟨⟩) Q) -∗ WP c (.op (.store (M12 : Memref sig .tc .vmem S3x256x512 .bf16) (Rect.unit (s := S3x256x512) off S1x16x512.size inb) w Finset.univ hx hm) k) Q) := by
  unfold H0
  have e : Q4 c l 0 = rows 256 l.val (64 * rr c + 16 * zz c) (64 * rr c + 16 * zz c + 16) := by
    have h := zz_lt c
    show rows 256 l.val (64 * rr c + 16 * ((zz c + 4) % 4)) (64 * rr c + 16 * ((zz c + 4) % 4) + 16) = _
    rw [show (zz c + 4) % 4 = zz c by omega]
  have hcong : ∀ f, (pt4 c (Q4 c l 0) fullShare (((M12 : Memref sig .tc .vmem S3x256x512 .bf16).access (Rect.unit (s := S3x256x512) off S1x16x512.size inb)).write (Elt F) f w Finset.univ) : sProp 𝕄) = pt4 c (Q4 c l 0) fullShare (gH I) :=
    fun f => pointsTo_congr (fun x hx => write12 I c l hoff inb f hw x (e ▸ hx))
  iintro ⟨%f, H⟩ Hk
  iapply (wp_store 𝒱₀ (c : Thread nD τ) none Set.univ (m := (M12 : Memref sig .tc .vmem S3x256x512 .bf16)) (r := Rect.unit (s := S3x256x512) off S1x16x512.size inb) (Mk := Finset.univ) (f := f) (by
    show (View.whole (cc0_scratch4 : Ref sig .tc) |>.slice (Rect.unit (s := S3x256x512) off S1x16x512.size inb)).set ⊆ _
    rw [View.set_slice_whole]; exact sub3 hoff inb ((have h := zz_lt c; ⟨by show 64 * rr c + 16 * ((zz c + 4) % 4) ≤ _; omega, by show _ ≤ 64 * rr c + 16 * ((zz c + 4) % 4) + 16; omega⟩ : 64 * rr c + 16 * behind (zz c) 0 ≤ 64 * rr c + 16 * zz c ∧ 64 * rr c + 16 * zz c + 16 ≤ 64 * rr c + 16 * behind (zz c) 0 + 16)).1 ((have h := zz_lt c; ⟨by show 64 * rr c + 16 * ((zz c + 4) % 4) ≤ _; omega, by show _ ≤ 64 * rr c + 16 * ((zz c + 4) % 4) + 16; omega⟩ : 64 * rr c + 16 * behind (zz c) 0 ≤ 64 * rr c + 16 * zz c ∧ 64 * rr c + 16 * zz c + 16 ≤ 64 * rr c + 16 * behind (zz c) 0 + 16)).2)) $$ H
  iintro H
  ihave H := (Entails.of_eq (hcong f)) $$ H
  iapply Hk; iapply (split_H I c h); iexact H

theorem st_out {Q : α → sProp 𝕄} (c : Dev nD) {w : Vec F S256x256 .f32} {inb : ∀ a, (![0, 0] : Fin 2 → ℕ) a + S256x256.size a ≤ S256x256.size a}
    {hx : ((M7 : Memref sig .tc .vmem S256x256 .f32).access (Rect.unit (s := S256x256) ![0, 0] S256x256.size inb)).Stores Finset.univ} {hm : Finset.univ = Finset.univ ∨ ∀ a, (Rect.unit (s := S256x256) ![0, 0] S256x256.size inb).stride a = 1} {k : PUnit → Prog (TpuEff nD τ sig (Elt F) Λ₀ .tc) α} :
    (iprop(∃ f, stg c cc0_stg7_0 f) : sProp 𝕄) ⊢ iprop((stg c cc0_stg7_0 w -∗ WP c (k ⟨⟩) Q) -∗ WP c (.op (.store (M7 : Memref sig .tc .vmem S256x256 .f32) (Rect.unit (s := S256x256) ![0, 0] S256x256.size inb) w Finset.univ hx hm) k) Q) := by
  iintro ⟨%f, H⟩ Hk
  iapply (wp_store 𝒱₀ (c : Thread nD τ) none Set.univ (m := (M7 : Memref sig .tc .vmem S256x256 .f32)) (r := Rect.unit (s := S256x256) ![0, 0] S256x256.size inb) (Mk := Finset.univ) (f := f) (Finset.subset_univ _)) $$ H
  iintro H
  iapply Hk
  ihave H := (Entails.of_eq (congrArg (fun g => (stg c cc0_stg7_0 g : sProp 𝕄)) (Memref.write_access_unit_zero_univ (Elt F) cc0_stg7_0 hz inb f w))) $$ H
  iexact H
theorem dead7 {Q : α → sProp 𝕄} (c : Dev nD) {inb : ∀ a, (![0, 0] : Fin 2 → ℕ) a + S256x256.size a ≤ S256x256.size a} {hl} {k : Vec F S256x256 .f32 → Prog (TpuEff nD τ sig (Elt F) Λ₀ .tc) α} :
    (iprop(∃ f, stg c cc0_stg7_0 f) : sProp 𝕄) ⊢ iprop((∀ v, iprop(∃ f, stg c cc0_stg7_0 f) -∗ WP c (k v) Q) -∗ WP c (.op (.load (M7 : Memref sig .tc .vmem S256x256 .f32) (Rect.unit (s := S256x256) ![0, 0] S256x256.size inb).toLoadRect hl) k) Q) := by
  iintro ⟨%f, H⟩ Hk
  iapply (ld_stg7 c) $$ H
  iintro H
  iapply Hk; iexists f; iexact H

/-! ## The start -/

/-- Signals from `s` on: the duty and the landing places handed over; what the copies and the waits need later. -/
def Pre (c : Dev nD) (s : ℕ) : sProp 𝕄 :=
  iprop(recs I ∗ (∃ W, owes (c : Thread nD τ) (owedE c 0 + owedR c s) W)
    ∗ (bigSep (Finset.univ.filter fun t : Du => s ≤ t.val) fun t => iprop(dutyTok ER (readyCell (tgt c t)) 0 t ∗ bigSep (Finset.univ.filter fun i => dutyOf i = t) fun i => land c i))
    ∗ (bigSep Finset.univ fun i : Ed => iprop(dutyTok ER (sendCell c i) 0 (0 : Du) ∗ dutyTok ER (recvCell (dst c i) i) 0 (0 : Du)))
    ∗ Rcv c 0 ∗ cred (tallyAt (readyCell c) () 6) ∗ atPos ER (readyCell c) 0 (∅ : Finset Du) 0)

theorem signal_step {Q : α → sProp 𝕄} (c n : Dev nD) (s : Du) (hn : n = tgt c s) {z : ℤ} (hz1 : z = 1) {k : PUnit → Prog (TpuEff nD τ sig (Elt F) Λ₀ .tc) α} :
    Pre I c s.val ⊢ iprop((Pre I c (s.val + 1) -∗ WP c (k ⟨⟩) Q) -∗ WP c (.op (.semSignal (Dev.tc n : Thread nD τ) cc0_scratch13.sem z) k) Q) := by
  subst hn
  subst hz1
  have e : (Finset.univ.filter fun t : Du => s.val ≤ t.val) = insert s (Finset.univ.filter fun t : Du => s.val + 1 ≤ t.val) := by
    ext j; simp only [Finset.mem_filter, Finset.mem_univ, true_and, Finset.mem_insert, Fin.ext_iff]; omega
  unfold Pre
  rw [e, show bigSep (insert s (Finset.univ.filter fun t : Du => s.val + 1 ≤ t.val)) (fun t => iprop(dutyTok ER (readyCell (tgt c t)) 0 t ∗ bigSep (Finset.univ.filter fun i => dutyOf i = t) fun i => land c i))
    = (iprop((dutyTok ER (readyCell (tgt c s)) 0 s ∗ bigSep (Finset.univ.filter fun i => dutyOf i = s) fun i => land c i) ∗ bigSep (Finset.univ.filter fun t : Du => s.val + 1 ≤ t.val) fun t => iprop(dutyTok ER (readyCell (tgt c t)) 0 t ∗ bigSep (Finset.univ.filter fun i => dutyOf i = t) fun i => land c i)) : sProp 𝕄) from bigSep_insert (by simp)]
  iintro ⟨#Hr, ⟨%W, HO⟩, ⟨⟨Ht, Hl⟩, Hge⟩, Htk, HR, Hc, Hat⟩ Hk
  ihave #H1 := (recs_ready I (tgt c s)) $$ Hr
  unfold cinv
  icases H1 with ⟨⟨%κ, #HI1⟩, #Hr1⟩
  iapply (Rounds.wp_signal 𝒱₀ ER (sched I) (c : Thread nD τ) none (dst := (tgt c s : Thread nD τ)) (κ := κ)
      (by rw [duties_ready]; exact Finset.mem_univ s) ((amount_ready I (tgt c s) s).trans (by decide)) () (owedE c 0 + owedR c (s.val + 1)) (owedR_step c s))
    $$ [HO Ht Hl]
  · isplitr; · iexact HI1
    isplitl [HO]; · iexact HO
    isplitl [Ht]; · iexact Ht
    isplitl [Hl]
    · iapply (Entails.of_eq (pay_ready I c s).symm); iexact Hl
    · iexact Hr1
  iintro HO
  iapply Hk
  isplitr; · iexact Hr
  isplitl [HO]; · iexists W; iexact HO
  isplitl [Hge]; · iexact Hge
  isplitl [Htk]; · iexact Htk
  isplitl [HR]; · iexact HR
  isplitl [Hc] <;> iassumption

theorem ready_wait {Q : α → sProp 𝕄} (c : Dev nD) {z : ℤ} (hz6 : z = 6) {k : PUnit → Prog (TpuEff nD τ sig (Elt F) Λ₀ .tc) α} :
    Pre I c 6 ⊢ iprop((Core I c 0 0 -∗ semVal (readyCell c) 0 -∗ WP c (k ⟨⟩) Q) -∗ WP c (.op (.semWait cc0_scratch13.sem z) k) Q) := by
  subst hz6
  unfold Pre
  rw [owedR_all]
  iintro ⟨#Hr, ⟨%W, HO⟩, -, Htk, HR, Hc, Hat⟩ Hk
  ihave #H1 := (recs_ready I c) $$ Hr
  unfold cinv
  icases H1 with ⟨⟨%κ, #HI1⟩, #Hr1⟩
  iapply (Rounds.wp_wait_rest_token 𝒱₀ ER (sched I) (c : Thread nD τ) none (κ := κ)
      (wpE_semWait_eq 𝒱₀ (c : Thread nD τ) none Set.univ) (Set.mem_univ _) () (O := owedE c 0) (W := W) (R := 0) (m := 0) (T := ∅)
      (by rw [expect_ready])) $$ [Hc HO Hat]
  · isplitr; · iexact HI1
    isplitl [Hc]; · iexact Hc
    isplitl [HO]; · iexact HO
    isplitr; · iapply (recs_may_ready I c); iexact Hr
    iexact Hat
  iintro ⟨HO, Hat, -, Hpay⟩
  ihave Hp := (rest_ready I c) $$ Hpay
  imod (Rounds.cell_close ER (sched I) (Set.mem_univ κ) (fun h => h) (R := 0 + 1) (duties_later I (readyCell c))) $$ [Hat] with Hz
  · isplitr; · iexact HI1
    iexact Hat
  iapply Hk $$ [HO Htk HR Hp] [Hz]
  · unfold Core Ows Snd
    isplitr; · iexact Hr
    isplitl [HO]; · iexists _; iexact HO
    isplitl [Htk Hp]
    · rw [ge_zero, lt_zero]
      isplitl
      · iapply (show iprop((bigSep Finset.univ fun i : Ed => iprop(dutyTok ER (sendCell c i) 0 (0 : Du) ∗ dutyTok ER (recvCell (dst c i) i) 0 (0 : Du))) ∗ (bigSep Finset.univ fun i : Ed => land (dst c i) i))
          ⊢ (bigSep Finset.univ fun i : Ed => iprop(dutyTok ER (sendCell c i) 0 (0 : Du) ∗ dutyTok ER (recvCell (dst c i) i) 0 (0 : Du) ∗ land (dst c i) i) : sProp 𝕄) from by
            refine BI.Entails.trans ((Entails.of_eq (bigSep_sep _ _ _).symm)) (bigSep_mono fun i _ => ?_)
            show iprop((dutyTok ER (sendCell c i) 0 (0 : Du) ∗ dutyTok ER (recvCell (dst c i) i) 0 (0 : Du)) ∗ land (dst c i) i) ⊢ (iprop(dutyTok ER (sendCell c i) 0 (0 : Du) ∗ dutyTok ER (recvCell (dst c i) i) 0 (0 : Du) ∗ land (dst c i) i) : sProp 𝕄)
            iintro ⟨⟨H1, H2⟩, H3⟩
            isplitl [H1]; · iexact H1
            isplitl [H2] <;> iassumption)
        isplitl [Htk] <;> iassumption
      · rw [bigSep_empty]; iempintro
    iexact HR
  · iexact Hz

/-! ## From the copies to the waits for the sources -/

theorem to_tail (c : Dev nD) : iprop(Core I c 36 36 ∗ bigSep Finset.univ fun i : Ed => atPos ER (sendCell c i) 0 (∅ : Finset Du) 0) ⊢ iprop(Tail I c 0 ∗ Rcv c 36) := by
  unfold Core Tail Snd Swt
  rw [ge_zero, lt_zero, ge_all, lt_all]
  iintro ⟨⟨#Hr, HO, ⟨-, Hc⟩, HR⟩, Hat⟩
  isplitr [HR]
  · isplitr; · iexact Hr
    isplitl [HO]; · iexact HO
    isplitl
    · iapply (show iprop((bigSep Finset.univ fun i : Ed => cred (tallyAt (sendCell c i) () (amt i))) ∗ bigSep Finset.univ fun i : Ed => atPos ER (sendCell c i) 0 (∅ : Finset Du) 0)
          ⊢ (bigSep Finset.univ fun i : Ed => iprop(cred (tallyAt (sendCell c i) () (amt i)) ∗ atPos ER (sendCell c i) 0 (∅ : Finset Du) 0) : sProp 𝕄) from
        Entails.of_eq (bigSep_sep Finset.univ (fun i : Ed => (cred (tallyAt (sendCell c i) () (amt i)) : sProp 𝕄)) (fun i : Ed => atPos ER (sendCell c i) 0 (∅ : Finset Du) 0)).symm)
      isplitl [Hc] <;> iassumption
    · rw [bigSep_empty]; iempintro
  · iexact HR

theorem trio0_0 : Trio 0 0 0 1 2 := ⟨by decide, by decide, by decide, by decide⟩
theorem trio0_1 : Trio 0 1 3 4 5 := ⟨by decide, by decide, by decide, by decide⟩
theorem trio0_2 : Trio 0 2 6 7 8 := ⟨by decide, by decide, by decide, by decide⟩
theorem trio0_3 : Trio 0 3 9 10 11 := ⟨by decide, by decide, by decide, by decide⟩
theorem trio1_0 : Trio 1 0 12 13 14 := ⟨by decide, by decide, by decide, by decide⟩
theorem trio1_1 : Trio 1 1 15 16 17 := ⟨by decide, by decide, by decide, by decide⟩
theorem trio1_2 : Trio 1 2 18 19 20 := ⟨by decide, by decide, by decide, by decide⟩
theorem trio1_3 : Trio 1 3 21 22 23 := ⟨by decide, by decide, by decide, by decide⟩
theorem trio2_0 : Trio 2 0 24 25 26 := ⟨by decide, by decide, by decide, by decide⟩
theorem trio2_1 : Trio 2 1 27 28 29 := ⟨by decide, by decide, by decide, by decide⟩
theorem trio2_2 : Trio 2 2 30 31 32 := ⟨by decide, by decide, by decide, by decide⟩
theorem trio2_3 : Trio 2 3 33 34 35 := ⟨by decide, by decide, by decide, by decide⟩

/-! ## The same steps at given numbers -/

theorem cp0 (c n : Dev nD) (i : Ed) (hp : ph i = 0) (hn : n = dst c i) {off : Fin 3 → ℕ} {off4 : Fin 4 → ℕ}
    {inb : ∀ a, off a + S1x64x512.size a ≤ S3x256x512.size a} {inb4 : ∀ a, off4 a + S1x1x64x512.size a ≤ S3x4x64x512.size a}
    (h : off = ![(lay i).val, 64 * ((rr c + kk i) % 4), 0]) (h4 : off4 = ![(lay i).val, (sl i).val, 0, 0])
    (sS rS : DmaSem sig) (hsS : sS = sendSem i) (hrS : rS = recvSem i)
    {hsc : ((V9 inb4 : Memref sig .tc .vmem S64x512 .bf16) : Memref sig (Dev.tc n : Thread nD τ).2.kind .vmem S64x512 .bf16).view.ref.isScScratch = false} {hsrc : (V8 inb).view.WordExact} {hdst : (V9 inb4).view.WordExact}
    {hsem : DmaTarget.Typed .vmem (.dma rS) (.remote (Dev.tc n : Thread nD τ) (V9 inb4 : Memref sig .tc .vmem S64x512 .bf16) (.dma sS) hsc)}
    (m a b : ℕ) (ha : i.val = a) (hb : a + 1 = b) {α : Type} {Q : α → sProp 𝕄} {k : PUnit → Prog (TpuEff nD τ sig (Elt F) Λ₀ .tc) α} :
    iprop(Core I c a m ∗ srcP I c i)
      ⊢ iprop((Core I c b m -∗ WP c (k ⟨⟩) Q)
          -∗ WP c (.op (.enqueueDma (V8 inb) (.remote (Dev.tc n : Thread nD τ) (V9 inb4) (.dma sS) hsc) (.dma rS) hsrc hdst hsem) k) Q) := by
  subst ha; subst hb; exact copy_ph0 I c n i hp hn h h4 sS rS hsS hrS m

theorem cp1 (c n : Dev nD) (i : Ed) (hp : ph i = 1) (hn : n = dst c i) {off : Fin 3 → ℕ} {off4 : Fin 4 → ℕ}
    {inb : ∀ a, off a + S1x16x512.size a ≤ S3x64x512.size a} {inb4 : ∀ a, off4 a + S1x1x16x512.size a ≤ S3x4x16x512.size a}
    (h : off = ![(lay i).val, 16 * ((zz c + kk i) % 4), 0]) (h4 : off4 = ![(lay i).val, (sl i).val, 0, 0])
    (sS rS : DmaSem sig) (hsS : sS = sendSem i) (hrS : rS = recvSem i)
    {hsc : ((V11 inb4 : Memref sig .tc .vmem S16x512 .bf16) : Memref sig (Dev.tc n : Thread nD τ).2.kind .vmem S16x512 .bf16).view.ref.isScScratch = false} {hsrc : (V10 inb).view.WordExact} {hdst : (V11 inb4).view.WordExact}
    {hsem : DmaTarget.Typed .vmem (.dma rS) (.remote (Dev.tc n : Thread nD τ) (V11 inb4 : Memref sig .tc .vmem S16x512 .bf16) (.dma sS) hsc)}
    (m a b : ℕ) (ha : i.val = a) (hb : a + 1 = b) {α : Type} {Q : α → sProp 𝕄} {k : PUnit → Prog (TpuEff nD τ sig (Elt F) Λ₀ .tc) α} :
    iprop(Core I c a m ∗ srcP I c i)
      ⊢ iprop((Core I c b m -∗ WP c (k ⟨⟩) Q)
          -∗ WP c (.op (.enqueueDma (V10 inb) (.remote (Dev.tc n : Thread nD τ) (V11 inb4) (.dma sS) hsc) (.dma rS) hsrc hdst hsem) k) Q) := by
  subst ha; subst hb; exact copy_ph1 I c n i hp hn h h4 sS rS hsS hrS m

theorem cp2 (c n : Dev nD) (i : Ed) (hp : ph i = 2) (hn : n = dst c i) {off : Fin 3 → ℕ}
    {inb : ∀ a, off a + S1x16x512.size a ≤ S3x256x512.size a}
    (h : off = ![(lay i).val, 64 * rr c + 16 * zz c, 0])
    (sS rS : DmaSem sig) (hsS : sS = sendSem i) (hrS : rS = recvSem i)
    {hsc : ((V12 inb : Memref sig .tc .vmem S16x512 .bf16) : Memref sig (Dev.tc n : Thread nD τ).2.kind .vmem S16x512 .bf16).view.ref.isScScratch = false} {hsrc : (V12 inb).view.WordExact} {hdst : (V12 inb).view.WordExact}
    {hsem : DmaTarget.Typed .vmem (.dma rS) (.remote (Dev.tc n : Thread nD τ) (V12 inb : Memref sig .tc .vmem S16x512 .bf16) (.dma sS) hsc)}
    (m a b : ℕ) (ha : i.val = a) (hb : a + 1 = b) {α : Type} {Q : α → sProp 𝕄} {k : PUnit → Prog (TpuEff nD τ sig (Elt F) Λ₀ .tc) α} :
    iprop(Core I c a m ∗ srcP I c i)
      ⊢ iprop((Core I c b m -∗ WP c (k ⟨⟩) Q)
          -∗ WP c (.op (.enqueueDma (V12 inb) (.remote (Dev.tc n : Thread nD τ) (V12 inb) (.dma sS) hsc) (.dma rS) hsrc hdst hsem) k) Q) := by
  subst ha; subst hb; exact copy_ph2 I c n i hp hn h sS rS hsS hrS m

theorem cp3 (c n : Dev nD) (i : Ed) (hp : ph i = 3) (hn : n = dst c i) {off : Fin 3 → ℕ}
    {inb : ∀ a, off a + S1x64x512.size a ≤ S3x256x512.size a}
    (h : off = ![(lay i).val, 64 * rr c, 0])
    (sS rS : DmaSem sig) (hsS : sS = sendSem i) (hrS : rS = recvSem i)
    {hsc : ((V13 inb : Memref sig .tc .vmem S64x512 .bf16) : Memref sig (Dev.tc n : Thread nD τ).2.kind .vmem S64x512 .bf16).view.ref.isScScratch = false} {hsrc : (V13 inb).view.WordExact} {hdst : (V13 inb).view.WordExact}
    {hsem : DmaTarget.Typed .vmem (.dma rS) (.remote (Dev.tc n : Thread nD τ) (V13 inb : Memref sig .tc .vmem S64x512 .bf16) (.dma sS) hsc)}
    (m a b : ℕ) (ha : i.val = a) (hb : a + 1 = b) {α : Type} {Q : α → sProp 𝕄} {k : PUnit → Prog (TpuEff nD τ sig (Elt F) Λ₀ .tc) α} :
    iprop(Core I c a m ∗ srcP I c i)
      ⊢ iprop((Core I c b m -∗ WP c (k ⟨⟩) Q)
          -∗ WP c (.op (.enqueueDma (V13 inb) (.remote (Dev.tc n : Thread nD τ) (V13 inb) (.dma sS) hsc) (.dma rS) hsrc hdst hsem) k) Q) := by
  subst ha; subst hb; exact copy_ph3 I c n i hp hn h sS rS hsS hrS m

theorem recv_at (c : Dev nD) (n : ℕ) (j : Ed) (hn : ∀ i : Ed, n ≤ i.val → 2 + (rv j).val / 3 < 2 + i.val / 3) (a b : ℕ) (ha : j.val = a) (hb : a + 1 = b) (e : Ed) (he : rv j = e) (sm : DmaSem sig) (hsm : sm = recvSem e)
    {s s' : Shape} {y y' : EltTy} {A : Memref sig .tc .vmem s y} {B : Memref sig .tc .vmem s' y'} {hA : A.view.WordExact} {hB : B.view.WordExact}
    (hk : ∀ K : PUnit → sProp 𝕄, wpE (defs₀ (F := F)) 𝒱₀ (c : Thread nD τ) none Set.univ (.waitDma2 sm A B hA hB) K = waitSpec (c : Thread nD τ) Set.univ (.dma sm) (amt e) K)
    {α : Type} {Q : α → sProp 𝕄} {k : PUnit → Prog (TpuEff nD τ sig (Elt F) Λ₀ .tc) α} :
    Core I c n a
      ⊢ iprop((Core I c n b -∗ landed I c e -∗ WP c (k ⟨⟩) Q) -∗ WP c (.op (.waitDma2 sm A B hA hB) k) Q) := by
  subst ha; subst hb; subst he; exact recv_wait I c n j hn sm hsm hk

theorem send_at (c : Dev nD) (j : Ed) (a b : ℕ) (ha : j.val = a) (hb : a + 1 = b) (sm : DmaSem sig) (hsm : sm = sendSem j)
    {s s' : Shape} {e e' : EltTy} {A : Memref sig .tc .vmem s e} {B : Memref sig .tc .vmem s' e'} {hA : A.view.WordExact} {hB : B.view.WordExact}
    (hk : ∀ K : PUnit → sProp 𝕄, wpE (defs₀ (F := F)) 𝒱₀ (c : Thread nD τ) none Set.univ (.waitDma2 sm A B hA hB) K = waitSpec (c : Thread nD τ) Set.univ (.dma sm) (amt j) K)
    {α : Type} {Q : α → sProp 𝕄} {k : PUnit → Prog (TpuEff nD τ sig (Elt F) Λ₀ .tc) α} :
    Tail I c a
      ⊢ iprop((Tail I c b -∗ WP c (k ⟨⟩) Q) -∗ WP c (.op (.waitDma2 sm A B hA hB) k) Q) := by
  subst ha; subst hb; exact send_wait I c j sm hsm hk

theorem signal_at {Q : α → sProp 𝕄} (c n : Dev nD) (s : Du) (hn : n = tgt c s) (a b : ℕ) (ha : s.val = a) (hb : a + 1 = b) {z : ℤ} (hz1 : z = 1) {k : PUnit → Prog (TpuEff nD τ sig (Elt F) Λ₀ .tc) α} :
    Pre I c a ⊢ iprop((Pre I c b -∗ WP c (k ⟨⟩) Q) -∗ WP c (.op (.semSignal (Dev.tc n : Thread nD τ) cc0_scratch13.sem z) k) Q) := by
  subst ha; subst hb; exact signal_step I c n s hn hz1

/-- A run that has ended holds what its result has to meet. -/
theorem done {α : Type} {Q : α → sProp 𝕄} (c : Dev nD) (a : α) :
    Q a ⊢ WP (F := F) c (Prog.ret a) Q := by
  show Q a ⊢ wp frame (wpE (defs₀ (F := F)) 𝒱₀ (c : Thread nD τ) none) Set.univ (Prog.ret a) Q
  rw [wp_ret]
  exact fupd_intro

/-- One program after another. -/
theorem seq_at {α β : Type} {Q : β → sProp 𝕄} (c : Dev nD) (p : Prog (TpuEff nD τ sig (Elt F) Λ₀ .tc) α) (k : α → Prog (TpuEff nD τ sig (Elt F) Λ₀ .tc) β) :
    WP c p (fun a => WP c (k a) Q) ⊢ WP (F := F) c (p >>= k) Q :=
  Entails.of_eq (wp_bind _ _ _ p k Q).symm

end Cert.MlpProof

end
-- ==== Proof.Part1.lean ====
/- The body, statement group 1 to 8, of the printed parts. -/
module

public import proofs.«01_k».proof.Proof.Steps2

@[expose] public section

noncomputable section

namespace Cert.MlpProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_range)
open Idealize.ShloMosaic.Pipeline (Dat Cfg Window BodyObligation cellOf)

variable {F : FTy → Type} [FloatOps F]

local notation "𝕄" => MT nD τ sig Unit (Elt F) ℕ UU ℕ

variable (I : Inp F)

theorem part1 (c : Dev nD)   {Q : (Σ' (d0 : Dev nD) (v2 : BitVec 32) (v19 : BitVec 32) (v29 : BitVec 32) (v32 : BitVec 32) (v33 : BitVec 32) (v34 : BitVec 32), BitVec 32) → sProp 𝕄} :
    iprop(Pre I c 0) ⊢ iprop((∀ r, ⌜r.1 = c⌝ -∗ (Pre I c 0) -∗ Q r)
      -∗ WP c (k0_part1 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 ) Q) := by
  rw [k0_part1_eq_skeleton]; unfold k0_part1_skel
  simp only [semSignalWord, semWaitWord, Prog.lift, Prog.bind_op, Prog.bind_ret, Prog.pure_eq_ret, wp_deviceId]
  iintro Hpre_0 Hk
  iapply (done c _)
  iapply Hk $$ [] [Hpre_0]
  · ipureintro; exact rfl
  · iexact Hpre_0

theorem part2 (c : Dev nD) (v19 : BitVec 32) (v29 : BitVec 32) (v33 : BitVec 32) (v34 : BitVec 32) (v36 : BitVec 32)  {Q : (Σ' (v63 : BitVec 32) (v66 : BitVec 32) (v67 : BitVec 32) (v68 : BitVec 1) (v69 : BitVec 1), BitVec 32) → sProp 𝕄} :
    iprop(Pre I c 0) ⊢ iprop((∀ r, (Pre I c 2) -∗ Q r)
      -∗ WP c (k0_part2 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 c v19 v29 v33 v34 v36) Q) := by
  rw [k0_part2_eq_skeleton]; unfold k0_part2_skel
  simp only [semSignalWord, semWaitWord, Prog.lift, Prog.bind_op, Prog.bind_ret, Prog.pure_eq_ret, wp_deviceId]
  iintro Hpre_0 Hk
  iapply (signal_at I c _ 0 (dev1_eq c) 0 1 rfl rfl (by decide)) $$ Hpre_0; iintro Hpre_1
  iapply (signal_at I c _ 1 (dev2_eq c) 1 2 rfl rfl (by decide)) $$ Hpre_1; iintro Hpre_2
  iapply (done c _)
  iapply Hk
  iexact Hpre_2

theorem part3 (c : Dev nD) (v19 : BitVec 32) (v29 : BitVec 32) (v63 : BitVec 32) (v66 : BitVec 32) (v67 : BitVec 32) (v68 : BitVec 1) (v69 : BitVec 1) (c0_i32_40 : BitVec 32)  {Q : (BitVec 32) → sProp 𝕄} :
    iprop(Pre I c 2) ⊢ iprop((∀ r, (Pre I c 4) -∗ Q r)
      -∗ WP c (k0_part3 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 c v19 v29 v63 v66 v67 v68 v69 c0_i32_40) Q) := by
  rw [k0_part3_eq_skeleton]; unfold k0_part3_skel
  simp only [semSignalWord, semWaitWord, Prog.lift, Prog.bind_op, Prog.bind_ret, Prog.pure_eq_ret, wp_deviceId]
  iintro Hpre_2 Hk
  iapply (signal_at I c _ 2 (dev3_eq c) 2 3 rfl rfl (by decide)) $$ Hpre_2; iintro Hpre_3
  iapply (signal_at I c _ 3 (dev4_eq c) 3 4 rfl rfl (by decide)) $$ Hpre_3; iintro Hpre_4
  iapply (done c _)
  iapply Hk
  iexact Hpre_4

theorem part4 (c : Dev nD) (v19 : BitVec 32) (v29 : BitVec 32) (v105 : BitVec 32)  {Q : (Σ' (v132 : BitVec 32) (c4_i32_83 : BitVec 32) (v133 : BitVec 1), BitVec 32) → sProp 𝕄} :
    iprop(Pre I c 4 ∗ stg c cc0_stg0_0 (I.x c) ∗ stg c cc0_stg1_0 (I.wi 0 c) ∗ A0 c 0) ⊢ iprop((∀ r, (Core I c 0 0 ∗ semVal (readyCell c) 0 ∗ stg c cc0_stg0_0 (I.x c) ∗ stg c cc0_stg1_0 (I.wi 0 c) ∗ A1 I c 0 ∗ srcP I c 0 ∗ srcP I c 1 ∗ srcP I c 2) -∗ Q r)
      -∗ WP c (k0_part4 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 c v19 v29 v105) Q) := by
  rw [k0_part4_eq_skeleton]; unfold k0_part4_skel
  simp only [semSignalWord, semWaitWord, Prog.lift, Prog.bind_op, Prog.bind_ret, Prog.pure_eq_ret, wp_deviceId]
  iintro ⟨Hpre_4, Hstg_0, Hstg_1, HA0_0⟩ Hk
  iapply (signal_at I c _ 4 (dev5_eq c) 4 5 rfl rfl (by decide)) $$ Hpre_4; iintro Hpre_5
  iapply (signal_at I c _ 5 (dev6_eq c) 5 6 rfl rfl (by decide)) $$ Hpre_5; iintro Hpre_6
  iapply (ready_wait I c (by decide)) $$ Hpre_6; iintro Hcore_0_0 HZ
  iapply (ld_stg0 c) $$ Hstg_0; iintro Hstg_0
  iapply (ld_stg1 c) $$ Hstg_1; iintro Hstg_1
  iapply (dead8 c 0 rfl) $$ HA0_0; iintro %v129d HA0_0
  iapply (st8 I c trio0_0 rfl rfl) $$ HA0_0; iintro ⟨HA1_0, Hsrc_0, Hsrc_1, Hsrc_2⟩
  iapply (done c _)
  iapply Hk
  isplitl [Hcore_0_0]; (· iexact Hcore_0_0)
  isplitl [HZ]; (· iexact HZ)
  isplitl [Hstg_0]; (· iexact Hstg_0)
  isplitl [Hstg_1]; (· iexact Hstg_1)
  isplitl [HA1_0]; (· iexact HA1_0)
  isplitl [Hsrc_0]; (· iexact Hsrc_0)
  isplitl [Hsrc_1]; (· iexact Hsrc_1)
  iexact Hsrc_2

theorem part5 (c : Dev nD) (v19 : BitVec 32) (v29 : BitVec 32) (v132 : BitVec 32) (c4_i32_83 : BitVec 32) (v133 : BitVec 1) (c1_i32_85 : BitVec 32)  {Q : (BitVec 32) → sProp 𝕄} :
    iprop(Core I c 0 0 ∗ srcP I c 0) ⊢ iprop((∀ r, (Core I c 1 0) -∗ Q r)
      -∗ WP c (k0_part5 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 c v19 v29 v132 c4_i32_83 v133 c1_i32_85) Q) := by
  rw [k0_part5_eq_skeleton]; unfold k0_part5_skel
  simp only [semSignalWord, semWaitWord, Prog.lift, Prog.bind_op, Prog.bind_ret, Prog.pure_eq_ret, wp_deviceId]
  iintro ⟨Hcore_0_0, Hsrc_0⟩ Hk
  iapply (cp0 I c _ 0 rfl (dev7_eq c) (off1_1_eq c) rfl _ _ rfl rfl 0 0 1 rfl rfl) $$ [Hcore_0_0 Hsrc_0]
  · isplitl [Hcore_0_0]; (· iexact Hcore_0_0); iexact Hsrc_0
  iintro Hcore_1_0
  iapply (done c _)
  iapply Hk
  iexact Hcore_1_0

theorem part6 (c : Dev nD) (v19 : BitVec 32) (v29 : BitVec 32) (v166 : BitVec 32)  {Q : (PUnit) → sProp 𝕄} :
    iprop(Core I c 1 0 ∗ srcP I c 1) ⊢ iprop((∀ r, (Core I c 2 0) -∗ Q r)
      -∗ WP c (k0_part6 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 c v19 v29 v166) Q) := by
  rw [k0_part6_eq_skeleton]; unfold k0_part6_skel
  simp only [semSignalWord, semWaitWord, Prog.lift, Prog.bind_op, Prog.bind_ret, Prog.pure_eq_ret, wp_deviceId]
  iintro ⟨Hcore_1_0, Hsrc_1⟩ Hk
  iapply (cp0 I c _ 1 rfl (dev8_eq c) (off1_2_eq c) rfl _ _ rfl rfl 0 1 2 rfl rfl) $$ [Hcore_1_0 Hsrc_1]
  · isplitl [Hcore_1_0]; (· iexact Hcore_1_0); iexact Hsrc_1
  iintro Hcore_2_0
  iapply (done c _)
  iapply Hk
  iexact Hcore_2_0

theorem part7 (c : Dev nD) (v2 : BitVec 32) (v29 : BitVec 32)  {Q : (Σ' (v220 : FVec F S64x512 .f32), BitVec 32) → sProp 𝕄} :
    iprop(Core I c 2 0 ∗ srcP I c 2 ∗ A1 I c 0) ⊢ iprop((∀ r, ⌜r.1 = k0_pay2 (ownA (pA I 0) c) (slotA (pA I 0) c 1)⌝ -∗ (Core I c 3 1 ∗ A1 I c 0 ∗ landed I c 2) -∗ Q r)
      -∗ WP c (k0_part7 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 c v2 v29) Q) := by
  rw [k0_part7_eq_skeleton]; unfold k0_part7_skel
  simp only [semSignalWord, semWaitWord, Prog.lift, Prog.bind_op, Prog.bind_ret, Prog.pure_eq_ret, wp_deviceId]
  iintro ⟨Hcore_2_0, Hsrc_2, HA1_0⟩ Hk
  iapply (cp0 I c _ 2 rfl (dev9_eq c) (off1_3_eq c) rfl _ _ rfl rfl 0 2 3 rfl rfl) $$ [Hcore_2_0 Hsrc_2]
  · isplitl [Hcore_2_0]; (· iexact Hcore_2_0); iexact Hsrc_2
  iintro Hcore_3_0
  iapply (ld_own8 I c 0 (off2_eq c)) $$ HA1_0; iintro HA1_0
  iapply (recv_at I c 3 0 (by decide) 0 1 rfl rfl 2 rfl _ rfl (wpE_waitDma2_eq 𝒱₀ (c : Thread nD τ) none Set.univ)) $$ Hcore_3_0; iintro Hcore_3_1 Hlnd_2
  iapply (ld_slot9 I c 2 rfl rfl) $$ Hlnd_2; iintro Hlnd_2
  iapply (done c _)
  iapply Hk $$ [] [Hcore_3_1 HA1_0 Hlnd_2]
  · ipureintro; exact rfl
  · isplitl [Hcore_3_1]; (· iexact Hcore_3_1)
    isplitl [HA1_0]; (· iexact HA1_0)
    iexact Hlnd_2

theorem part8 (c : Dev nD) (v2 : BitVec 32) (v220 : FVec F S64x512 .f32) (c1_i32_173 : BitVec 32) (hv220 : v220 = (k0_pay2 (ownA (pA I 0) c) (slotA (pA I 0) c 1))) {Q : (FVec F S1x64x512 .bf16) → sProp 𝕄} :
    iprop(Core I c 3 1 ∗ S0 c 0) ⊢ iprop((∀ r, ⌜r = (k0_pay3 (k0_pay2 (ownA (pA I 0) c) (slotA (pA I 0) c 1)) (slotA (pA I 0) c 2) (slotA (pA I 0) c 3))⌝ -∗ (Core I c 3 3 ∗ landed I c 1 ∗ landed I c 0 ∗ S0 c 0) -∗ Q r)
      -∗ WP c (k0_part8 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 v2 v220 c1_i32_173) Q) := by
  subst hv220
  rw [k0_part8_eq_skeleton]; unfold k0_part8_skel
  simp only [semSignalWord, semWaitWord, Prog.lift, Prog.bind_op, Prog.bind_ret, Prog.pure_eq_ret, wp_deviceId]
  iintro ⟨Hcore_3_1, HS0_0⟩ Hk
  iapply (recv_at I c 3 1 (by decide) 1 2 rfl rfl 1 rfl _ rfl (wpE_waitDma2_eq 𝒱₀ (c : Thread nD τ) none Set.univ)) $$ Hcore_3_1; iintro Hcore_3_2 Hlnd_1
  iapply (ld_slot9 I c 1 rfl rfl) $$ Hlnd_1; iintro Hlnd_1
  iapply (recv_at I c 3 2 (by decide) 2 3 rfl rfl 0 rfl _ rfl (wpE_waitDma2_eq 𝒱₀ (c : Thread nD τ) none Set.univ)) $$ Hcore_3_2; iintro Hcore_3_3 Hlnd_0
  iapply (ld_slot9 I c 0 rfl rfl) $$ Hlnd_0; iintro Hlnd_0
  iapply (dead10 c 0 rfl) $$ HS0_0; iintro %v246d HS0_0
  iapply (done c _)
  iapply Hk $$ [] [Hcore_3_3 Hlnd_1 Hlnd_0 HS0_0]
  · ipureintro; exact rfl
  · isplitl [Hcore_3_3]; (· iexact Hcore_3_3)
    isplitl [Hlnd_1]; (· iexact Hlnd_1)
    isplitl [Hlnd_0]; (· iexact Hlnd_0)
    iexact HS0_0

end Cert.MlpProof

end
-- ==== Proof.Part2.lean ====
/- The body, statement group 9 to 15, of the printed parts. -/
module

public import proofs.«01_k».proof.Proof.Steps2

@[expose] public section

noncomputable section

namespace Cert.MlpProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_range)
open Idealize.ShloMosaic.Pipeline (Dat Cfg Window BodyObligation cellOf)

variable {F : FTy → Type} [FloatOps F]

local notation "𝕄" => MT nD τ sig Unit (Elt F) ℕ UU ℕ

variable (I : Inp F)

theorem part9 (c : Dev nD) (v19 : BitVec 32) (v29 : BitVec 32) (v248 : FVec F S1x64x512 .bf16) (hv248 : v248 = (k0_pay3 (k0_pay2 (ownA (pA I 0) c) (slotA (pA I 0) c 1)) (slotA (pA I 0) c 2) (slotA (pA I 0) c 3))) {Q : (Σ' (v275 : BitVec 32) (v276 : BitVec 32) (v277 : BitVec 1) (v278 : BitVec 1), BitVec 32) → sProp 𝕄} :
    iprop(Core I c 3 3 ∗ S0 c 0) ⊢ iprop((∀ r, (Core I c 4 3 ∗ S1 I c 0 ∗ srcP I c 4 ∗ srcP I c 5) -∗ Q r)
      -∗ WP c (k0_part9 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 c v19 v29 v248) Q) := by
  subst hv248
  rw [k0_part9_eq_skeleton]; unfold k0_part9_skel
  simp only [semSignalWord, semWaitWord, Prog.lift, Prog.bind_op, Prog.bind_ret, Prog.pure_eq_ret, wp_deviceId]
  iintro ⟨Hcore_3_3, HS0_0⟩ Hk
  iapply (st10 I c trio0_1 rfl rfl) $$ HS0_0; iintro ⟨HS1_0, Hsrc_3, Hsrc_4, Hsrc_5⟩
  iapply (cp1 I c _ 3 rfl (dev10_eq c) (off3_1_eq c) rfl _ _ rfl rfl 3 3 4 rfl rfl) $$ [Hcore_3_3 Hsrc_3]
  · isplitl [Hcore_3_3]; (· iexact Hcore_3_3); iexact Hsrc_3
  iintro Hcore_4_3
  iapply (done c _)
  iapply Hk
  isplitl [Hcore_4_3]; (· iexact Hcore_4_3)
  isplitl [HS1_0]; (· iexact HS1_0)
  isplitl [Hsrc_4]; (· iexact Hsrc_4)
  iexact Hsrc_5

theorem part10 (c : Dev nD) (v19 : BitVec 32) (v29 : BitVec 32) (v275 : BitVec 32) (v276 : BitVec 32) (v277 : BitVec 1) (v278 : BitVec 1) (c0_i32_229 : BitVec 32)  {Q : (BitVec 32) → sProp 𝕄} :
    iprop(Core I c 4 3 ∗ srcP I c 4) ⊢ iprop((∀ r, (Core I c 5 3) -∗ Q r)
      -∗ WP c (k0_part10 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 c v19 v29 v275 v276 v277 v278 c0_i32_229) Q) := by
  rw [k0_part10_eq_skeleton]; unfold k0_part10_skel
  simp only [semSignalWord, semWaitWord, Prog.lift, Prog.bind_op, Prog.bind_ret, Prog.pure_eq_ret, wp_deviceId]
  iintro ⟨Hcore_4_3, Hsrc_4⟩ Hk
  iapply (cp1 I c _ 4 rfl (dev11_eq c) (off3_2_eq c) rfl _ _ rfl rfl 3 4 5 rfl rfl) $$ [Hcore_4_3 Hsrc_4]
  · isplitl [Hcore_4_3]; (· iexact Hcore_4_3); iexact Hsrc_4
  iintro Hcore_5_3
  iapply (done c _)
  iapply Hk
  iexact Hcore_5_3

theorem part11 (c : Dev nD) (v2 : BitVec 32) (v19 : BitVec 32) (v310 : BitVec 32)  {Q : (FVec F S16x512 .f32) → sProp 𝕄} :
    iprop(Core I c 5 3 ∗ srcP I c 5 ∗ S1 I c 0) ⊢ iprop((∀ r, ⌜r = (k0_pay4 (ownS (sumRow (pA I 0)) c) (slotS (sumRow (pA I 0)) c 1))⌝ -∗ (Core I c 6 4 ∗ S1 I c 0 ∗ landed I c 5) -∗ Q r)
      -∗ WP c (k0_part11 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 c v2 v19 v310) Q) := by
  rw [k0_part11_eq_skeleton]; unfold k0_part11_skel
  simp only [semSignalWord, semWaitWord, Prog.lift, Prog.bind_op, Prog.bind_ret, Prog.pure_eq_ret, wp_deviceId]
  iintro ⟨Hcore_5_3, Hsrc_5, HS1_0⟩ Hk
  iapply (cp1 I c _ 5 rfl (dev12_eq c) (off3_3_eq c) rfl _ _ rfl rfl 3 5 6 rfl rfl) $$ [Hcore_5_3 Hsrc_5]
  · isplitl [Hcore_5_3]; (· iexact Hcore_5_3); iexact Hsrc_5
  iintro Hcore_6_3
  iapply (ld_own10 I c 0 (off4_eq c)) $$ HS1_0; iintro HS1_0
  iapply (recv_at I c 6 3 (by decide) 3 4 rfl rfl 5 rfl _ rfl (wpE_waitDma2_eq 𝒱₀ (c : Thread nD τ) none Set.univ)) $$ Hcore_6_3; iintro Hcore_6_4 Hlnd_5
  iapply (ld_slot11 I c 5 rfl rfl) $$ Hlnd_5; iintro Hlnd_5
  iapply (done c _)
  iapply Hk $$ [] [Hcore_6_4 HS1_0 Hlnd_5]
  · ipureintro; exact rfl
  · isplitl [Hcore_6_4]; (· iexact Hcore_6_4)
    isplitl [HS1_0]; (· iexact HS1_0)
    iexact Hlnd_5

theorem part12 (c : Dev nD) (v2 : BitVec 32) (v337 : FVec F S16x512 .f32) (hv337 : v337 = (k0_pay4 (ownS (sumRow (pA I 0)) c) (slotS (sumRow (pA I 0)) c 1))) {Q : (FVec F S16x512 .f32) → sProp 𝕄} :
    iprop(Core I c 6 4) ⊢ iprop((∀ r, ⌜r = (k0_pay5 (k0_pay4 (ownS (sumRow (pA I 0)) c) (slotS (sumRow (pA I 0)) c 1)) (slotS (sumRow (pA I 0)) c 2) (slotS (sumRow (pA I 0)) c 3))⌝ -∗ (Core I c 6 6 ∗ landed I c 4 ∗ landed I c 3) -∗ Q r)
      -∗ WP c (k0_part12 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 v2 v337) Q) := by
  subst hv337
  rw [k0_part12_eq_skeleton]; unfold k0_part12_skel
  simp only [semSignalWord, semWaitWord, Prog.lift, Prog.bind_op, Prog.bind_ret, Prog.pure_eq_ret, wp_deviceId]
  iintro Hcore_6_4 Hk
  iapply (recv_at I c 6 4 (by decide) 4 5 rfl rfl 4 rfl _ rfl (wpE_waitDma2_eq 𝒱₀ (c : Thread nD τ) none Set.univ)) $$ Hcore_6_4; iintro Hcore_6_5 Hlnd_4
  iapply (ld_slot11 I c 4 rfl rfl) $$ Hlnd_4; iintro Hlnd_4
  iapply (recv_at I c 6 5 (by decide) 5 6 rfl rfl 3 rfl _ rfl (wpE_waitDma2_eq 𝒱₀ (c : Thread nD τ) none Set.univ)) $$ Hcore_6_5; iintro Hcore_6_6 Hlnd_3
  iapply (ld_slot11 I c 3 rfl rfl) $$ Hlnd_3; iintro Hlnd_3
  iapply (done c _)
  iapply Hk $$ [] [Hcore_6_6 Hlnd_4 Hlnd_3]
  · ipureintro; exact rfl
  · isplitl [Hcore_6_6]; (· iexact Hcore_6_6)
    isplitl [Hlnd_4]; (· iexact Hlnd_4)
    iexact Hlnd_3

theorem part13 (c : Dev nD) (v19 : BitVec 32) (v29 : BitVec 32) (v32 : BitVec 32) (v361 : FVec F S16x512 .f32) (hv361 : v361 = (k0_pay5 (k0_pay4 (ownS (sumRow (pA I 0)) c) (slotS (sumRow (pA I 0)) c 1)) (slotS (sumRow (pA I 0)) c 2) (slotS (sumRow (pA I 0)) c 3))) {Q : (Σ' (v392 : BitVec 32), BitVec 32) → sProp 𝕄} :
    iprop(Core I c 6 6 ∗ H0 c 0) ⊢ iprop((∀ r, (Core I c 7 6 ∗ H1 I c 0 ∗ srcP I c 7 ∗ srcP I c 8) -∗ Q r)
      -∗ WP c (k0_part13 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 c v19 v29 v32 v361) Q) := by
  subst hv361
  rw [k0_part13_eq_skeleton]; unfold k0_part13_skel
  simp only [semSignalWord, semWaitWord, Prog.lift, Prog.bind_op, Prog.bind_ret, Prog.pure_eq_ret, wp_deviceId]
  iintro ⟨Hcore_6_6, HH0_0⟩ Hk
  iapply (dead12 c 0 (off5_eq c)) $$ HH0_0; iintro %v366d HH0_0
  iapply (st12 I c trio0_2 (off5_eq c) rfl) $$ HH0_0; iintro ⟨HH1_0, Hsrc_6, Hsrc_7, Hsrc_8⟩
  iapply (cp2 I c _ 6 rfl (dev13_eq c) (off6_eq c) _ _ rfl rfl 6 6 7 rfl rfl) $$ [Hcore_6_6 Hsrc_6]
  · isplitl [Hcore_6_6]; (· iexact Hcore_6_6); iexact Hsrc_6
  iintro Hcore_7_6
  iapply (done c _)
  iapply Hk
  isplitl [Hcore_7_6]; (· iexact Hcore_7_6)
  isplitl [HH1_0]; (· iexact HH1_0)
  isplitl [Hsrc_7]; (· iexact Hsrc_7)
  iexact Hsrc_8

theorem part14 (c : Dev nD) (v19 : BitVec 32) (v29 : BitVec 32) (v392 : BitVec 32) (v394 : BitVec 32)  {Q : (BitVec 32) → sProp 𝕄} :
    iprop(Core I c 7 6 ∗ srcP I c 7) ⊢ iprop((∀ r, (Core I c 8 6) -∗ Q r)
      -∗ WP c (k0_part14 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 c v19 v29 v392 v394) Q) := by
  rw [k0_part14_eq_skeleton]; unfold k0_part14_skel
  simp only [semSignalWord, semWaitWord, Prog.lift, Prog.bind_op, Prog.bind_ret, Prog.pure_eq_ret, wp_deviceId]
  iintro ⟨Hcore_7_6, Hsrc_7⟩ Hk
  iapply (cp2 I c _ 7 rfl (dev14_eq c) (off6_eq c) _ _ rfl rfl 6 7 8 rfl rfl) $$ [Hcore_7_6 Hsrc_7]
  · isplitl [Hcore_7_6]; (· iexact Hcore_7_6); iexact Hsrc_7
  iintro Hcore_8_6
  iapply (done c _)
  iapply Hk
  iexact Hcore_8_6

theorem part15 (c : Dev nD) (v2 : BitVec 32) (v427 : BitVec 32)  {Q : (PUnit) → sProp 𝕄} :
    iprop(Core I c 8 6 ∗ srcP I c 8) ⊢ iprop((∀ r, (Core I c 9 8 ∗ landed I c 8 ∗ landed I c 7) -∗ Q r)
      -∗ WP c (k0_part15 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 c v2 v427) Q) := by
  rw [k0_part15_eq_skeleton]; unfold k0_part15_skel
  simp only [semSignalWord, semWaitWord, Prog.lift, Prog.bind_op, Prog.bind_ret, Prog.pure_eq_ret, wp_deviceId]
  iintro ⟨Hcore_8_6, Hsrc_8⟩ Hk
  iapply (cp2 I c _ 8 rfl (dev15_eq c) (off6_eq c) _ _ rfl rfl 6 8 9 rfl rfl) $$ [Hcore_8_6 Hsrc_8]
  · isplitl [Hcore_8_6]; (· iexact Hcore_8_6); iexact Hsrc_8
  iintro Hcore_9_6
  iapply (recv_at I c 9 6 (by decide) 6 7 rfl rfl 8 rfl _ rfl (wpE_waitDma2_eq 𝒱₀ (c : Thread nD τ) none Set.univ)) $$ Hcore_9_6; iintro Hcore_9_7 Hlnd_8
  iapply (recv_at I c 9 7 (by decide) 7 8 rfl rfl 7 rfl _ rfl (wpE_waitDma2_eq 𝒱₀ (c : Thread nD τ) none Set.univ)) $$ Hcore_9_7; iintro Hcore_9_8 Hlnd_7
  iapply (done c _)
  iapply Hk
  isplitl [Hcore_9_8]; (· iexact Hcore_9_8)
  isplitl [Hlnd_8]; (· iexact Hlnd_8)
  iexact Hlnd_7

end Cert.MlpProof

end
-- ==== Proof.Part3.lean ====
/- The body, statement group 16 to 22, of the printed parts. -/
module

public import proofs.«01_k».proof.Proof.Steps2

@[expose] public section

noncomputable section

namespace Cert.MlpProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_range)
open Idealize.ShloMosaic.Pipeline (Dat Cfg Window BodyObligation cellOf)

variable {F : FTy → Type} [FloatOps F]

local notation "𝕄" => MT nD τ sig Unit (Elt F) ℕ UU ℕ

variable (I : Inp F)

theorem part16 (c : Dev nD) (v2 : BitVec 32) (v19 : BitVec 32) (v29 : BitVec 32)  {Q : (PUnit) → sProp 𝕄} :
    iprop(Core I c 9 8) ⊢ iprop((∀ r, (Core I c 9 9 ∗ landed I c 6) -∗ Q r)
      -∗ WP c (k0_part16 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 v2 v19 v29) Q) := by
  rw [k0_part16_eq_skeleton]; unfold k0_part16_skel
  simp only [semSignalWord, semWaitWord, Prog.lift, Prog.bind_op, Prog.bind_ret, Prog.pure_eq_ret, wp_deviceId]
  iintro Hcore_9_8 Hk
  iapply (recv_at I c 9 8 (by decide) 8 9 rfl rfl 6 rfl _ rfl (wpE_waitDma2_eq 𝒱₀ (c : Thread nD τ) none Set.univ)) $$ Hcore_9_8; iintro Hcore_9_9 Hlnd_6
  iapply (done c _)
  iapply Hk
  isplitl [Hcore_9_9]; (· iexact Hcore_9_9)
  iexact Hlnd_6

theorem part17 (c : Dev nD) (v19 : BitVec 32) (v29 : BitVec 32)  {Q : (Σ' (v514 : BitVec 32), BitVec 32) → sProp 𝕄} :
    iprop(Core I c 9 9 ∗ H1 I c 0 ∗ landed I c 6 ∗ landed I c 7 ∗ landed I c 8) ⊢ iprop((∀ r, (Core I c 11 9 ∗ H2 I c 0 ∗ srcP I c 11) -∗ Q r)
      -∗ WP c (k0_part17 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 c v19 v29) Q) := by
  rw [k0_part17_eq_skeleton]; unfold k0_part17_skel
  simp only [semSignalWord, semWaitWord, Prog.lift, Prog.bind_op, Prog.bind_ret, Prog.pure_eq_ret, wp_deviceId]
  iintro ⟨Hcore_9_9, HH1_0, Hlnd_6, Hlnd_7, Hlnd_8⟩ Hk
  ihave T1 := (merge_2 I c trio0_2 trio0_3) $$ [HH1_0 Hlnd_6 Hlnd_7 Hlnd_8]
  · isplitl [HH1_0]; (· iexact HH1_0); isplitl [Hlnd_6]; (· iexact Hlnd_6); isplitl [Hlnd_7]; (· iexact Hlnd_7); iexact Hlnd_8
  icases T1 with ⟨HH2_0, Hsrc_9, Hsrc_10, Hsrc_11⟩
  iapply (cp3 I c _ 9 rfl (dev16_eq c) (off7_eq c) _ _ rfl rfl 9 9 10 rfl rfl) $$ [Hcore_9_9 Hsrc_9]
  · isplitl [Hcore_9_9]; (· iexact Hcore_9_9); iexact Hsrc_9
  iintro Hcore_10_9
  iapply (cp3 I c _ 10 rfl (dev17_eq c) (off7_eq c) _ _ rfl rfl 9 10 11 rfl rfl) $$ [Hcore_10_9 Hsrc_10]
  · isplitl [Hcore_10_9]; (· iexact Hcore_10_9); iexact Hsrc_10
  iintro Hcore_11_9
  iapply (done c _)
  iapply Hk
  isplitl [Hcore_11_9]; (· iexact Hcore_11_9)
  isplitl [HH2_0]; (· iexact HH2_0)
  iexact Hsrc_11

theorem part18 (c : Dev nD) (v2 : BitVec 32) (v19 : BitVec 32) (v29 : BitVec 32) (v514 : BitVec 32) (v515 : BitVec 32)  {Q : (PUnit) → sProp 𝕄} :
    iprop(Core I c 11 9 ∗ srcP I c 11) ⊢ iprop((∀ r, (Core I c 12 10 ∗ landed I c 11) -∗ Q r)
      -∗ WP c (k0_part18 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 c v2 v19 v29 v514 v515) Q) := by
  rw [k0_part18_eq_skeleton]; unfold k0_part18_skel
  simp only [semSignalWord, semWaitWord, Prog.lift, Prog.bind_op, Prog.bind_ret, Prog.pure_eq_ret, wp_deviceId]
  iintro ⟨Hcore_11_9, Hsrc_11⟩ Hk
  iapply (cp3 I c _ 11 rfl (dev18_eq c) (off7_eq c) _ _ rfl rfl 9 11 12 rfl rfl) $$ [Hcore_11_9 Hsrc_11]
  · isplitl [Hcore_11_9]; (· iexact Hcore_11_9); iexact Hsrc_11
  iintro Hcore_12_9
  iapply (recv_at I c 12 9 (by decide) 9 10 rfl rfl 11 rfl _ rfl (wpE_waitDma2_eq 𝒱₀ (c : Thread nD τ) none Set.univ)) $$ Hcore_12_9; iintro Hcore_12_10 Hlnd_11
  iapply (done c _)
  iapply Hk
  isplitl [Hcore_12_10]; (· iexact Hcore_12_10)
  iexact Hlnd_11

theorem part19 (c : Dev nD) (v2 : BitVec 32)  {Q : (FVec F S256x512 .bf16) → sProp 𝕄} :
    iprop(Core I c 12 10 ∗ H2 I c 0 ∗ landed I c 11 ∗ stg c cc0_stg2_0 (I.wo 0 c) ∗ stg c cc0_stg3_0 (I.wi 1 c)) ⊢ iprop((∀ r, ⌜r = (k0_pay7 (gath (pA I 0)) (I.wo 0 c) (I.wi 1 c))⌝ -∗ (Core I c 12 12 ∗ HP I c 0 ∗ HK I c 0 ∗ stg c cc0_stg2_0 (I.wo 0 c) ∗ stg c cc0_stg3_0 (I.wi 1 c)) -∗ Q r)
      -∗ WP c (k0_part19 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 v2) Q) := by
  rw [k0_part19_eq_skeleton]; unfold k0_part19_skel
  simp only [semSignalWord, semWaitWord, Prog.lift, Prog.bind_op, Prog.bind_ret, Prog.pure_eq_ret, wp_deviceId]
  iintro ⟨Hcore_12_10, HH2_0, Hlnd_11, Hstg_2, Hstg_3⟩ Hk
  iapply (recv_at I c 12 10 (by decide) 10 11 rfl rfl 10 rfl _ rfl (wpE_waitDma2_eq 𝒱₀ (c : Thread nD τ) none Set.univ)) $$ Hcore_12_10; iintro Hcore_12_11 Hlnd_10
  iapply (recv_at I c 12 11 (by decide) 11 12 rfl rfl 9 rfl _ rfl (wpE_waitDma2_eq 𝒱₀ (c : Thread nD τ) none Set.univ)) $$ Hcore_12_11; iintro Hcore_12_12 Hlnd_9
  ihave T1 := (merge_3 I c trio0_3) $$ [HH2_0 Hlnd_9 Hlnd_10 Hlnd_11]
  · isplitl [HH2_0]; (· iexact HH2_0); isplitl [Hlnd_9]; (· iexact Hlnd_9); isplitl [Hlnd_10]; (· iexact Hlnd_10); iexact Hlnd_11
  icases T1 with ⟨HHP_0, HHK_0⟩
  iapply (ld_plane I c 0 rfl) $$ HHP_0; iintro HHP_0
  iapply (ld_stg2 c) $$ Hstg_2; iintro Hstg_2
  iapply (ld_stg3 c) $$ Hstg_3; iintro Hstg_3
  iapply (done c _)
  iapply Hk $$ [] [Hcore_12_12 HHP_0 HHK_0 Hstg_2 Hstg_3]
  · ipureintro; exact rfl
  · isplitl [Hcore_12_12]; (· iexact Hcore_12_12)
    isplitl [HHP_0]; (· iexact HHP_0)
    isplitl [HHK_0]; (· iexact HHK_0)
    isplitl [Hstg_2]; (· iexact Hstg_2)
    iexact Hstg_3

theorem part20 (c : Dev nD) (v19 : BitVec 32) (v29 : BitVec 32) (v569 : FVec F S256x512 .bf16) (hv569 : v569 = (k0_pay7 (gath (pA I 0)) (I.wo 0 c) (I.wi 1 c))) {Q : (Σ' (v599 : BitVec 32), BitVec 32) → sProp 𝕄} :
    iprop(Core I c 12 12 ∗ A0 c 1) ⊢ iprop((∀ r, (Core I c 13 12 ∗ A1 I c 1 ∗ srcP I c 13 ∗ srcP I c 14) -∗ Q r)
      -∗ WP c (k0_part20 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 c v19 v29 v569) Q) := by
  subst hv569
  rw [k0_part20_eq_skeleton]; unfold k0_part20_skel
  simp only [semSignalWord, semWaitWord, Prog.lift, Prog.bind_op, Prog.bind_ret, Prog.pure_eq_ret, wp_deviceId]
  iintro ⟨Hcore_12_12, HA0_1⟩ Hk
  iapply (dead8 c 1 rfl) $$ HA0_1; iintro %v570d HA0_1
  iapply (st8 I c trio1_0 rfl rfl) $$ HA0_1; iintro ⟨HA1_1, Hsrc_12, Hsrc_13, Hsrc_14⟩
  iapply (cp0 I c _ 12 rfl (dev19_eq c) (off8_1_eq c) rfl _ _ rfl rfl 12 12 13 rfl rfl) $$ [Hcore_12_12 Hsrc_12]
  · isplitl [Hcore_12_12]; (· iexact Hcore_12_12); iexact Hsrc_12
  iintro Hcore_13_12
  iapply (done c _)
  iapply Hk
  isplitl [Hcore_13_12]; (· iexact Hcore_13_12)
  isplitl [HA1_1]; (· iexact HA1_1)
  isplitl [Hsrc_13]; (· iexact Hsrc_13)
  iexact Hsrc_14

theorem part21 (c : Dev nD) (v19 : BitVec 32) (v29 : BitVec 32) (v599 : BitVec 32) (v600 : BitVec 32)  {Q : (Σ' (v631 : BitVec 32), BitVec 32) → sProp 𝕄} :
    iprop(Core I c 13 12 ∗ srcP I c 13) ⊢ iprop((∀ r, (Core I c 14 12) -∗ Q r)
      -∗ WP c (k0_part21 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 c v19 v29 v599 v600) Q) := by
  rw [k0_part21_eq_skeleton]; unfold k0_part21_skel
  simp only [semSignalWord, semWaitWord, Prog.lift, Prog.bind_op, Prog.bind_ret, Prog.pure_eq_ret, wp_deviceId]
  iintro ⟨Hcore_13_12, Hsrc_13⟩ Hk
  iapply (cp0 I c _ 13 rfl (dev20_eq c) (off8_2_eq c) rfl _ _ rfl rfl 12 13 14 rfl rfl) $$ [Hcore_13_12 Hsrc_13]
  · isplitl [Hcore_13_12]; (· iexact Hcore_13_12); iexact Hsrc_13
  iintro Hcore_14_12
  iapply (done c _)
  iapply Hk
  iexact Hcore_14_12

theorem part22 (c : Dev nD) (v2 : BitVec 32) (v29 : BitVec 32) (v631 : BitVec 32) (v633 : BitVec 32)  {Q : (Σ' (v649 : FVec F S64x512 .f32), Vec F S1x1x64x512 .bf16) → sProp 𝕄} :
    iprop(Core I c 14 12 ∗ srcP I c 14 ∗ A1 I c 1) ⊢ iprop((∀ r, ⌜r.1 = k0_pay9 (ownA (pA I 1) c) ∧ r.2 = (slotA (pA I 1) c 1)⌝ -∗ (Core I c 15 13 ∗ A1 I c 1 ∗ landed I c 14) -∗ Q r)
      -∗ WP c (k0_part22 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 c v2 v29 v631 v633) Q) := by
  rw [k0_part22_eq_skeleton]; unfold k0_part22_skel
  simp only [semSignalWord, semWaitWord, Prog.lift, Prog.bind_op, Prog.bind_ret, Prog.pure_eq_ret, wp_deviceId]
  iintro ⟨Hcore_14_12, Hsrc_14, HA1_1⟩ Hk
  iapply (cp0 I c _ 14 rfl (dev21_eq c) (off8_3_eq c) rfl _ _ rfl rfl 12 14 15 rfl rfl) $$ [Hcore_14_12 Hsrc_14]
  · isplitl [Hcore_14_12]; (· iexact Hcore_14_12); iexact Hsrc_14
  iintro Hcore_15_12
  iapply (ld_own8 I c 1 (off9_eq c)) $$ HA1_1; iintro HA1_1
  iapply (recv_at I c 15 12 (by decide) 12 13 rfl rfl 14 rfl _ rfl (wpE_waitDma2_eq 𝒱₀ (c : Thread nD τ) none Set.univ)) $$ Hcore_15_12; iintro Hcore_15_13 Hlnd_14
  iapply (ld_slot9 I c 14 rfl rfl) $$ Hlnd_14; iintro Hlnd_14
  iapply (done c _)
  iapply Hk $$ [] [Hcore_15_13 HA1_1 Hlnd_14]
  · ipureintro; exact ⟨rfl, rfl⟩
  · isplitl [Hcore_15_13]; (· iexact Hcore_15_13)
    isplitl [HA1_1]; (· iexact HA1_1)
    iexact Hlnd_14

end Cert.MlpProof

end
-- ==== Proof.Part4.lean ====
/- The body, statement group 23 to 29, of the printed parts. -/
module

public import proofs.«01_k».proof.Proof.Steps2

@[expose] public section

noncomputable section

namespace Cert.MlpProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_range)
open Idealize.ShloMosaic.Pipeline (Dat Cfg Window BodyObligation cellOf)

variable {F : FTy → Type} [FloatOps F]

local notation "𝕄" => MT nD τ sig Unit (Elt F) ℕ UU ℕ

variable (I : Inp F)

theorem part23 (c : Dev nD) (v2 : BitVec 32) (v649 : FVec F S64x512 .f32) (v658 : Vec F S1x1x64x512 .bf16) (hv649 : v649 = (k0_pay9 (ownA (pA I 1) c))) (hv658 : v658 = (slotA (pA I 1) c 1)) {Q : (FVec F S64x512 .f32) → sProp 𝕄} :
    iprop(Core I c 15 13) ⊢ iprop((∀ r, ⌜r = (k0_pay10 (k0_pay9 (ownA (pA I 1) c)) (slotA (pA I 1) c 1) (slotA (pA I 1) c 2))⌝ -∗ (Core I c 15 15 ∗ landed I c 13 ∗ landed I c 12) -∗ Q r)
      -∗ WP c (k0_part23 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 v2 v649 v658) Q) := by
  subst hv649 hv658
  rw [k0_part23_eq_skeleton]; unfold k0_part23_skel
  simp only [semSignalWord, semWaitWord, Prog.lift, Prog.bind_op, Prog.bind_ret, Prog.pure_eq_ret, wp_deviceId]
  iintro Hcore_15_13 Hk
  iapply (recv_at I c 15 13 (by decide) 13 14 rfl rfl 13 rfl _ rfl (wpE_waitDma2_eq 𝒱₀ (c : Thread nD τ) none Set.univ)) $$ Hcore_15_13; iintro Hcore_15_14 Hlnd_13
  iapply (ld_slot9 I c 13 rfl rfl) $$ Hlnd_13; iintro Hlnd_13
  iapply (recv_at I c 15 14 (by decide) 14 15 rfl rfl 12 rfl _ rfl (wpE_waitDma2_eq 𝒱₀ (c : Thread nD τ) none Set.univ)) $$ Hcore_15_14; iintro Hcore_15_15 Hlnd_12
  iapply (done c _)
  iapply Hk $$ [] [Hcore_15_15 Hlnd_13 Hlnd_12]
  · ipureintro; exact rfl
  · isplitl [Hcore_15_15]; (· iexact Hcore_15_15)
    isplitl [Hlnd_13]; (· iexact Hlnd_13)
    iexact Hlnd_12

theorem part24 (c : Dev nD) (v19 : BitVec 32) (v29 : BitVec 32) (v673 : FVec F S64x512 .f32) (hv673 : v673 = (k0_pay10 (k0_pay9 (ownA (pA I 1) c)) (slotA (pA I 1) c 1) (slotA (pA I 1) c 2))) {Q : (BitVec 32) → sProp 𝕄} :
    iprop(Core I c 15 15 ∗ landed I c 12 ∗ S0 c 1) ⊢ iprop((∀ r, (Core I c 16 15 ∗ landed I c 12 ∗ S1 I c 1 ∗ srcP I c 16 ∗ srcP I c 17) -∗ Q r)
      -∗ WP c (k0_part24 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 c v19 v29 v673) Q) := by
  subst hv673
  rw [k0_part24_eq_skeleton]; unfold k0_part24_skel
  simp only [semSignalWord, semWaitWord, Prog.lift, Prog.bind_op, Prog.bind_ret, Prog.pure_eq_ret, wp_deviceId]
  iintro ⟨Hcore_15_15, Hlnd_12, HS0_1⟩ Hk
  iapply (ld_slot9 I c 12 rfl rfl) $$ Hlnd_12; iintro Hlnd_12
  iapply (dead10 c 1 rfl) $$ HS0_1; iintro %v687d HS0_1
  iapply (st10 I c trio1_1 rfl rfl) $$ HS0_1; iintro ⟨HS1_1, Hsrc_15, Hsrc_16, Hsrc_17⟩
  iapply (cp1 I c _ 15 rfl (dev22_eq c) (off10_1_eq c) rfl _ _ rfl rfl 15 15 16 rfl rfl) $$ [Hcore_15_15 Hsrc_15]
  · isplitl [Hcore_15_15]; (· iexact Hcore_15_15); iexact Hsrc_15
  iintro Hcore_16_15
  iapply (done c _)
  iapply Hk
  isplitl [Hcore_16_15]; (· iexact Hcore_16_15)
  isplitl [Hlnd_12]; (· iexact Hlnd_12)
  isplitl [HS1_1]; (· iexact HS1_1)
  isplitl [Hsrc_16]; (· iexact Hsrc_16)
  iexact Hsrc_17

theorem part25 (c : Dev nD) (v19 : BitVec 32) (v29 : BitVec 32) (c2_i32_667 : BitVec 32)  {Q : (Σ' (v740 : BitVec 32) (v741 : BitVec 32) (v742 : BitVec 1), BitVec 1) → sProp 𝕄} :
    iprop(Core I c 16 15 ∗ srcP I c 16) ⊢ iprop((∀ r, (Core I c 17 15) -∗ Q r)
      -∗ WP c (k0_part25 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 c v19 v29 c2_i32_667) Q) := by
  rw [k0_part25_eq_skeleton]; unfold k0_part25_skel
  simp only [semSignalWord, semWaitWord, Prog.lift, Prog.bind_op, Prog.bind_ret, Prog.pure_eq_ret, wp_deviceId]
  iintro ⟨Hcore_16_15, Hsrc_16⟩ Hk
  iapply (cp1 I c _ 16 rfl (dev23_eq c) (off10_2_eq c) rfl _ _ rfl rfl 15 16 17 rfl rfl) $$ [Hcore_16_15 Hsrc_16]
  · isplitl [Hcore_16_15]; (· iexact Hcore_16_15); iexact Hsrc_16
  iintro Hcore_17_15
  iapply (done c _)
  iapply Hk
  iexact Hcore_17_15

theorem part26 (c : Dev nD) (v2 : BitVec 32) (v19 : BitVec 32) (v29 : BitVec 32) (v740 : BitVec 32) (v741 : BitVec 32) (v742 : BitVec 1) (v745 : BitVec 1)  {Q : (FVec F S16x512 .f32) → sProp 𝕄} :
    iprop(Core I c 17 15 ∗ srcP I c 17 ∗ S1 I c 1) ⊢ iprop((∀ r, ⌜r = (k0_pay12 (ownS (sumRow (pA I 1)) c))⌝ -∗ (Core I c 18 15 ∗ S1 I c 1) -∗ Q r)
      -∗ WP c (k0_part26 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 c v2 v19 v29 v740 v741 v742 v745) Q) := by
  rw [k0_part26_eq_skeleton]; unfold k0_part26_skel
  simp only [semSignalWord, semWaitWord, Prog.lift, Prog.bind_op, Prog.bind_ret, Prog.pure_eq_ret, wp_deviceId]
  iintro ⟨Hcore_17_15, Hsrc_17, HS1_1⟩ Hk
  iapply (cp1 I c _ 17 rfl (dev24_eq c) (off10_3_eq c) rfl _ _ rfl rfl 15 17 18 rfl rfl) $$ [Hcore_17_15 Hsrc_17]
  · isplitl [Hcore_17_15]; (· iexact Hcore_17_15); iexact Hsrc_17
  iintro Hcore_18_15
  iapply (ld_own10 I c 1 (off11_eq c)) $$ HS1_1; iintro HS1_1
  iapply (done c _)
  iapply Hk $$ [] [Hcore_18_15 HS1_1]
  · ipureintro; exact rfl
  · isplitl [Hcore_18_15]; (· iexact Hcore_18_15)
    iexact HS1_1

theorem part27 (c : Dev nD) (v2 : BitVec 32) (v766 : FVec F S16x512 .f32) (hv766 : v766 = (k0_pay12 (ownS (sumRow (pA I 1)) c))) {Q : (FVec F S16x512 .f32) → sProp 𝕄} :
    iprop(Core I c 18 15) ⊢ iprop((∀ r, ⌜r = (k0_pay13 (k0_pay12 (ownS (sumRow (pA I 1)) c)) (slotS (sumRow (pA I 1)) c 1) (slotS (sumRow (pA I 1)) c 2))⌝ -∗ (Core I c 18 17 ∗ landed I c 17 ∗ landed I c 16) -∗ Q r)
      -∗ WP c (k0_part27 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 v2 v766) Q) := by
  subst hv766
  rw [k0_part27_eq_skeleton]; unfold k0_part27_skel
  simp only [semSignalWord, semWaitWord, Prog.lift, Prog.bind_op, Prog.bind_ret, Prog.pure_eq_ret, wp_deviceId]
  iintro Hcore_18_15 Hk
  iapply (recv_at I c 18 15 (by decide) 15 16 rfl rfl 17 rfl _ rfl (wpE_waitDma2_eq 𝒱₀ (c : Thread nD τ) none Set.univ)) $$ Hcore_18_15; iintro Hcore_18_16 Hlnd_17
  iapply (ld_slot11 I c 17 rfl rfl) $$ Hlnd_17; iintro Hlnd_17
  iapply (recv_at I c 18 16 (by decide) 16 17 rfl rfl 16 rfl _ rfl (wpE_waitDma2_eq 𝒱₀ (c : Thread nD τ) none Set.univ)) $$ Hcore_18_16; iintro Hcore_18_17 Hlnd_16
  iapply (ld_slot11 I c 16 rfl rfl) $$ Hlnd_16; iintro Hlnd_16
  iapply (done c _)
  iapply Hk $$ [] [Hcore_18_17 Hlnd_17 Hlnd_16]
  · ipureintro; exact rfl
  · isplitl [Hcore_18_17]; (· iexact Hcore_18_17)
    isplitl [Hlnd_17]; (· iexact Hlnd_17)
    iexact Hlnd_16

theorem part28 (c : Dev nD) (v19 : BitVec 32) (v29 : BitVec 32) (v32 : BitVec 32) (v790 : FVec F S16x512 .f32) (hv790 : v790 = (k0_pay13 (k0_pay12 (ownS (sumRow (pA I 1)) c)) (slotS (sumRow (pA I 1)) c 1) (slotS (sumRow (pA I 1)) c 2))) {Q : (PUnit) → sProp 𝕄} :
    iprop(Core I c 18 17 ∗ H0 c 1) ⊢ iprop((∀ r, (Core I c 18 18 ∗ landed I c 15 ∗ H1 I c 1 ∗ srcP I c 18 ∗ srcP I c 19 ∗ srcP I c 20) -∗ Q r)
      -∗ WP c (k0_part28 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 c v19 v29 v32 v790) Q) := by
  subst hv790
  rw [k0_part28_eq_skeleton]; unfold k0_part28_skel
  simp only [semSignalWord, semWaitWord, Prog.lift, Prog.bind_op, Prog.bind_ret, Prog.pure_eq_ret, wp_deviceId]
  iintro ⟨Hcore_18_17, HH0_1⟩ Hk
  iapply (recv_at I c 18 17 (by decide) 17 18 rfl rfl 15 rfl _ rfl (wpE_waitDma2_eq 𝒱₀ (c : Thread nD τ) none Set.univ)) $$ Hcore_18_17; iintro Hcore_18_18 Hlnd_15
  iapply (ld_slot11 I c 15 rfl rfl) $$ Hlnd_15; iintro Hlnd_15
  iapply (dead12 c 1 (off12_eq c)) $$ HH0_1; iintro %v807d HH0_1
  iapply (st12 I c trio1_2 (off12_eq c) rfl) $$ HH0_1; iintro ⟨HH1_1, Hsrc_18, Hsrc_19, Hsrc_20⟩
  iapply (done c _)
  iapply Hk
  isplitl [Hcore_18_18]; (· iexact Hcore_18_18)
  isplitl [Hlnd_15]; (· iexact Hlnd_15)
  isplitl [HH1_1]; (· iexact HH1_1)
  isplitl [Hsrc_18]; (· iexact Hsrc_18)
  isplitl [Hsrc_19]; (· iexact Hsrc_19)
  iexact Hsrc_20

theorem part29 (c : Dev nD) (v19 : BitVec 32) (v29 : BitVec 32)  {Q : (Σ' (v858 : BitVec 32) (v859 : BitVec 32) (v860 : BitVec 1) (v861 : BitVec 1), BitVec 32) → sProp 𝕄} :
    iprop(Core I c 18 18 ∗ srcP I c 18 ∗ srcP I c 19) ⊢ iprop((∀ r, (Core I c 20 18) -∗ Q r)
      -∗ WP c (k0_part29 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 c v19 v29) Q) := by
  rw [k0_part29_eq_skeleton]; unfold k0_part29_skel
  simp only [semSignalWord, semWaitWord, Prog.lift, Prog.bind_op, Prog.bind_ret, Prog.pure_eq_ret, wp_deviceId]
  iintro ⟨Hcore_18_18, Hsrc_18, Hsrc_19⟩ Hk
  iapply (cp2 I c _ 18 rfl (dev25_eq c) (off13_eq c) _ _ rfl rfl 18 18 19 rfl rfl) $$ [Hcore_18_18 Hsrc_18]
  · isplitl [Hcore_18_18]; (· iexact Hcore_18_18); iexact Hsrc_18
  iintro Hcore_19_18
  iapply (cp2 I c _ 19 rfl (dev26_eq c) (off13_eq c) _ _ rfl rfl 18 19 20 rfl rfl) $$ [Hcore_19_18 Hsrc_19]
  · isplitl [Hcore_19_18]; (· iexact Hcore_19_18); iexact Hsrc_19
  iintro Hcore_20_18
  iapply (done c _)
  iapply Hk
  iexact Hcore_20_18

end Cert.MlpProof

end
-- ==== Proof.Part5.lean ====
/- The body, statement group 30 to 36, of the printed parts. -/
module

public import proofs.«01_k».proof.Proof.Steps2

@[expose] public section

noncomputable section

namespace Cert.MlpProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_range)
open Idealize.ShloMosaic.Pipeline (Dat Cfg Window BodyObligation cellOf)

variable {F : FTy → Type} [FloatOps F]

local notation "𝕄" => MT nD τ sig Unit (Elt F) ℕ UU ℕ

variable (I : Inp F)

theorem part30 (c : Dev nD) (v2 : BitVec 32) (v29 : BitVec 32) (v858 : BitVec 32) (v859 : BitVec 32) (v860 : BitVec 1) (v861 : BitVec 1) (c0_i32_811 : BitVec 32)  {Q : (PUnit) → sProp 𝕄} :
    iprop(Core I c 20 18 ∗ srcP I c 20) ⊢ iprop((∀ r, (Core I c 21 19 ∗ landed I c 20) -∗ Q r)
      -∗ WP c (k0_part30 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 c v2 v29 v858 v859 v860 v861 c0_i32_811) Q) := by
  rw [k0_part30_eq_skeleton]; unfold k0_part30_skel
  simp only [semSignalWord, semWaitWord, Prog.lift, Prog.bind_op, Prog.bind_ret, Prog.pure_eq_ret, wp_deviceId]
  iintro ⟨Hcore_20_18, Hsrc_20⟩ Hk
  iapply (cp2 I c _ 20 rfl (dev27_eq c) (off13_eq c) _ _ rfl rfl 18 20 21 rfl rfl) $$ [Hcore_20_18 Hsrc_20]
  · isplitl [Hcore_20_18]; (· iexact Hcore_20_18); iexact Hsrc_20
  iintro Hcore_21_18
  iapply (recv_at I c 21 18 (by decide) 18 19 rfl rfl 20 rfl _ rfl (wpE_waitDma2_eq 𝒱₀ (c : Thread nD τ) none Set.univ)) $$ Hcore_21_18; iintro Hcore_21_19 Hlnd_20
  iapply (done c _)
  iapply Hk
  isplitl [Hcore_21_19]; (· iexact Hcore_21_19)
  iexact Hlnd_20

theorem part31 (c : Dev nD) (v2 : BitVec 32) (v19 : BitVec 32) (v29 : BitVec 32)  {Q : (BitVec 32) → sProp 𝕄} :
    iprop(Core I c 21 19) ⊢ iprop((∀ r, (Core I c 21 21 ∗ landed I c 19 ∗ landed I c 18) -∗ Q r)
      -∗ WP c (k0_part31 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 v2 v19 v29) Q) := by
  rw [k0_part31_eq_skeleton]; unfold k0_part31_skel
  simp only [semSignalWord, semWaitWord, Prog.lift, Prog.bind_op, Prog.bind_ret, Prog.pure_eq_ret, wp_deviceId]
  iintro Hcore_21_19 Hk
  iapply (recv_at I c 21 19 (by decide) 19 20 rfl rfl 19 rfl _ rfl (wpE_waitDma2_eq 𝒱₀ (c : Thread nD τ) none Set.univ)) $$ Hcore_21_19; iintro Hcore_21_20 Hlnd_19
  iapply (recv_at I c 21 20 (by decide) 20 21 rfl rfl 18 rfl _ rfl (wpE_waitDma2_eq 𝒱₀ (c : Thread nD τ) none Set.univ)) $$ Hcore_21_20; iintro Hcore_21_21 Hlnd_18
  iapply (done c _)
  iapply Hk
  isplitl [Hcore_21_21]; (· iexact Hcore_21_21)
  isplitl [Hlnd_19]; (· iexact Hlnd_19)
  iexact Hlnd_18

theorem part32 (c : Dev nD) (v19 : BitVec 32) (v29 : BitVec 32) (v917 : BitVec 32)  {Q : (PUnit) → sProp 𝕄} :
    iprop(Core I c 21 21 ∗ H1 I c 1 ∗ landed I c 18 ∗ landed I c 19 ∗ landed I c 20) ⊢ iprop((∀ r, (Core I c 22 21 ∗ H2 I c 1 ∗ srcP I c 22 ∗ srcP I c 23) -∗ Q r)
      -∗ WP c (k0_part32 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 c v19 v29 v917) Q) := by
  rw [k0_part32_eq_skeleton]; unfold k0_part32_skel
  simp only [semSignalWord, semWaitWord, Prog.lift, Prog.bind_op, Prog.bind_ret, Prog.pure_eq_ret, wp_deviceId]
  iintro ⟨Hcore_21_21, HH1_1, Hlnd_18, Hlnd_19, Hlnd_20⟩ Hk
  ihave T1 := (merge_2 I c trio1_2 trio1_3) $$ [HH1_1 Hlnd_18 Hlnd_19 Hlnd_20]
  · isplitl [HH1_1]; (· iexact HH1_1); isplitl [Hlnd_18]; (· iexact Hlnd_18); isplitl [Hlnd_19]; (· iexact Hlnd_19); iexact Hlnd_20
  icases T1 with ⟨HH2_1, Hsrc_21, Hsrc_22, Hsrc_23⟩
  iapply (cp3 I c _ 21 rfl (dev28_eq c) (off14_eq c) _ _ rfl rfl 21 21 22 rfl rfl) $$ [Hcore_21_21 Hsrc_21]
  · isplitl [Hcore_21_21]; (· iexact Hcore_21_21); iexact Hsrc_21
  iintro Hcore_22_21
  iapply (done c _)
  iapply Hk
  isplitl [Hcore_22_21]; (· iexact Hcore_22_21)
  isplitl [HH2_1]; (· iexact HH2_1)
  isplitl [Hsrc_22]; (· iexact Hsrc_22)
  iexact Hsrc_23

theorem part33 (c : Dev nD) (v2 : BitVec 32) (v19 : BitVec 32) (v29 : BitVec 32)  {Q : (PUnit) → sProp 𝕄} :
    iprop(Core I c 22 21 ∗ srcP I c 22 ∗ srcP I c 23) ⊢ iprop((∀ r, (Core I c 24 21) -∗ Q r)
      -∗ WP c (k0_part33 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 c v2 v19 v29) Q) := by
  rw [k0_part33_eq_skeleton]; unfold k0_part33_skel
  simp only [semSignalWord, semWaitWord, Prog.lift, Prog.bind_op, Prog.bind_ret, Prog.pure_eq_ret, wp_deviceId]
  iintro ⟨Hcore_22_21, Hsrc_22, Hsrc_23⟩ Hk
  iapply (cp3 I c _ 22 rfl (dev29_eq c) (off14_eq c) _ _ rfl rfl 21 22 23 rfl rfl) $$ [Hcore_22_21 Hsrc_22]
  · isplitl [Hcore_22_21]; (· iexact Hcore_22_21); iexact Hsrc_22
  iintro Hcore_23_21
  iapply (cp3 I c _ 23 rfl (dev30_eq c) (off14_eq c) _ _ rfl rfl 21 23 24 rfl rfl) $$ [Hcore_23_21 Hsrc_23]
  · isplitl [Hcore_23_21]; (· iexact Hcore_23_21); iexact Hsrc_23
  iintro Hcore_24_21
  iapply (done c _)
  iapply Hk
  iexact Hcore_24_21

theorem part34 (c : Dev nD) (v2 : BitVec 32)  {Q : (FVec F S256x512 .bf16) → sProp 𝕄} :
    iprop(Core I c 24 21 ∗ H2 I c 1) ⊢ iprop((∀ r, ⌜r = (k0_pay15 (gath (pA I 1)))⌝ -∗ (Core I c 24 24 ∗ HP I c 1 ∗ HK I c 1) -∗ Q r)
      -∗ WP c (k0_part34 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 v2) Q) := by
  rw [k0_part34_eq_skeleton]; unfold k0_part34_skel
  simp only [semSignalWord, semWaitWord, Prog.lift, Prog.bind_op, Prog.bind_ret, Prog.pure_eq_ret, wp_deviceId]
  iintro ⟨Hcore_24_21, HH2_1⟩ Hk
  iapply (recv_at I c 24 21 (by decide) 21 22 rfl rfl 23 rfl _ rfl (wpE_waitDma2_eq 𝒱₀ (c : Thread nD τ) none Set.univ)) $$ Hcore_24_21; iintro Hcore_24_22 Hlnd_23
  iapply (recv_at I c 24 22 (by decide) 22 23 rfl rfl 22 rfl _ rfl (wpE_waitDma2_eq 𝒱₀ (c : Thread nD τ) none Set.univ)) $$ Hcore_24_22; iintro Hcore_24_23 Hlnd_22
  iapply (recv_at I c 24 23 (by decide) 23 24 rfl rfl 21 rfl _ rfl (wpE_waitDma2_eq 𝒱₀ (c : Thread nD τ) none Set.univ)) $$ Hcore_24_23; iintro Hcore_24_24 Hlnd_21
  ihave T1 := (merge_3 I c trio1_3) $$ [HH2_1 Hlnd_21 Hlnd_22 Hlnd_23]
  · isplitl [HH2_1]; (· iexact HH2_1); isplitl [Hlnd_21]; (· iexact Hlnd_21); isplitl [Hlnd_22]; (· iexact Hlnd_22); iexact Hlnd_23
  icases T1 with ⟨HHP_1, HHK_1⟩
  iapply (ld_plane I c 1 rfl) $$ HHP_1; iintro HHP_1
  iapply (done c _)
  iapply Hk $$ [] [Hcore_24_24 HHP_1 HHK_1]
  · ipureintro; exact rfl
  · isplitl [Hcore_24_24]; (· iexact Hcore_24_24)
    isplitl [HHP_1]; (· iexact HHP_1)
    iexact HHK_1

theorem part35 (c : Dev nD) (v19 : BitVec 32) (v29 : BitVec 32) (v1003 : FVec F S256x512 .bf16) (hv1003 : v1003 = (k0_pay15 (gath (pA I 1)))) {Q : (PUnit) → sProp 𝕄} :
    iprop(Core I c 24 24 ∗ stg c cc0_stg4_0 (I.wo 1 c) ∗ stg c cc0_stg5_0 (I.wi 2 c) ∗ A0 c 2) ⊢ iprop((∀ r, (Core I c 24 24 ∗ stg c cc0_stg4_0 (I.wo 1 c) ∗ stg c cc0_stg5_0 (I.wi 2 c) ∗ A1 I c 2 ∗ srcP I c 24 ∗ srcP I c 25 ∗ srcP I c 26) -∗ Q r)
      -∗ WP c (k0_part35 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 v19 v29 v1003) Q) := by
  subst hv1003
  rw [k0_part35_eq_skeleton]; unfold k0_part35_skel
  simp only [semSignalWord, semWaitWord, Prog.lift, Prog.bind_op, Prog.bind_ret, Prog.pure_eq_ret, wp_deviceId]
  iintro ⟨Hcore_24_24, Hstg_4, Hstg_5, HA0_2⟩ Hk
  iapply (ld_stg4 c) $$ Hstg_4; iintro Hstg_4
  iapply (ld_stg5 c) $$ Hstg_5; iintro Hstg_5
  iapply (dead8 c 2 rfl) $$ HA0_2; iintro %v1011d HA0_2
  iapply (st8 I c trio2_0 rfl rfl) $$ HA0_2; iintro ⟨HA1_2, Hsrc_24, Hsrc_25, Hsrc_26⟩
  iapply (done c _)
  iapply Hk
  isplitl [Hcore_24_24]; (· iexact Hcore_24_24)
  isplitl [Hstg_4]; (· iexact Hstg_4)
  isplitl [Hstg_5]; (· iexact Hstg_5)
  isplitl [HA1_2]; (· iexact HA1_2)
  isplitl [Hsrc_24]; (· iexact Hsrc_24)
  isplitl [Hsrc_25]; (· iexact Hsrc_25)
  iexact Hsrc_26

theorem part36 (c : Dev nD) (v19 : BitVec 32) (v29 : BitVec 32)  {Q : (Σ' (v1064 : BitVec 32) (v1065 : BitVec 32), BitVec 1) → sProp 𝕄} :
    iprop(Core I c 24 24 ∗ srcP I c 24 ∗ srcP I c 25) ⊢ iprop((∀ r, (Core I c 26 24) -∗ Q r)
      -∗ WP c (k0_part36 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 c v19 v29) Q) := by
  rw [k0_part36_eq_skeleton]; unfold k0_part36_skel
  simp only [semSignalWord, semWaitWord, Prog.lift, Prog.bind_op, Prog.bind_ret, Prog.pure_eq_ret, wp_deviceId]
  iintro ⟨Hcore_24_24, Hsrc_24, Hsrc_25⟩ Hk
  iapply (cp0 I c _ 24 rfl (dev31_eq c) (off15_1_eq c) rfl _ _ rfl rfl 24 24 25 rfl rfl) $$ [Hcore_24_24 Hsrc_24]
  · isplitl [Hcore_24_24]; (· iexact Hcore_24_24); iexact Hsrc_24
  iintro Hcore_25_24
  iapply (cp0 I c _ 25 rfl (dev32_eq c) (off15_2_eq c) rfl _ _ rfl rfl 24 25 26 rfl rfl) $$ [Hcore_25_24 Hsrc_25]
  · isplitl [Hcore_25_24]; (· iexact Hcore_25_24); iexact Hsrc_25
  iintro Hcore_26_24
  iapply (done c _)
  iapply Hk
  iexact Hcore_26_24

end Cert.MlpProof

end
-- ==== Proof.Part6.lean ====
/- The body, statement group 37 to 43, of the printed parts. -/
module

public import proofs.«01_k».proof.Proof.Steps2

@[expose] public section

noncomputable section

namespace Cert.MlpProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_range)
open Idealize.ShloMosaic.Pipeline (Dat Cfg Window BodyObligation cellOf)

variable {F : FTy → Type} [FloatOps F]

local notation "𝕄" => MT nD τ sig Unit (Elt F) ℕ UU ℕ

variable (I : Inp F)

theorem part37 (c : Dev nD) (v2 : BitVec 32) (v19 : BitVec 32) (v29 : BitVec 32) (v1064 : BitVec 32) (v1065 : BitVec 32) (v1066 : BitVec 1)  {Q : (FVec F S64x512 .f32) → sProp 𝕄} :
    iprop(Core I c 26 24 ∗ srcP I c 26 ∗ A1 I c 2) ⊢ iprop((∀ r, ⌜r = (k0_pay17 (ownA (pA I 2) c))⌝ -∗ (Core I c 27 24 ∗ A1 I c 2) -∗ Q r)
      -∗ WP c (k0_part37 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 c v2 v19 v29 v1064 v1065 v1066) Q) := by
  rw [k0_part37_eq_skeleton]; unfold k0_part37_skel
  simp only [semSignalWord, semWaitWord, Prog.lift, Prog.bind_op, Prog.bind_ret, Prog.pure_eq_ret, wp_deviceId]
  iintro ⟨Hcore_26_24, Hsrc_26, HA1_2⟩ Hk
  iapply (cp0 I c _ 26 rfl (dev33_eq c) (off15_3_eq c) rfl _ _ rfl rfl 24 26 27 rfl rfl) $$ [Hcore_26_24 Hsrc_26]
  · isplitl [Hcore_26_24]; (· iexact Hcore_26_24); iexact Hsrc_26
  iintro Hcore_27_24
  iapply (ld_own8 I c 2 (off16_eq c)) $$ HA1_2; iintro HA1_2
  iapply (done c _)
  iapply Hk $$ [] [Hcore_27_24 HA1_2]
  · ipureintro; exact rfl
  · isplitl [Hcore_27_24]; (· iexact Hcore_27_24)
    iexact HA1_2

theorem part38 (c : Dev nD) (v2 : BitVec 32) (v1090 : FVec F S64x512 .f32) (hv1090 : v1090 = (k0_pay17 (ownA (pA I 2) c))) {Q : (FVec F S64x512 .f32) → sProp 𝕄} :
    iprop(Core I c 27 24) ⊢ iprop((∀ r, ⌜r = (k0_pay18 (k0_pay17 (ownA (pA I 2) c)) (slotA (pA I 2) c 1) (slotA (pA I 2) c 2))⌝ -∗ (Core I c 27 26 ∗ landed I c 26 ∗ landed I c 25) -∗ Q r)
      -∗ WP c (k0_part38 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 v2 v1090) Q) := by
  subst hv1090
  rw [k0_part38_eq_skeleton]; unfold k0_part38_skel
  simp only [semSignalWord, semWaitWord, Prog.lift, Prog.bind_op, Prog.bind_ret, Prog.pure_eq_ret, wp_deviceId]
  iintro Hcore_27_24 Hk
  iapply (recv_at I c 27 24 (by decide) 24 25 rfl rfl 26 rfl _ rfl (wpE_waitDma2_eq 𝒱₀ (c : Thread nD τ) none Set.univ)) $$ Hcore_27_24; iintro Hcore_27_25 Hlnd_26
  iapply (ld_slot9 I c 26 rfl rfl) $$ Hlnd_26; iintro Hlnd_26
  iapply (recv_at I c 27 25 (by decide) 25 26 rfl rfl 25 rfl _ rfl (wpE_waitDma2_eq 𝒱₀ (c : Thread nD τ) none Set.univ)) $$ Hcore_27_25; iintro Hcore_27_26 Hlnd_25
  iapply (ld_slot9 I c 25 rfl rfl) $$ Hlnd_25; iintro Hlnd_25
  iapply (done c _)
  iapply Hk $$ [] [Hcore_27_26 Hlnd_26 Hlnd_25]
  · ipureintro; exact rfl
  · isplitl [Hcore_27_26]; (· iexact Hcore_27_26)
    isplitl [Hlnd_26]; (· iexact Hlnd_26)
    iexact Hlnd_25

theorem part39 (c : Dev nD) (v19 : BitVec 32) (v29 : BitVec 32) (v1114 : FVec F S64x512 .f32) (hv1114 : v1114 = (k0_pay18 (k0_pay17 (ownA (pA I 2) c)) (slotA (pA I 2) c 1) (slotA (pA I 2) c 2))) {Q : (PUnit) → sProp 𝕄} :
    iprop(Core I c 27 26 ∗ S0 c 2) ⊢ iprop((∀ r, (Core I c 27 27 ∗ landed I c 24 ∗ S1 I c 2 ∗ srcP I c 27 ∗ srcP I c 28 ∗ srcP I c 29) -∗ Q r)
      -∗ WP c (k0_part39 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 v19 v29 v1114) Q) := by
  subst hv1114
  rw [k0_part39_eq_skeleton]; unfold k0_part39_skel
  simp only [semSignalWord, semWaitWord, Prog.lift, Prog.bind_op, Prog.bind_ret, Prog.pure_eq_ret, wp_deviceId]
  iintro ⟨Hcore_27_26, HS0_2⟩ Hk
  iapply (recv_at I c 27 26 (by decide) 26 27 rfl rfl 24 rfl _ rfl (wpE_waitDma2_eq 𝒱₀ (c : Thread nD τ) none Set.univ)) $$ Hcore_27_26; iintro Hcore_27_27 Hlnd_24
  iapply (ld_slot9 I c 24 rfl rfl) $$ Hlnd_24; iintro Hlnd_24
  iapply (dead10 c 2 rfl) $$ HS0_2; iintro %v1128d HS0_2
  iapply (st10 I c trio2_1 rfl rfl) $$ HS0_2; iintro ⟨HS1_2, Hsrc_27, Hsrc_28, Hsrc_29⟩
  iapply (done c _)
  iapply Hk
  isplitl [Hcore_27_27]; (· iexact Hcore_27_27)
  isplitl [Hlnd_24]; (· iexact Hlnd_24)
  isplitl [HS1_2]; (· iexact HS1_2)
  isplitl [Hsrc_27]; (· iexact Hsrc_27)
  isplitl [Hsrc_28]; (· iexact Hsrc_28)
  iexact Hsrc_29

theorem part40 (c : Dev nD) (v19 : BitVec 32) (v29 : BitVec 32)  {Q : (Σ' (v1179 : BitVec 32), BitVec 32) → sProp 𝕄} :
    iprop(Core I c 27 27 ∗ srcP I c 27 ∗ srcP I c 28) ⊢ iprop((∀ r, (Core I c 29 27) -∗ Q r)
      -∗ WP c (k0_part40 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 c v19 v29) Q) := by
  rw [k0_part40_eq_skeleton]; unfold k0_part40_skel
  simp only [semSignalWord, semWaitWord, Prog.lift, Prog.bind_op, Prog.bind_ret, Prog.pure_eq_ret, wp_deviceId]
  iintro ⟨Hcore_27_27, Hsrc_27, Hsrc_28⟩ Hk
  iapply (cp1 I c _ 27 rfl (dev34_eq c) (off17_1_eq c) rfl _ _ rfl rfl 27 27 28 rfl rfl) $$ [Hcore_27_27 Hsrc_27]
  · isplitl [Hcore_27_27]; (· iexact Hcore_27_27); iexact Hsrc_27
  iintro Hcore_28_27
  iapply (cp1 I c _ 28 rfl (dev35_eq c) (off17_2_eq c) rfl _ _ rfl rfl 27 28 29 rfl rfl) $$ [Hcore_28_27 Hsrc_28]
  · isplitl [Hcore_28_27]; (· iexact Hcore_28_27); iexact Hsrc_28
  iintro Hcore_29_27
  iapply (done c _)
  iapply Hk
  iexact Hcore_29_27

theorem part41 (c : Dev nD) (v19 : BitVec 32) (v29 : BitVec 32) (v1179 : BitVec 32) (c4_i32_1133 : BitVec 32)  {Q : (Σ' (v1207 : FVec F S16x512 .f32), BitVec 32) → sProp 𝕄} :
    iprop(Core I c 29 27 ∗ srcP I c 29 ∗ S1 I c 2) ⊢ iprop((∀ r, ⌜r.1 = k0_pay20 (ownS (sumRow (pA I 2)) c)⌝ -∗ (Core I c 30 27 ∗ S1 I c 2) -∗ Q r)
      -∗ WP c (k0_part41 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 c v19 v29 v1179 c4_i32_1133) Q) := by
  rw [k0_part41_eq_skeleton]; unfold k0_part41_skel
  simp only [semSignalWord, semWaitWord, Prog.lift, Prog.bind_op, Prog.bind_ret, Prog.pure_eq_ret, wp_deviceId]
  iintro ⟨Hcore_29_27, Hsrc_29, HS1_2⟩ Hk
  iapply (cp1 I c _ 29 rfl (dev36_eq c) (off17_3_eq c) rfl _ _ rfl rfl 27 29 30 rfl rfl) $$ [Hcore_29_27 Hsrc_29]
  · isplitl [Hcore_29_27]; (· iexact Hcore_29_27); iexact Hsrc_29
  iintro Hcore_30_27
  iapply (ld_own10 I c 2 (off18_eq c)) $$ HS1_2; iintro HS1_2
  iapply (done c _)
  iapply Hk $$ [] [Hcore_30_27 HS1_2]
  · ipureintro; exact rfl
  · isplitl [Hcore_30_27]; (· iexact Hcore_30_27)
    iexact HS1_2

theorem part42 (c : Dev nD) (v2 : BitVec 32) (v1207 : FVec F S16x512 .f32) (c1_i32_1164 : BitVec 32) (hv1207 : v1207 = (k0_pay20 (ownS (sumRow (pA I 2)) c))) {Q : (FVec F S16x512 .f32) → sProp 𝕄} :
    iprop(Core I c 30 27) ⊢ iprop((∀ r, ⌜r = (k0_pay21 (k0_pay20 (ownS (sumRow (pA I 2)) c)) (slotS (sumRow (pA I 2)) c 1) (slotS (sumRow (pA I 2)) c 2))⌝ -∗ (Core I c 30 29 ∗ landed I c 29 ∗ landed I c 28) -∗ Q r)
      -∗ WP c (k0_part42 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 v2 v1207 c1_i32_1164) Q) := by
  subst hv1207
  rw [k0_part42_eq_skeleton]; unfold k0_part42_skel
  simp only [semSignalWord, semWaitWord, Prog.lift, Prog.bind_op, Prog.bind_ret, Prog.pure_eq_ret, wp_deviceId]
  iintro Hcore_30_27 Hk
  iapply (recv_at I c 30 27 (by decide) 27 28 rfl rfl 29 rfl _ rfl (wpE_waitDma2_eq 𝒱₀ (c : Thread nD τ) none Set.univ)) $$ Hcore_30_27; iintro Hcore_30_28 Hlnd_29
  iapply (ld_slot11 I c 29 rfl rfl) $$ Hlnd_29; iintro Hlnd_29
  iapply (recv_at I c 30 28 (by decide) 28 29 rfl rfl 28 rfl _ rfl (wpE_waitDma2_eq 𝒱₀ (c : Thread nD τ) none Set.univ)) $$ Hcore_30_28; iintro Hcore_30_29 Hlnd_28
  iapply (ld_slot11 I c 28 rfl rfl) $$ Hlnd_28; iintro Hlnd_28
  iapply (done c _)
  iapply Hk $$ [] [Hcore_30_29 Hlnd_29 Hlnd_28]
  · ipureintro; exact rfl
  · isplitl [Hcore_30_29]; (· iexact Hcore_30_29)
    isplitl [Hlnd_29]; (· iexact Hlnd_29)
    iexact Hlnd_28

theorem part43 (c : Dev nD) (v2 : BitVec 32) (v19 : BitVec 32) (v29 : BitVec 32) (v32 : BitVec 32) (v1231 : FVec F S16x512 .f32) (hv1231 : v1231 = (k0_pay21 (k0_pay20 (ownS (sumRow (pA I 2)) c)) (slotS (sumRow (pA I 2)) c 1) (slotS (sumRow (pA I 2)) c 2))) {Q : (BitVec 32) → sProp 𝕄} :
    iprop(Core I c 30 29 ∗ H0 c 2) ⊢ iprop((∀ r, (Core I c 30 30 ∗ landed I c 27 ∗ H1 I c 2 ∗ srcP I c 30 ∗ srcP I c 31 ∗ srcP I c 32) -∗ Q r)
      -∗ WP c (k0_part43 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 c v2 v19 v29 v32 v1231) Q) := by
  subst hv1231
  rw [k0_part43_eq_skeleton]; unfold k0_part43_skel
  simp only [semSignalWord, semWaitWord, Prog.lift, Prog.bind_op, Prog.bind_ret, Prog.pure_eq_ret, wp_deviceId]
  iintro ⟨Hcore_30_29, HH0_2⟩ Hk
  iapply (recv_at I c 30 29 (by decide) 29 30 rfl rfl 27 rfl _ rfl (wpE_waitDma2_eq 𝒱₀ (c : Thread nD τ) none Set.univ)) $$ Hcore_30_29; iintro Hcore_30_30 Hlnd_27
  iapply (ld_slot11 I c 27 rfl rfl) $$ Hlnd_27; iintro Hlnd_27
  iapply (dead12 c 2 (off19_eq c)) $$ HH0_2; iintro %v1248d HH0_2
  iapply (st12 I c trio2_2 (off19_eq c) rfl) $$ HH0_2; iintro ⟨HH1_2, Hsrc_30, Hsrc_31, Hsrc_32⟩
  iapply (done c _)
  iapply Hk
  isplitl [Hcore_30_30]; (· iexact Hcore_30_30)
  isplitl [Hlnd_27]; (· iexact Hlnd_27)
  isplitl [HH1_2]; (· iexact HH1_2)
  isplitl [Hsrc_30]; (· iexact Hsrc_30)
  isplitl [Hsrc_31]; (· iexact Hsrc_31)
  iexact Hsrc_32

end Cert.MlpProof

end
-- ==== Proof.Part7.lean ====
/- The body, statement group 44 to 50, of the printed parts. -/
module

public import proofs.«01_k».proof.Proof.Steps2

@[expose] public section

noncomputable section

namespace Cert.MlpProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_range)
open Idealize.ShloMosaic.Pipeline (Dat Cfg Window BodyObligation cellOf)

variable {F : FTy → Type} [FloatOps F]

local notation "𝕄" => MT nD τ sig Unit (Elt F) ℕ UU ℕ

variable (I : Inp F)

theorem part44 (c : Dev nD) (v19 : BitVec 32) (v29 : BitVec 32) (v1263 : BitVec 32)  {Q : (BitVec 32) → sProp 𝕄} :
    iprop(Core I c 30 30 ∗ srcP I c 30 ∗ srcP I c 31) ⊢ iprop((∀ r, (Core I c 32 30) -∗ Q r)
      -∗ WP c (k0_part44 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 c v19 v29 v1263) Q) := by
  rw [k0_part44_eq_skeleton]; unfold k0_part44_skel
  simp only [semSignalWord, semWaitWord, Prog.lift, Prog.bind_op, Prog.bind_ret, Prog.pure_eq_ret, wp_deviceId]
  iintro ⟨Hcore_30_30, Hsrc_30, Hsrc_31⟩ Hk
  iapply (cp2 I c _ 30 rfl (dev37_eq c) (off20_eq c) _ _ rfl rfl 30 30 31 rfl rfl) $$ [Hcore_30_30 Hsrc_30]
  · isplitl [Hcore_30_30]; (· iexact Hcore_30_30); iexact Hsrc_30
  iintro Hcore_31_30
  iapply (cp2 I c _ 31 rfl (dev38_eq c) (off20_eq c) _ _ rfl rfl 30 31 32 rfl rfl) $$ [Hcore_31_30 Hsrc_31]
  · isplitl [Hcore_31_30]; (· iexact Hcore_31_30); iexact Hsrc_31
  iintro Hcore_32_30
  iapply (done c _)
  iapply Hk
  iexact Hcore_32_30

theorem part45 (c : Dev nD) (v2 : BitVec 32) (v19 : BitVec 32) (v29 : BitVec 32) (c3_i32_1249 : BitVec 32)  {Q : (PUnit) → sProp 𝕄} :
    iprop(Core I c 32 30 ∗ srcP I c 32) ⊢ iprop((∀ r, (Core I c 33 30) -∗ Q r)
      -∗ WP c (k0_part45 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 c v2 v19 v29 c3_i32_1249) Q) := by
  rw [k0_part45_eq_skeleton]; unfold k0_part45_skel
  simp only [semSignalWord, semWaitWord, Prog.lift, Prog.bind_op, Prog.bind_ret, Prog.pure_eq_ret, wp_deviceId]
  iintro ⟨Hcore_32_30, Hsrc_32⟩ Hk
  iapply (cp2 I c _ 32 rfl (dev39_eq c) (off20_eq c) _ _ rfl rfl 30 32 33 rfl rfl) $$ [Hcore_32_30 Hsrc_32]
  · isplitl [Hcore_32_30]; (· iexact Hcore_32_30); iexact Hsrc_32
  iintro Hcore_33_30
  iapply (done c _)
  iapply Hk
  iexact Hcore_33_30

theorem part46 (c : Dev nD) (v2 : BitVec 32) (v29 : BitVec 32)  {Q : (Σ' (v1346 : BitVec 32) (v1347 : BitVec 32), BitVec 1) → sProp 𝕄} :
    iprop(Core I c 33 30) ⊢ iprop((∀ r, (Core I c 33 33 ∗ landed I c 32 ∗ landed I c 31 ∗ landed I c 30) -∗ Q r)
      -∗ WP c (k0_part46 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 v2 v29) Q) := by
  rw [k0_part46_eq_skeleton]; unfold k0_part46_skel
  simp only [semSignalWord, semWaitWord, Prog.lift, Prog.bind_op, Prog.bind_ret, Prog.pure_eq_ret, wp_deviceId]
  iintro Hcore_33_30 Hk
  iapply (recv_at I c 33 30 (by decide) 30 31 rfl rfl 32 rfl _ rfl (wpE_waitDma2_eq 𝒱₀ (c : Thread nD τ) none Set.univ)) $$ Hcore_33_30; iintro Hcore_33_31 Hlnd_32
  iapply (recv_at I c 33 31 (by decide) 31 32 rfl rfl 31 rfl _ rfl (wpE_waitDma2_eq 𝒱₀ (c : Thread nD τ) none Set.univ)) $$ Hcore_33_31; iintro Hcore_33_32 Hlnd_31
  iapply (recv_at I c 33 32 (by decide) 32 33 rfl rfl 30 rfl _ rfl (wpE_waitDma2_eq 𝒱₀ (c : Thread nD τ) none Set.univ)) $$ Hcore_33_32; iintro Hcore_33_33 Hlnd_30
  iapply (done c _)
  iapply Hk
  isplitl [Hcore_33_33]; (· iexact Hcore_33_33)
  isplitl [Hlnd_32]; (· iexact Hlnd_32)
  isplitl [Hlnd_31]; (· iexact Hlnd_31)
  iexact Hlnd_30

theorem part47 (c : Dev nD) (v19 : BitVec 32) (v29 : BitVec 32) (v1346 : BitVec 32) (v1347 : BitVec 32) (v1352 : BitVec 1)  {Q : (BitVec 32) → sProp 𝕄} :
    iprop(Core I c 33 33 ∗ H1 I c 2 ∗ landed I c 30 ∗ landed I c 31 ∗ landed I c 32) ⊢ iprop((∀ r, (Core I c 34 33 ∗ H2 I c 2 ∗ srcP I c 34 ∗ srcP I c 35) -∗ Q r)
      -∗ WP c (k0_part47 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 c v19 v29 v1346 v1347 v1352) Q) := by
  rw [k0_part47_eq_skeleton]; unfold k0_part47_skel
  simp only [semSignalWord, semWaitWord, Prog.lift, Prog.bind_op, Prog.bind_ret, Prog.pure_eq_ret, wp_deviceId]
  iintro ⟨Hcore_33_33, HH1_2, Hlnd_30, Hlnd_31, Hlnd_32⟩ Hk
  ihave T1 := (merge_2 I c trio2_2 trio2_3) $$ [HH1_2 Hlnd_30 Hlnd_31 Hlnd_32]
  · isplitl [HH1_2]; (· iexact HH1_2); isplitl [Hlnd_30]; (· iexact Hlnd_30); isplitl [Hlnd_31]; (· iexact Hlnd_31); iexact Hlnd_32
  icases T1 with ⟨HH2_2, Hsrc_33, Hsrc_34, Hsrc_35⟩
  iapply (cp3 I c _ 33 rfl (dev40_eq c) (off21_eq c) _ _ rfl rfl 33 33 34 rfl rfl) $$ [Hcore_33_33 Hsrc_33]
  · isplitl [Hcore_33_33]; (· iexact Hcore_33_33); iexact Hsrc_33
  iintro Hcore_34_33
  iapply (done c _)
  iapply Hk
  isplitl [Hcore_34_33]; (· iexact Hcore_34_33)
  isplitl [HH2_2]; (· iexact HH2_2)
  isplitl [Hsrc_34]; (· iexact Hsrc_34)
  iexact Hsrc_35

theorem part48 (c : Dev nD) (v19 : BitVec 32) (v29 : BitVec 32) (v1383 : BitVec 32)  {Q : (PUnit) → sProp 𝕄} :
    iprop(Core I c 34 33 ∗ srcP I c 34) ⊢ iprop((∀ r, (Core I c 35 33) -∗ Q r)
      -∗ WP c (k0_part48 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 c v19 v29 v1383) Q) := by
  rw [k0_part48_eq_skeleton]; unfold k0_part48_skel
  simp only [semSignalWord, semWaitWord, Prog.lift, Prog.bind_op, Prog.bind_ret, Prog.pure_eq_ret, wp_deviceId]
  iintro ⟨Hcore_34_33, Hsrc_34⟩ Hk
  iapply (cp3 I c _ 34 rfl (dev41_eq c) (off21_eq c) _ _ rfl rfl 33 34 35 rfl rfl) $$ [Hcore_34_33 Hsrc_34]
  · isplitl [Hcore_34_33]; (· iexact Hcore_34_33); iexact Hsrc_34
  iintro Hcore_35_33
  iapply (done c _)
  iapply Hk
  iexact Hcore_35_33

theorem part49 (c : Dev nD) (v2 : BitVec 32)  {Q : (PUnit) → sProp 𝕄} :
    iprop(Core I c 35 33 ∗ srcP I c 35) ⊢ iprop((∀ r, (Core I c 36 35 ∗ landed I c 35 ∗ landed I c 34) -∗ Q r)
      -∗ WP c (k0_part49 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 c v2) Q) := by
  rw [k0_part49_eq_skeleton]; unfold k0_part49_skel
  simp only [semSignalWord, semWaitWord, Prog.lift, Prog.bind_op, Prog.bind_ret, Prog.pure_eq_ret, wp_deviceId]
  iintro ⟨Hcore_35_33, Hsrc_35⟩ Hk
  iapply (cp3 I c _ 35 rfl (dev42_eq c) (off21_eq c) _ _ rfl rfl 33 35 36 rfl rfl) $$ [Hcore_35_33 Hsrc_35]
  · isplitl [Hcore_35_33]; (· iexact Hcore_35_33); iexact Hsrc_35
  iintro Hcore_36_33
  iapply (recv_at I c 36 33 (by decide) 33 34 rfl rfl 35 rfl _ rfl (wpE_waitDma2_eq 𝒱₀ (c : Thread nD τ) none Set.univ)) $$ Hcore_36_33; iintro Hcore_36_34 Hlnd_35
  iapply (recv_at I c 36 34 (by decide) 34 35 rfl rfl 34 rfl _ rfl (wpE_waitDma2_eq 𝒱₀ (c : Thread nD τ) none Set.univ)) $$ Hcore_36_34; iintro Hcore_36_35 Hlnd_34
  iapply (done c _)
  iapply Hk
  isplitl [Hcore_36_35]; (· iexact Hcore_36_35)
  isplitl [Hlnd_35]; (· iexact Hlnd_35)
  iexact Hlnd_34

theorem part50 (c : Dev nD)   {Q : (PUnit) → sProp 𝕄} :
    iprop(Core I c 36 35 ∗ H2 I c 2 ∗ landed I c 34 ∗ landed I c 35 ∗ stg c cc0_stg6_0 (I.wo 2 c) ∗ (∃ f, stg c cc0_stg7_0 f) ∗ (bigSep Finset.univ fun i : Ed => atPos ER (sendCell c i) 0 (∅ : Finset Du) 0)) ⊢ iprop((∀ r, (Tail I c 2 ∗ HP I c 2 ∗ HK I c 2 ∗ stg c cc0_stg6_0 (I.wo 2 c) ∗ stg c cc0_stg7_0 (outV I c) ∗ Rcv c 36) -∗ Q r)
      -∗ WP c (k0_part50 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 c) Q) := by
  rw [k0_part50_eq_skeleton]; unfold k0_part50_skel
  simp only [semSignalWord, semWaitWord, Prog.lift, Prog.bind_op, Prog.bind_ret, Prog.pure_eq_ret, wp_deviceId]
  iintro ⟨Hcore_36_35, HH2_2, Hlnd_34, Hlnd_35, Hstg_6, Hout0, HAT⟩ Hk
  iapply (recv_at I c 36 35 (by decide) 35 36 rfl rfl 33 rfl _ rfl (wpE_waitDma2_eq 𝒱₀ (c : Thread nD τ) none Set.univ)) $$ Hcore_36_35; iintro Hcore_36_36 Hlnd_33
  ihave T1 := (merge_3 I c trio2_3) $$ [HH2_2 Hlnd_33 Hlnd_34 Hlnd_35]
  · isplitl [HH2_2]; (· iexact HH2_2); isplitl [Hlnd_33]; (· iexact Hlnd_33); isplitl [Hlnd_34]; (· iexact Hlnd_34); iexact Hlnd_35
  icases T1 with ⟨HHP_2, HHK_2⟩
  iapply (ld_plane I c 2 rfl) $$ HHP_2; iintro HHP_2
  iapply (ld_stg6 c) $$ Hstg_6; iintro Hstg_6
  iapply (dead7 c) $$ Hout0; iintro %v1448d Hout0
  iapply (st_out c) $$ Hout0; iintro Hout1
  ihave TT := (to_tail I c) $$ [Hcore_36_36 HAT]
  · isplitl [Hcore_36_36]; (· iexact Hcore_36_36); iexact HAT
  icases TT with ⟨Htail_0, HRZ⟩
  iapply (send_at I c 0 0 1 rfl rfl _ rfl (wpE_waitDma2_eq 𝒱₀ (c : Thread nD τ) none Set.univ)) $$ Htail_0; iintro Htail_1
  iapply (send_at I c 1 1 2 rfl rfl _ rfl (wpE_waitDma2_eq 𝒱₀ (c : Thread nD τ) none Set.univ)) $$ Htail_1; iintro Htail_2
  iapply (done c _)
  iapply Hk
  isplitl [Htail_2]; (· iexact Htail_2)
  isplitl [HHP_2]; (· iexact HHP_2)
  isplitl [HHK_2]; (· iexact HHK_2)
  isplitl [Hstg_6]; (· iexact Hstg_6)
  isplitl [Hout1]; (· iexact Hout1)
  iexact HRZ

end Cert.MlpProof

end
-- ==== Proof.Part8.lean ====
/- The body, statement group 51 to 59, of the printed parts. -/
module

public import proofs.«01_k».proof.Proof.Steps2

@[expose] public section

noncomputable section

namespace Cert.MlpProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_range)
open Idealize.ShloMosaic.Pipeline (Dat Cfg Window BodyObligation cellOf)

variable {F : FTy → Type} [FloatOps F]

local notation "𝕄" => MT nD τ sig Unit (Elt F) ℕ UU ℕ

variable (I : Inp F)

theorem part51 (c : Dev nD)   {Q : (PUnit) → sProp 𝕄} :
    iprop(Tail I c 2) ⊢ iprop((∀ r, (Tail I c 5) -∗ Q r)
      -∗ WP c (k0_part51 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 c) Q) := by
  rw [k0_part51_eq_skeleton]; unfold k0_part51_skel
  simp only [semSignalWord, semWaitWord, Prog.lift, Prog.bind_op, Prog.bind_ret, Prog.pure_eq_ret, wp_deviceId]
  iintro Htail_2 Hk
  iapply (send_at I c 2 2 3 rfl rfl _ rfl (wpE_waitDma2_eq 𝒱₀ (c : Thread nD τ) none Set.univ)) $$ Htail_2; iintro Htail_3
  iapply (send_at I c 3 3 4 rfl rfl _ rfl (wpE_waitDma2_eq 𝒱₀ (c : Thread nD τ) none Set.univ)) $$ Htail_3; iintro Htail_4
  iapply (send_at I c 4 4 5 rfl rfl _ rfl (wpE_waitDma2_eq 𝒱₀ (c : Thread nD τ) none Set.univ)) $$ Htail_4; iintro Htail_5
  iapply (done c _)
  iapply Hk
  iexact Htail_5

theorem part52 (c : Dev nD)   {Q : (PUnit) → sProp 𝕄} :
    iprop(Tail I c 5) ⊢ iprop((∀ r, (Tail I c 9) -∗ Q r)
      -∗ WP c (k0_part52 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 c) Q) := by
  rw [k0_part52_eq_skeleton]; unfold k0_part52_skel
  simp only [semSignalWord, semWaitWord, Prog.lift, Prog.bind_op, Prog.bind_ret, Prog.pure_eq_ret, wp_deviceId]
  iintro Htail_5 Hk
  iapply (send_at I c 5 5 6 rfl rfl _ rfl (wpE_waitDma2_eq 𝒱₀ (c : Thread nD τ) none Set.univ)) $$ Htail_5; iintro Htail_6
  iapply (send_at I c 6 6 7 rfl rfl _ rfl (wpE_waitDma2_eq 𝒱₀ (c : Thread nD τ) none Set.univ)) $$ Htail_6; iintro Htail_7
  iapply (send_at I c 7 7 8 rfl rfl _ rfl (wpE_waitDma2_eq 𝒱₀ (c : Thread nD τ) none Set.univ)) $$ Htail_7; iintro Htail_8
  iapply (send_at I c 8 8 9 rfl rfl _ rfl (wpE_waitDma2_eq 𝒱₀ (c : Thread nD τ) none Set.univ)) $$ Htail_8; iintro Htail_9
  iapply (done c _)
  iapply Hk
  iexact Htail_9

theorem part53 (c : Dev nD)   {Q : (PUnit) → sProp 𝕄} :
    iprop(Tail I c 9) ⊢ iprop((∀ r, (Tail I c 12) -∗ Q r)
      -∗ WP c (k0_part53 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 c) Q) := by
  rw [k0_part53_eq_skeleton]; unfold k0_part53_skel
  simp only [semSignalWord, semWaitWord, Prog.lift, Prog.bind_op, Prog.bind_ret, Prog.pure_eq_ret, wp_deviceId]
  iintro Htail_9 Hk
  iapply (send_at I c 9 9 10 rfl rfl _ rfl (wpE_waitDma2_eq 𝒱₀ (c : Thread nD τ) none Set.univ)) $$ Htail_9; iintro Htail_10
  iapply (send_at I c 10 10 11 rfl rfl _ rfl (wpE_waitDma2_eq 𝒱₀ (c : Thread nD τ) none Set.univ)) $$ Htail_10; iintro Htail_11
  iapply (send_at I c 11 11 12 rfl rfl _ rfl (wpE_waitDma2_eq 𝒱₀ (c : Thread nD τ) none Set.univ)) $$ Htail_11; iintro Htail_12
  iapply (done c _)
  iapply Hk
  iexact Htail_12

theorem part54 (c : Dev nD)   {Q : (PUnit) → sProp 𝕄} :
    iprop(Tail I c 12) ⊢ iprop((∀ r, (Tail I c 16) -∗ Q r)
      -∗ WP c (k0_part54 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 c) Q) := by
  rw [k0_part54_eq_skeleton]; unfold k0_part54_skel
  simp only [semSignalWord, semWaitWord, Prog.lift, Prog.bind_op, Prog.bind_ret, Prog.pure_eq_ret, wp_deviceId]
  iintro Htail_12 Hk
  iapply (send_at I c 12 12 13 rfl rfl _ rfl (wpE_waitDma2_eq 𝒱₀ (c : Thread nD τ) none Set.univ)) $$ Htail_12; iintro Htail_13
  iapply (send_at I c 13 13 14 rfl rfl _ rfl (wpE_waitDma2_eq 𝒱₀ (c : Thread nD τ) none Set.univ)) $$ Htail_13; iintro Htail_14
  iapply (send_at I c 14 14 15 rfl rfl _ rfl (wpE_waitDma2_eq 𝒱₀ (c : Thread nD τ) none Set.univ)) $$ Htail_14; iintro Htail_15
  iapply (send_at I c 15 15 16 rfl rfl _ rfl (wpE_waitDma2_eq 𝒱₀ (c : Thread nD τ) none Set.univ)) $$ Htail_15; iintro Htail_16
  iapply (done c _)
  iapply Hk
  iexact Htail_16

theorem part55 (c : Dev nD)   {Q : (PUnit) → sProp 𝕄} :
    iprop(Tail I c 16) ⊢ iprop((∀ r, (Tail I c 19) -∗ Q r)
      -∗ WP c (k0_part55 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 c) Q) := by
  rw [k0_part55_eq_skeleton]; unfold k0_part55_skel
  simp only [semSignalWord, semWaitWord, Prog.lift, Prog.bind_op, Prog.bind_ret, Prog.pure_eq_ret, wp_deviceId]
  iintro Htail_16 Hk
  iapply (send_at I c 16 16 17 rfl rfl _ rfl (wpE_waitDma2_eq 𝒱₀ (c : Thread nD τ) none Set.univ)) $$ Htail_16; iintro Htail_17
  iapply (send_at I c 17 17 18 rfl rfl _ rfl (wpE_waitDma2_eq 𝒱₀ (c : Thread nD τ) none Set.univ)) $$ Htail_17; iintro Htail_18
  iapply (send_at I c 18 18 19 rfl rfl _ rfl (wpE_waitDma2_eq 𝒱₀ (c : Thread nD τ) none Set.univ)) $$ Htail_18; iintro Htail_19
  iapply (done c _)
  iapply Hk
  iexact Htail_19

theorem part56 (c : Dev nD)   {Q : (PUnit) → sProp 𝕄} :
    iprop(Tail I c 19) ⊢ iprop((∀ r, (Tail I c 23) -∗ Q r)
      -∗ WP c (k0_part56 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 c) Q) := by
  rw [k0_part56_eq_skeleton]; unfold k0_part56_skel
  simp only [semSignalWord, semWaitWord, Prog.lift, Prog.bind_op, Prog.bind_ret, Prog.pure_eq_ret, wp_deviceId]
  iintro Htail_19 Hk
  iapply (send_at I c 19 19 20 rfl rfl _ rfl (wpE_waitDma2_eq 𝒱₀ (c : Thread nD τ) none Set.univ)) $$ Htail_19; iintro Htail_20
  iapply (send_at I c 20 20 21 rfl rfl _ rfl (wpE_waitDma2_eq 𝒱₀ (c : Thread nD τ) none Set.univ)) $$ Htail_20; iintro Htail_21
  iapply (send_at I c 21 21 22 rfl rfl _ rfl (wpE_waitDma2_eq 𝒱₀ (c : Thread nD τ) none Set.univ)) $$ Htail_21; iintro Htail_22
  iapply (send_at I c 22 22 23 rfl rfl _ rfl (wpE_waitDma2_eq 𝒱₀ (c : Thread nD τ) none Set.univ)) $$ Htail_22; iintro Htail_23
  iapply (done c _)
  iapply Hk
  iexact Htail_23

theorem part57 (c : Dev nD)   {Q : (PUnit) → sProp 𝕄} :
    iprop(Tail I c 23) ⊢ iprop((∀ r, (Tail I c 26) -∗ Q r)
      -∗ WP c (k0_part57 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 c) Q) := by
  rw [k0_part57_eq_skeleton]; unfold k0_part57_skel
  simp only [semSignalWord, semWaitWord, Prog.lift, Prog.bind_op, Prog.bind_ret, Prog.pure_eq_ret, wp_deviceId]
  iintro Htail_23 Hk
  iapply (send_at I c 23 23 24 rfl rfl _ rfl (wpE_waitDma2_eq 𝒱₀ (c : Thread nD τ) none Set.univ)) $$ Htail_23; iintro Htail_24
  iapply (send_at I c 24 24 25 rfl rfl _ rfl (wpE_waitDma2_eq 𝒱₀ (c : Thread nD τ) none Set.univ)) $$ Htail_24; iintro Htail_25
  iapply (send_at I c 25 25 26 rfl rfl _ rfl (wpE_waitDma2_eq 𝒱₀ (c : Thread nD τ) none Set.univ)) $$ Htail_25; iintro Htail_26
  iapply (done c _)
  iapply Hk
  iexact Htail_26

theorem part58 (c : Dev nD)   {Q : (PUnit) → sProp 𝕄} :
    iprop(Tail I c 26) ⊢ iprop((∀ r, (Tail I c 30) -∗ Q r)
      -∗ WP c (k0_part58 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 c) Q) := by
  rw [k0_part58_eq_skeleton]; unfold k0_part58_skel
  simp only [semSignalWord, semWaitWord, Prog.lift, Prog.bind_op, Prog.bind_ret, Prog.pure_eq_ret, wp_deviceId]
  iintro Htail_26 Hk
  iapply (send_at I c 26 26 27 rfl rfl _ rfl (wpE_waitDma2_eq 𝒱₀ (c : Thread nD τ) none Set.univ)) $$ Htail_26; iintro Htail_27
  iapply (send_at I c 27 27 28 rfl rfl _ rfl (wpE_waitDma2_eq 𝒱₀ (c : Thread nD τ) none Set.univ)) $$ Htail_27; iintro Htail_28
  iapply (send_at I c 28 28 29 rfl rfl _ rfl (wpE_waitDma2_eq 𝒱₀ (c : Thread nD τ) none Set.univ)) $$ Htail_28; iintro Htail_29
  iapply (send_at I c 29 29 30 rfl rfl _ rfl (wpE_waitDma2_eq 𝒱₀ (c : Thread nD τ) none Set.univ)) $$ Htail_29; iintro Htail_30
  iapply (done c _)
  iapply Hk
  iexact Htail_30

theorem part59 (c : Dev nD)   {Q : (PUnit) → sProp 𝕄} :
    iprop(Tail I c 30) ⊢ iprop((∀ r, (Tail I c 34) -∗ Q r)
      -∗ WP c (k0_part59 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13 c) Q) := by
  rw [k0_part59_eq_skeleton]; unfold k0_part59_skel
  simp only [semSignalWord, semWaitWord, Prog.lift, Prog.bind_op, Prog.bind_ret, Prog.pure_eq_ret, wp_deviceId]
  iintro Htail_30 Hk
  iapply (send_at I c 30 30 31 rfl rfl _ rfl (wpE_waitDma2_eq 𝒱₀ (c : Thread nD τ) none Set.univ)) $$ Htail_30; iintro Htail_31
  iapply (send_at I c 31 31 32 rfl rfl _ rfl (wpE_waitDma2_eq 𝒱₀ (c : Thread nD τ) none Set.univ)) $$ Htail_31; iintro Htail_32
  iapply (send_at I c 32 32 33 rfl rfl _ rfl (wpE_waitDma2_eq 𝒱₀ (c : Thread nD τ) none Set.univ)) $$ Htail_32; iintro Htail_33
  iapply (send_at I c 33 33 34 rfl rfl _ rfl (wpE_waitDma2_eq 𝒱₀ (c : Thread nD τ) none Set.univ)) $$ Htail_33; iintro Htail_34
  iapply (done c _)
  iapply Hk
  iexact Htail_34

end Cert.MlpProof

end
-- ==== Proof.Body.lean ====
/- The run of the whole body, part by part. -/
module

public import proofs.«01_k».proof.Proof.Part1
public import proofs.«01_k».proof.Proof.Part2
public import proofs.«01_k».proof.Proof.Part3
public import proofs.«01_k».proof.Proof.Part4
public import proofs.«01_k».proof.Proof.Part5
public import proofs.«01_k».proof.Proof.Part6
public import proofs.«01_k».proof.Proof.Part7
public import proofs.«01_k».proof.Proof.Part8

@[expose] public section

noncomputable section

namespace Cert.MlpProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_range)
open Idealize.ShloMosaic.Pipeline (Dat Cfg Window BodyObligation cellOf)

variable {F : FTy → Type} [FloatOps F]

local notation "𝕄" => MT nD τ sig Unit (Elt F) ℕ UU ℕ

variable (I : Inp F)

/-- What the body starts from. -/
def BIn (c : Dev nD) : sProp 𝕄 :=
  iprop(Pre I c 0
      ∗ stg c cc0_stg0_0 (I.x c)
      ∗ stg c cc0_stg1_0 (I.wi 0 c)
      ∗ stg c cc0_stg2_0 (I.wo 0 c)
      ∗ stg c cc0_stg3_0 (I.wi 1 c)
      ∗ stg c cc0_stg4_0 (I.wo 1 c)
      ∗ stg c cc0_stg5_0 (I.wi 2 c)
      ∗ stg c cc0_stg6_0 (I.wo 2 c)
      ∗ (∃ f, stg c cc0_stg7_0 f)
      ∗ A0 c 0
      ∗ A0 c 1
      ∗ A0 c 2
      ∗ S0 c 0
      ∗ S0 c 1
      ∗ S0 c 2
      ∗ H0 c 0
      ∗ H0 c 1
      ∗ H0 c 2
      ∗ (bigSep Finset.univ fun i : Ed => atPos ER (sendCell c i) 0 (∅ : Finset Du) 0))
/-- What it leaves, the waits for the sources reached number `m`. -/
def BOut (c : Dev nD) (m : ℕ) : sProp 𝕄 :=
  iprop(Tail I c m
      ∗ semVal (readyCell c) 0
      ∗ Rcv c 36
      ∗ stg c cc0_stg0_0 (I.x c)
      ∗ stg c cc0_stg1_0 (I.wi 0 c)
      ∗ stg c cc0_stg2_0 (I.wo 0 c)
      ∗ stg c cc0_stg3_0 (I.wi 1 c)
      ∗ stg c cc0_stg4_0 (I.wo 1 c)
      ∗ stg c cc0_stg5_0 (I.wi 2 c)
      ∗ stg c cc0_stg6_0 (I.wo 2 c)
      ∗ stg c cc0_stg7_0 (outV I c)
      ∗ A1 I c 0
      ∗ A1 I c 1
      ∗ A1 I c 2
      ∗ S1 I c 0
      ∗ S1 I c 1
      ∗ S1 I c 2
      ∗ landed I c 0
      ∗ landed I c 1
      ∗ landed I c 2
      ∗ landed I c 3
      ∗ landed I c 4
      ∗ landed I c 5
      ∗ landed I c 12
      ∗ landed I c 13
      ∗ landed I c 14
      ∗ landed I c 15
      ∗ landed I c 16
      ∗ landed I c 17
      ∗ landed I c 24
      ∗ landed I c 25
      ∗ landed I c 26
      ∗ landed I c 27
      ∗ landed I c 28
      ∗ landed I c 29
      ∗ HP I c 0
      ∗ HP I c 1
      ∗ HP I c 2
      ∗ HK I c 0
      ∗ HK I c 1
      ∗ HK I c 2)

set_option maxRecDepth 4000 in
theorem part60 (c : Dev nD) {Q : Dev nD → sProp 𝕄} :
    BIn I c ⊢ iprop((∀ r, ⌜r = c⌝ -∗ BOut I c 34 -∗ Q r)
      -∗ WP c (k0_part60 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13) Q) := by
  rw [k0_part60_eq_skeleton]; unfold k0_part60_skel BIn BOut
  iintro ⟨Hpre_0, Hstg_0, Hstg_1, Hstg_2, Hstg_3, Hstg_4, Hstg_5, Hstg_6, Hout0, HA0_0, HA0_1, HA0_2, HS0_0, HS0_1, HS0_2, HH0_0, HH0_1, HH0_2, HAT⟩ Hk
  iapply (seq_at c _ _)
  iapply (part1 I c) $$ [Hpre_0]
  · iexact Hpre_0
  iintro %r %hr Hpre_0
  obtain ⟨d0, v2, v19, v29, v32, v33, v34, v36⟩ := r
  dsimp only at hr ⊢
  subst d0
  iapply (seq_at c _ _)
  iapply (part2 I c _ _ _ _ _) $$ [Hpre_0]
  · iexact Hpre_0
  iintro %r Hpre_2
  obtain ⟨v63, v66, v67, v68, v69, c0_i32_40⟩ := r
  dsimp only
  iapply (seq_at c _ _)
  iapply (part3 I c _ _ _ _ _ _ _ _) $$ [Hpre_2]
  · iexact Hpre_2
  iintro %v105 Hpre_4
  iapply (seq_at c _ _)
  iapply (part4 I c _ _ _) $$ [Hpre_4 Hstg_0 Hstg_1 HA0_0]
  · isplitl [Hpre_4]; (· iexact Hpre_4); isplitl [Hstg_0]; (· iexact Hstg_0); isplitl [Hstg_1]; (· iexact Hstg_1); iexact HA0_0
  iintro %r ⟨Hcore_0_0, HZ, Hstg_0, Hstg_1, HA1_0, Hsrc_0, Hsrc_1, Hsrc_2⟩
  obtain ⟨v132, c4_i32_83, v133, c1_i32_85⟩ := r
  dsimp only
  iapply (seq_at c _ _)
  iapply (part5 I c _ _ _ _ _ _) $$ [Hcore_0_0 Hsrc_0]
  · isplitl [Hcore_0_0]; (· iexact Hcore_0_0); iexact Hsrc_0
  iintro %v166 Hcore_1_0
  iapply (seq_at c _ _)
  iapply (part6 I c _ _ _) $$ [Hcore_1_0 Hsrc_1]
  · isplitl [Hcore_1_0]; (· iexact Hcore_1_0); iexact Hsrc_1
  iintro %r Hcore_2_0
  iapply (seq_at c _ _)
  iapply (part7 I c _ _) $$ [Hcore_2_0 Hsrc_2 HA1_0]
  · isplitl [Hcore_2_0]; (· iexact Hcore_2_0); isplitl [Hsrc_2]; (· iexact Hsrc_2); iexact HA1_0
  iintro %r %hr ⟨Hcore_3_1, HA1_0, Hlnd_2⟩
  obtain ⟨v220, c1_i32_173⟩ := r
  dsimp only at hr ⊢
  have hv220 := hr
  iapply (seq_at c _ _)
  iapply (part8 I c _ _ _ hv220) $$ [Hcore_3_1 HS0_0]
  · isplitl [Hcore_3_1]; (· iexact Hcore_3_1); iexact HS0_0
  iintro %v248 %hr ⟨Hcore_3_3, Hlnd_1, Hlnd_0, HS0_0⟩
  have hv248 := hr
  iapply (seq_at c _ _)
  iapply (part9 I c _ _ _ hv248) $$ [Hcore_3_3 HS0_0]
  · isplitl [Hcore_3_3]; (· iexact Hcore_3_3); iexact HS0_0
  iintro %r ⟨Hcore_4_3, HS1_0, Hsrc_4, Hsrc_5⟩
  obtain ⟨v275, v276, v277, v278, c0_i32_229⟩ := r
  dsimp only
  iapply (seq_at c _ _)
  iapply (part10 I c _ _ _ _ _ _ _) $$ [Hcore_4_3 Hsrc_4]
  · isplitl [Hcore_4_3]; (· iexact Hcore_4_3); iexact Hsrc_4
  iintro %v310 Hcore_5_3
  iapply (seq_at c _ _)
  iapply (part11 I c _ _ _) $$ [Hcore_5_3 Hsrc_5 HS1_0]
  · isplitl [Hcore_5_3]; (· iexact Hcore_5_3); isplitl [Hsrc_5]; (· iexact Hsrc_5); iexact HS1_0
  iintro %v337 %hr ⟨Hcore_6_4, HS1_0, Hlnd_5⟩
  have hv337 := hr
  iapply (seq_at c _ _)
  iapply (part12 I c _ _ hv337) $$ [Hcore_6_4]
  · iexact Hcore_6_4
  iintro %v361 %hr ⟨Hcore_6_6, Hlnd_4, Hlnd_3⟩
  have hv361 := hr
  iapply (seq_at c _ _)
  iapply (part13 I c _ _ _ _ hv361) $$ [Hcore_6_6 HH0_0]
  · isplitl [Hcore_6_6]; (· iexact Hcore_6_6); iexact HH0_0
  iintro %r ⟨Hcore_7_6, HH1_0, Hsrc_7, Hsrc_8⟩
  obtain ⟨v392, v394⟩ := r
  dsimp only
  iapply (seq_at c _ _)
  iapply (part14 I c _ _ _ _) $$ [Hcore_7_6 Hsrc_7]
  · isplitl [Hcore_7_6]; (· iexact Hcore_7_6); iexact Hsrc_7
  iintro %v427 Hcore_8_6
  iapply (seq_at c _ _)
  iapply (part15 I c _ _) $$ [Hcore_8_6 Hsrc_8]
  · isplitl [Hcore_8_6]; (· iexact Hcore_8_6); iexact Hsrc_8
  iintro %r ⟨Hcore_9_8, Hlnd_8, Hlnd_7⟩
  iapply (seq_at c _ _)
  iapply (part16 I c _ _ _) $$ [Hcore_9_8]
  · iexact Hcore_9_8
  iintro %r ⟨Hcore_9_9, Hlnd_6⟩
  iapply (seq_at c _ _)
  iapply (part17 I c _ _) $$ [Hcore_9_9 HH1_0 Hlnd_6 Hlnd_7 Hlnd_8]
  · isplitl [Hcore_9_9]; (· iexact Hcore_9_9); isplitl [HH1_0]; (· iexact HH1_0); isplitl [Hlnd_6]; (· iexact Hlnd_6); isplitl [Hlnd_7]; (· iexact Hlnd_7); iexact Hlnd_8
  iintro %r ⟨Hcore_11_9, HH2_0, Hsrc_11⟩
  obtain ⟨v514, v515⟩ := r
  dsimp only
  iapply (seq_at c _ _)
  iapply (part18 I c _ _ _ _ _) $$ [Hcore_11_9 Hsrc_11]
  · isplitl [Hcore_11_9]; (· iexact Hcore_11_9); iexact Hsrc_11
  iintro %r ⟨Hcore_12_10, Hlnd_11⟩
  iapply (seq_at c _ _)
  iapply (part19 I c _) $$ [Hcore_12_10 HH2_0 Hlnd_11 Hstg_2 Hstg_3]
  · isplitl [Hcore_12_10]; (· iexact Hcore_12_10); isplitl [HH2_0]; (· iexact HH2_0); isplitl [Hlnd_11]; (· iexact Hlnd_11); isplitl [Hstg_2]; (· iexact Hstg_2); iexact Hstg_3
  iintro %v569 %hr ⟨Hcore_12_12, HHP_0, HHK_0, Hstg_2, Hstg_3⟩
  have hv569 := hr
  iapply (seq_at c _ _)
  iapply (part20 I c _ _ _ hv569) $$ [Hcore_12_12 HA0_1]
  · isplitl [Hcore_12_12]; (· iexact Hcore_12_12); iexact HA0_1
  iintro %r ⟨Hcore_13_12, HA1_1, Hsrc_13, Hsrc_14⟩
  obtain ⟨v599, v600⟩ := r
  dsimp only
  iapply (seq_at c _ _)
  iapply (part21 I c _ _ _ _) $$ [Hcore_13_12 Hsrc_13]
  · isplitl [Hcore_13_12]; (· iexact Hcore_13_12); iexact Hsrc_13
  iintro %r Hcore_14_12
  obtain ⟨v631, v633⟩ := r
  dsimp only
  iapply (seq_at c _ _)
  iapply (part22 I c _ _ _ _) $$ [Hcore_14_12 Hsrc_14 HA1_1]
  · isplitl [Hcore_14_12]; (· iexact Hcore_14_12); isplitl [Hsrc_14]; (· iexact Hsrc_14); iexact HA1_1
  iintro %r %hr ⟨Hcore_15_13, HA1_1, Hlnd_14⟩
  obtain ⟨v649, v658⟩ := r
  dsimp only at hr ⊢
  obtain ⟨hv649, hv658⟩ := hr
  iapply (seq_at c _ _)
  iapply (part23 I c _ _ _ hv649 hv658) $$ [Hcore_15_13]
  · iexact Hcore_15_13
  iintro %v673 %hr ⟨Hcore_15_15, Hlnd_13, Hlnd_12⟩
  have hv673 := hr
  iapply (seq_at c _ _)
  iapply (part24 I c _ _ _ hv673) $$ [Hcore_15_15 Hlnd_12 HS0_1]
  · isplitl [Hcore_15_15]; (· iexact Hcore_15_15); isplitl [Hlnd_12]; (· iexact Hlnd_12); iexact HS0_1
  iintro %c2_i32_667 ⟨Hcore_16_15, Hlnd_12, HS1_1, Hsrc_16, Hsrc_17⟩
  iapply (seq_at c _ _)
  iapply (part25 I c _ _ _) $$ [Hcore_16_15 Hsrc_16]
  · isplitl [Hcore_16_15]; (· iexact Hcore_16_15); iexact Hsrc_16
  iintro %r Hcore_17_15
  obtain ⟨v740, v741, v742, v745⟩ := r
  dsimp only
  iapply (seq_at c _ _)
  iapply (part26 I c _ _ _ _ _ _ _) $$ [Hcore_17_15 Hsrc_17 HS1_1]
  · isplitl [Hcore_17_15]; (· iexact Hcore_17_15); isplitl [Hsrc_17]; (· iexact Hsrc_17); iexact HS1_1
  iintro %v766 %hr ⟨Hcore_18_15, HS1_1⟩
  have hv766 := hr
  iapply (seq_at c _ _)
  iapply (part27 I c _ _ hv766) $$ [Hcore_18_15]
  · iexact Hcore_18_15
  iintro %v790 %hr ⟨Hcore_18_17, Hlnd_17, Hlnd_16⟩
  have hv790 := hr
  iapply (seq_at c _ _)
  iapply (part28 I c _ _ _ _ hv790) $$ [Hcore_18_17 HH0_1]
  · isplitl [Hcore_18_17]; (· iexact Hcore_18_17); iexact HH0_1
  iintro %r ⟨Hcore_18_18, Hlnd_15, HH1_1, Hsrc_18, Hsrc_19, Hsrc_20⟩
  iapply (seq_at c _ _)
  iapply (part29 I c _ _) $$ [Hcore_18_18 Hsrc_18 Hsrc_19]
  · isplitl [Hcore_18_18]; (· iexact Hcore_18_18); isplitl [Hsrc_18]; (· iexact Hsrc_18); iexact Hsrc_19
  iintro %r Hcore_20_18
  obtain ⟨v858, v859, v860, v861, c0_i32_811⟩ := r
  dsimp only
  iapply (seq_at c _ _)
  iapply (part30 I c _ _ _ _ _ _ _) $$ [Hcore_20_18 Hsrc_20]
  · isplitl [Hcore_20_18]; (· iexact Hcore_20_18); iexact Hsrc_20
  iintro %r ⟨Hcore_21_19, Hlnd_20⟩
  iapply (seq_at c _ _)
  iapply (part31 I c _ _ _) $$ [Hcore_21_19]
  · iexact Hcore_21_19
  iintro %v917 ⟨Hcore_21_21, Hlnd_19, Hlnd_18⟩
  iapply (seq_at c _ _)
  iapply (part32 I c _ _ _) $$ [Hcore_21_21 HH1_1 Hlnd_18 Hlnd_19 Hlnd_20]
  · isplitl [Hcore_21_21]; (· iexact Hcore_21_21); isplitl [HH1_1]; (· iexact HH1_1); isplitl [Hlnd_18]; (· iexact Hlnd_18); isplitl [Hlnd_19]; (· iexact Hlnd_19); iexact Hlnd_20
  iintro %r ⟨Hcore_22_21, HH2_1, Hsrc_22, Hsrc_23⟩
  iapply (seq_at c _ _)
  iapply (part33 I c _ _ _) $$ [Hcore_22_21 Hsrc_22 Hsrc_23]
  · isplitl [Hcore_22_21]; (· iexact Hcore_22_21); isplitl [Hsrc_22]; (· iexact Hsrc_22); iexact Hsrc_23
  iintro %r Hcore_24_21
  iapply (seq_at c _ _)
  iapply (part34 I c _) $$ [Hcore_24_21 HH2_1]
  · isplitl [Hcore_24_21]; (· iexact Hcore_24_21); iexact HH2_1
  iintro %v1003 %hr ⟨Hcore_24_24, HHP_1, HHK_1⟩
  have hv1003 := hr
  iapply (seq_at c _ _)
  iapply (part35 I c _ _ _ hv1003) $$ [Hcore_24_24 Hstg_4 Hstg_5 HA0_2]
  · isplitl [Hcore_24_24]; (· iexact Hcore_24_24); isplitl [Hstg_4]; (· iexact Hstg_4); isplitl [Hstg_5]; (· iexact Hstg_5); iexact HA0_2
  iintro %r ⟨Hcore_24_24, Hstg_4, Hstg_5, HA1_2, Hsrc_24, Hsrc_25, Hsrc_26⟩
  iapply (seq_at c _ _)
  iapply (part36 I c _ _) $$ [Hcore_24_24 Hsrc_24 Hsrc_25]
  · isplitl [Hcore_24_24]; (· iexact Hcore_24_24); isplitl [Hsrc_24]; (· iexact Hsrc_24); iexact Hsrc_25
  iintro %r Hcore_26_24
  obtain ⟨v1064, v1065, v1066⟩ := r
  dsimp only
  iapply (seq_at c _ _)
  iapply (part37 I c _ _ _ _ _ _) $$ [Hcore_26_24 Hsrc_26 HA1_2]
  · isplitl [Hcore_26_24]; (· iexact Hcore_26_24); isplitl [Hsrc_26]; (· iexact Hsrc_26); iexact HA1_2
  iintro %v1090 %hr ⟨Hcore_27_24, HA1_2⟩
  have hv1090 := hr
  iapply (seq_at c _ _)
  iapply (part38 I c _ _ hv1090) $$ [Hcore_27_24]
  · iexact Hcore_27_24
  iintro %v1114 %hr ⟨Hcore_27_26, Hlnd_26, Hlnd_25⟩
  have hv1114 := hr
  iapply (seq_at c _ _)
  iapply (part39 I c _ _ _ hv1114) $$ [Hcore_27_26 HS0_2]
  · isplitl [Hcore_27_26]; (· iexact Hcore_27_26); iexact HS0_2
  iintro %r ⟨Hcore_27_27, Hlnd_24, HS1_2, Hsrc_27, Hsrc_28, Hsrc_29⟩
  iapply (seq_at c _ _)
  iapply (part40 I c _ _) $$ [Hcore_27_27 Hsrc_27 Hsrc_28]
  · isplitl [Hcore_27_27]; (· iexact Hcore_27_27); isplitl [Hsrc_27]; (· iexact Hsrc_27); iexact Hsrc_28
  iintro %r Hcore_29_27
  obtain ⟨v1179, c4_i32_1133⟩ := r
  dsimp only
  iapply (seq_at c _ _)
  iapply (part41 I c _ _ _ _) $$ [Hcore_29_27 Hsrc_29 HS1_2]
  · isplitl [Hcore_29_27]; (· iexact Hcore_29_27); isplitl [Hsrc_29]; (· iexact Hsrc_29); iexact HS1_2
  iintro %r %hr ⟨Hcore_30_27, HS1_2⟩
  obtain ⟨v1207, c1_i32_1164⟩ := r
  dsimp only at hr ⊢
  have hv1207 := hr
  iapply (seq_at c _ _)
  iapply (part42 I c _ _ _ hv1207) $$ [Hcore_30_27]
  · iexact Hcore_30_27
  iintro %v1231 %hr ⟨Hcore_30_29, Hlnd_29, Hlnd_28⟩
  have hv1231 := hr
  iapply (seq_at c _ _)
  iapply (part43 I c _ _ _ _ _ hv1231) $$ [Hcore_30_29 HH0_2]
  · isplitl [Hcore_30_29]; (· iexact Hcore_30_29); iexact HH0_2
  iintro %v1263 ⟨Hcore_30_30, Hlnd_27, HH1_2, Hsrc_30, Hsrc_31, Hsrc_32⟩
  iapply (seq_at c _ _)
  iapply (part44 I c _ _ _) $$ [Hcore_30_30 Hsrc_30 Hsrc_31]
  · isplitl [Hcore_30_30]; (· iexact Hcore_30_30); isplitl [Hsrc_30]; (· iexact Hsrc_30); iexact Hsrc_31
  iintro %c3_i32_1249 Hcore_32_30
  iapply (seq_at c _ _)
  iapply (part45 I c _ _ _ _) $$ [Hcore_32_30 Hsrc_32]
  · isplitl [Hcore_32_30]; (· iexact Hcore_32_30); iexact Hsrc_32
  iintro %r Hcore_33_30
  iapply (seq_at c _ _)
  iapply (part46 I c _ _) $$ [Hcore_33_30]
  · iexact Hcore_33_30
  iintro %r ⟨Hcore_33_33, Hlnd_32, Hlnd_31, Hlnd_30⟩
  obtain ⟨v1346, v1347, v1352⟩ := r
  dsimp only
  iapply (seq_at c _ _)
  iapply (part47 I c _ _ _ _ _) $$ [Hcore_33_33 HH1_2 Hlnd_30 Hlnd_31 Hlnd_32]
  · isplitl [Hcore_33_33]; (· iexact Hcore_33_33); isplitl [HH1_2]; (· iexact HH1_2); isplitl [Hlnd_30]; (· iexact Hlnd_30); isplitl [Hlnd_31]; (· iexact Hlnd_31); iexact Hlnd_32
  iintro %v1383 ⟨Hcore_34_33, HH2_2, Hsrc_34, Hsrc_35⟩
  iapply (seq_at c _ _)
  iapply (part48 I c _ _ _) $$ [Hcore_34_33 Hsrc_34]
  · isplitl [Hcore_34_33]; (· iexact Hcore_34_33); iexact Hsrc_34
  iintro %r Hcore_35_33
  iapply (seq_at c _ _)
  iapply (part49 I c _) $$ [Hcore_35_33 Hsrc_35]
  · isplitl [Hcore_35_33]; (· iexact Hcore_35_33); iexact Hsrc_35
  iintro %r ⟨Hcore_36_35, Hlnd_35, Hlnd_34⟩
  iapply (seq_at c _ _)
  iapply (part50 I c) $$ [Hcore_36_35 HH2_2 Hlnd_34 Hlnd_35 Hstg_6 Hout0 HAT]
  · isplitl [Hcore_36_35]; (· iexact Hcore_36_35); isplitl [HH2_2]; (· iexact HH2_2); isplitl [Hlnd_34]; (· iexact Hlnd_34); isplitl [Hlnd_35]; (· iexact Hlnd_35); isplitl [Hstg_6]; (· iexact Hstg_6); isplitl [Hout0]; (· iexact Hout0); iexact HAT
  iintro %r ⟨Htail_2, HHP_2, HHK_2, Hstg_6, Hout1, HRZ⟩
  iapply (seq_at c _ _)
  iapply (part51 I c) $$ [Htail_2]
  · iexact Htail_2
  iintro %r Htail_5
  iapply (seq_at c _ _)
  iapply (part52 I c) $$ [Htail_5]
  · iexact Htail_5
  iintro %r Htail_9
  iapply (seq_at c _ _)
  iapply (part53 I c) $$ [Htail_9]
  · iexact Htail_9
  iintro %r Htail_12
  iapply (seq_at c _ _)
  iapply (part54 I c) $$ [Htail_12]
  · iexact Htail_12
  iintro %r Htail_16
  iapply (seq_at c _ _)
  iapply (part55 I c) $$ [Htail_16]
  · iexact Htail_16
  iintro %r Htail_19
  iapply (seq_at c _ _)
  iapply (part56 I c) $$ [Htail_19]
  · iexact Htail_19
  iintro %r Htail_23
  iapply (seq_at c _ _)
  iapply (part57 I c) $$ [Htail_23]
  · iexact Htail_23
  iintro %r Htail_26
  iapply (seq_at c _ _)
  iapply (part58 I c) $$ [Htail_26]
  · iexact Htail_26
  iintro %r Htail_30
  iapply (seq_at c _ _)
  iapply (part59 I c) $$ [Htail_30]
  · iexact Htail_30
  iintro %r Htail_34
  iapply (done c _)
  iapply Hk $$ [] [Htail_34 HZ HRZ Hstg_0 Hstg_1 Hstg_2 Hstg_3 Hstg_4 Hstg_5 Hstg_6 Hout1 HA1_0 HA1_1 HA1_2 HS1_0 HS1_1 HS1_2 Hlnd_0 Hlnd_1 Hlnd_2 Hlnd_3 Hlnd_4 Hlnd_5 Hlnd_12 Hlnd_13 Hlnd_14 Hlnd_15 Hlnd_16 Hlnd_17 Hlnd_24 Hlnd_25 Hlnd_26 Hlnd_27 Hlnd_28 Hlnd_29 HHP_0 HHP_1 HHP_2 HHK_0 HHK_1 HHK_2]
  · ipureintro; rfl
  · isplitl [Htail_34]; (· iexact Htail_34)
    isplitl [HZ]; (· iexact HZ)
    isplitl [HRZ]; (· iexact HRZ)
    isplitl [Hstg_0]; (· iexact Hstg_0)
    isplitl [Hstg_1]; (· iexact Hstg_1)
    isplitl [Hstg_2]; (· iexact Hstg_2)
    isplitl [Hstg_3]; (· iexact Hstg_3)
    isplitl [Hstg_4]; (· iexact Hstg_4)
    isplitl [Hstg_5]; (· iexact Hstg_5)
    isplitl [Hstg_6]; (· iexact Hstg_6)
    isplitl [Hout1]; (· iexact Hout1)
    isplitl [HA1_0]; (· iexact HA1_0)
    isplitl [HA1_1]; (· iexact HA1_1)
    isplitl [HA1_2]; (· iexact HA1_2)
    isplitl [HS1_0]; (· iexact HS1_0)
    isplitl [HS1_1]; (· iexact HS1_1)
    isplitl [HS1_2]; (· iexact HS1_2)
    isplitl [Hlnd_0]; (· iexact Hlnd_0)
    isplitl [Hlnd_1]; (· iexact Hlnd_1)
    isplitl [Hlnd_2]; (· iexact Hlnd_2)
    isplitl [Hlnd_3]; (· iexact Hlnd_3)
    isplitl [Hlnd_4]; (· iexact Hlnd_4)
    isplitl [Hlnd_5]; (· iexact Hlnd_5)
    isplitl [Hlnd_12]; (· iexact Hlnd_12)
    isplitl [Hlnd_13]; (· iexact Hlnd_13)
    isplitl [Hlnd_14]; (· iexact Hlnd_14)
    isplitl [Hlnd_15]; (· iexact Hlnd_15)
    isplitl [Hlnd_16]; (· iexact Hlnd_16)
    isplitl [Hlnd_17]; (· iexact Hlnd_17)
    isplitl [Hlnd_24]; (· iexact Hlnd_24)
    isplitl [Hlnd_25]; (· iexact Hlnd_25)
    isplitl [Hlnd_26]; (· iexact Hlnd_26)
    isplitl [Hlnd_27]; (· iexact Hlnd_27)
    isplitl [Hlnd_28]; (· iexact Hlnd_28)
    isplitl [Hlnd_29]; (· iexact Hlnd_29)
    isplitl [HHP_0]; (· iexact HHP_0)
    isplitl [HHP_1]; (· iexact HHP_1)
    isplitl [HHP_2]; (· iexact HHP_2)
    isplitl [HHK_0]; (· iexact HHK_0)
    isplitl [HHK_1]; (· iexact HHK_1)
    iexact HHK_2

theorem body (c : Dev nD) {Q : PUnit → sProp 𝕄} :
    BIn I c ⊢ iprop((BOut I c 36 -∗ Q ⟨⟩)
      -∗ WP c (cc0_body (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13) Q) := by
  rw [cc0_body_eq_skeleton]; unfold cc0_body_skel
  iintro H Hk
  iapply (seq_at c _ _)
  iapply (part60 I c) $$ H
  iintro %d0 %hd H
  subst hd
  simp only [Prog.lift, Prog.bind_op, Prog.bind_ret, Prog.pure_eq_ret]
  unfold BOut
  icases H with ⟨HT, HR⟩
  iapply (send_at I d0 34 34 35 rfl rfl _ rfl (wpE_waitDma2_eq 𝒱₀ (d0 : Thread nD τ) none Set.univ)) $$ HT; iintro HT
  iapply (send_at I d0 35 35 36 rfl rfl _ rfl (wpE_waitDma2_eq 𝒱₀ (d0 : Thread nD τ) none Set.univ)) $$ HT; iintro HT
  iapply (done d0 _)
  iapply Hk
  isplitl [HT]; · iexact HT
  iexact HR

end Cert.MlpProof

end
-- ==== Proof.Ends.lean ====
/- The scratch buffers cut into the pieces the run starts from, and put together from those it ends with; the semaphores sorted by use. -/
module

public import proofs.«01_k».proof.Proof.Body

@[expose] public section

noncomputable section

namespace Cert.MlpProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_range)
open Idealize.ShloMosaic.Pipeline (Dat Cfg Window BodyObligation cellOf)

variable {F : FTy → Type} [FloatOps F]

local notation "𝕄" => MT nD τ sig Unit (Elt F) ℕ UU ℕ

variable (I : Inp F)

/-! ## Whole buffers in planes and slots -/

theorem univ3 (n : ℕ) : (Finset.univ : Finset (⟨3, ![3, n, 512]⟩ : Shape).Idx) = Finset.univ.biUnion fun l : Fin 3 => rows n l.val 0 n := by
  ext x; simp only [Finset.mem_univ, Finset.mem_biUnion, true_and, mem_rows, true_iff]
  exact ⟨⟨(x 0).val, (x 0).isLt⟩, rfl, Nat.zero_le _, (x 1).isLt⟩
theorem disj3 (n : ℕ) : ∀ l ∈ (Finset.univ : Finset (Fin 3)), ∀ l' ∈ (Finset.univ : Finset (Fin 3)), l ≠ l' → Disjoint (rows n l.val 0 n) (rows n l'.val 0 n) := by
  intro l _ l' _ h; rw [Finset.disjoint_left]; intro x h1 h2; rw [mem_rows] at h1 h2
  exact h (Fin.ext (h1.1.symm.trans h2.1))
theorem univ4 (n : ℕ) : (Finset.univ : Finset (⟨4, ![3, 4, n, 512]⟩ : Shape).Idx) = Finset.univ.biUnion fun t : Fin 3 × Fin 4 => slot n t.1.val t.2.val := by
  ext x; simp only [Finset.mem_univ, Finset.mem_biUnion, true_and, mem_slot, true_iff]
  exact ⟨(⟨(x 0).val, (x 0).isLt⟩, ⟨(x 1).val, (x 1).isLt⟩), rfl, rfl⟩
theorem disj4 (n : ℕ) : ∀ t ∈ (Finset.univ : Finset (Fin 3 × Fin 4)), ∀ t' ∈ (Finset.univ : Finset (Fin 3 × Fin 4)), t ≠ t' → Disjoint (slot n t.1.val t.2.val) (slot n t'.1.val t'.2.val) := by
  intro t _ t' _ h; rw [Finset.disjoint_left]; intro x h1 h2; rw [mem_slot] at h1 h2
  exact h (Prod.ext (Fin.ext (h1.1.symm.trans h2.1)) (Fin.ext (h1.2.symm.trans h2.2)))

omit [FloatOps F] in
theorem sep34 (Φ : Fin 3 × Fin 4 → sProp 𝕄) : bigSep Finset.univ Φ
    = iprop((Φ (0, 0) ∗ Φ (0, 1) ∗ Φ (0, 2) ∗ Φ (0, 3)) ∗ (Φ (1, 0) ∗ Φ (1, 1) ∗ Φ (1, 2) ∗ Φ (1, 3)) ∗ (Φ (2, 0) ∗ Φ (2, 1) ∗ Φ (2, 2) ∗ Φ (2, 3))) := by
  rw [bigSep_univ_prod, sep3, sep4, sep4, sep4]

omit [FloatOps F] in
theorem planes0 (c : Dev nD) (q : PosShare TreeShare) (f : S3x256x512.Idx → Elt F .bf16) :
    pt0 c Finset.univ q f = iprop(pt0 c (rows 256 (0 : Fin 3).val 0 256) q f ∗ pt0 c (rows 256 (1 : Fin 3).val 0 256) q f ∗ pt0 c (rows 256 (2 : Fin 3).val 0 256) q f) := by
  rw [show (Finset.univ : Finset S3x256x512.Idx) = _ from univ3 256]
  exact (pointsTo_biUnion (ℓ := (c : Thread nD τ).loc cc0_scratch0) Finset.univ _ (disj3 256)).trans (sep3 _)

omit [FloatOps F] in
theorem planes2 (c : Dev nD) (q : PosShare TreeShare) (f : S3x64x512.Idx → Elt F .bf16) :
    pt2 c Finset.univ q f = iprop(pt2 c (rows 64 (0 : Fin 3).val 0 64) q f ∗ pt2 c (rows 64 (1 : Fin 3).val 0 64) q f ∗ pt2 c (rows 64 (2 : Fin 3).val 0 64) q f) := by
  rw [show (Finset.univ : Finset S3x64x512.Idx) = _ from univ3 64]
  exact (pointsTo_biUnion (ℓ := (c : Thread nD τ).loc cc0_scratch2) Finset.univ _ (disj3 64)).trans (sep3 _)

omit [FloatOps F] in
theorem planes4 (c : Dev nD) (q : PosShare TreeShare) (f : S3x256x512.Idx → Elt F .bf16) :
    pt4 c Finset.univ q f = iprop(pt4 c (rows 256 (0 : Fin 3).val 0 256) q f ∗ pt4 c (rows 256 (1 : Fin 3).val 0 256) q f ∗ pt4 c (rows 256 (2 : Fin 3).val 0 256) q f) := by
  rw [show (Finset.univ : Finset S3x256x512.Idx) = _ from univ3 256]
  exact (pointsTo_biUnion (ℓ := (c : Thread nD τ).loc cc0_scratch4) Finset.univ _ (disj3 256)).trans (sep3 _)

omit [FloatOps F] in
theorem joinAny {ℓ : Loc nD τ sig} {T : Type} [Fintype T] (K : T → Finset (Idx ℓ)) (fs : T → Buf (Elt F) ℓ) (f₀ : Buf (Elt F) ℓ)
    (h : ∀ t ∈ (Finset.univ : Finset T), ∀ t' ∈ (Finset.univ : Finset T), t ≠ t' → Disjoint (K t) (K t')) :
    (bigSep Finset.univ fun t => (ℓ ↦[K t]{fullShare} fs t : sProp 𝕄)) ⊢ (iprop(∃ f, ℓ ↦[Finset.univ.biUnion K]{fullShare} f) : sProp 𝕄) := by
  iintro H
  ihave H := (pointsTo_biUnion_join Finset.univ K fs f₀ h) $$ H
  icases H with ⟨%g, -, H⟩
  iexists g; iexact H

omit [FloatOps F] in
theorem slots1 (c : Dev nD) (q : PosShare TreeShare) (f : S3x4x64x512.Idx → Elt F .bf16) :
    pt1 c Finset.univ q f = bigSep Finset.univ fun t : Fin 3 × Fin 4 => pt1 c (slot 64 t.1.val t.2.val) q f := by
  rw [show (Finset.univ : Finset S3x4x64x512.Idx) = _ from univ4 64]
  exact pointsTo_biUnion (ℓ := (c : Thread nD τ).loc cc0_scratch1) Finset.univ _ (disj4 64)
omit [FloatOps F] in
theorem join1 (c : Dev nD) (fs : Fin 3 × Fin 4 → S3x4x64x512.Idx → Elt F .bf16) :
    (bigSep Finset.univ fun t : Fin 3 × Fin 4 => pt1 c (slot 64 t.1.val t.2.val) fullShare (fs t)) ⊢ (iprop(∃ f, pt1 c Finset.univ fullShare f) : sProp 𝕄) := by
  rw [show (Finset.univ : Finset S3x4x64x512.Idx) = _ from univ4 64]
  exact joinAny (ℓ := (c : Thread nD τ).loc cc0_scratch1) (fun t : Fin 3 × Fin 4 => slot 64 t.1.val t.2.val) fs (fs (0, 0)) (disj4 64)
/-- The slot of plane `l` no copy lands in. -/
def Sp1 (c : Dev nD) (l : Fin 3) : sProp 𝕄 := iprop(∃ f, pt1 c (slot 64 l.val 0) fullShare f)

omit [FloatOps F] in
theorem slots3 (c : Dev nD) (q : PosShare TreeShare) (f : S3x4x16x512.Idx → Elt F .bf16) :
    pt3 c Finset.univ q f = bigSep Finset.univ fun t : Fin 3 × Fin 4 => pt3 c (slot 16 t.1.val t.2.val) q f := by
  rw [show (Finset.univ : Finset S3x4x16x512.Idx) = _ from univ4 16]
  exact pointsTo_biUnion (ℓ := (c : Thread nD τ).loc cc0_scratch3) Finset.univ _ (disj4 16)
omit [FloatOps F] in
theorem join3 (c : Dev nD) (fs : Fin 3 × Fin 4 → S3x4x16x512.Idx → Elt F .bf16) :
    (bigSep Finset.univ fun t : Fin 3 × Fin 4 => pt3 c (slot 16 t.1.val t.2.val) fullShare (fs t)) ⊢ (iprop(∃ f, pt3 c Finset.univ fullShare f) : sProp 𝕄) := by
  rw [show (Finset.univ : Finset S3x4x16x512.Idx) = _ from univ4 16]
  exact joinAny (ℓ := (c : Thread nD τ).loc cc0_scratch3) (fun t : Fin 3 × Fin 4 => slot 16 t.1.val t.2.val) fs (fs (0, 0)) (disj4 16)
/-- The slot of plane `l` no copy lands in. -/
def Sp3 (c : Dev nD) (l : Fin 3) : sProp 𝕄 := iprop(∃ f, pt3 c (slot 16 l.val 0) fullShare f)

section In
variable (c : Dev nD) {l : Fin 3} {i₁ i₂ i₃ j₁ j₂ j₃ : Ed}
omit [FloatOps F]

theorem in1 (h : Trio l 0 i₁ i₂ i₃) (f : S3x4x64x512.Idx → Elt F .bf16) :
    iprop(pt1 c (slot 64 l.val (0 : Fin 4).val) fullShare f ∗ pt1 c (slot 64 l.val (1 : Fin 4).val) fullShare f ∗ pt1 c (slot 64 l.val (2 : Fin 4).val) fullShare f ∗ pt1 c (slot 64 l.val (3 : Fin 4).val) fullShare f)
      ⊢ iprop(Sp1 c l ∗ land c i₁ ∗ land c i₂ ∗ land c i₃) := by
  rw [land_0 c h.ph₁, land_0 c h.ph₂, land_0 c h.ph₃, h.lay₁, h.lay₂, h.lay₃, h.s₁, h.s₂, h.s₃]
  unfold Sp1
  iintro ⟨H0, H1, H2, H3⟩
  isplitl [H0]; · iexists f; iexact H0
  isplitl [H3]; · iexists f; iexact H3
  isplitl [H2]; · iexists f; iexact H2
  iexists f; iexact H1

theorem in3 (h : Trio l 1 i₁ i₂ i₃) (f : S3x4x16x512.Idx → Elt F .bf16) :
    iprop(pt3 c (slot 16 l.val (0 : Fin 4).val) fullShare f ∗ pt3 c (slot 16 l.val (1 : Fin 4).val) fullShare f ∗ pt3 c (slot 16 l.val (2 : Fin 4).val) fullShare f ∗ pt3 c (slot 16 l.val (3 : Fin 4).val) fullShare f)
      ⊢ iprop(Sp3 c l ∗ land c i₁ ∗ land c i₂ ∗ land c i₃) := by
  rw [land_1 c h.ph₁, land_1 c h.ph₂, land_1 c h.ph₃, h.lay₁, h.lay₂, h.lay₃, h.s₁, h.s₂, h.s₃]
  unfold Sp3
  iintro ⟨H0, H1, H2, H3⟩
  isplitl [H0]; · iexists f; iexact H0
  isplitl [H3]; · iexists f; iexact H3
  isplitl [H2]; · iexists f; iexact H2
  iexists f; iexact H1

theorem in4 (h : Trio l 2 i₁ i₂ i₃) (h' : Trio l 3 j₁ j₂ j₃) (f : S3x256x512.Idx → Elt F .bf16) :
    pt4 c (rows 256 l.val 0 256) fullShare f ⊢ iprop(H0 c l ∗ (land c i₁ ∗ land c i₂ ∗ land c i₃) ∗ land c j₁ ∗ land c j₂ ∗ land c j₃) := by
  rw [land_2 c h.ph₁, land_2 c h.ph₂, land_2 c h.ph₃, h.lay₁, h.lay₂, h.lay₃, h.k₁, h.k₂, h.k₃,
    land_3 c h'.ph₁, land_3 c h'.ph₂, land_3 c h'.ph₃, h'.lay₁, h'.lay₂, h'.lay₃, h'.k₁, h'.k₂, h'.k₃,
    cut4 c l.val (behind (rr c)) (behind_surj _) (behind_lt _) (behind_inj _) fullShare f]
  have e : pt4 c (B4 c l 0) fullShare f = iprop(pt4 c (Q4 c l 0) fullShare f ∗ pt4 c (Q4 c l 1) fullShare f ∗ pt4 c (Q4 c l 2) fullShare f ∗ pt4 c (Q4 c l 3) fullShare f) := by
    have hr := rr_lt c
    rw [show B4 c l 0 = rows 256 l.val (64 * rr c) (64 * rr c + 64) from by
      show rows 256 l.val (0 + 64 * ((rr c + (4 - 0)) % 4)) (0 + 64 * ((rr c + (4 - 0)) % 4) + 64) = _
      congr 1 <;> omega]
    exact cut4s c l.val (64 * rr c) (behind (zz c)) (behind_surj _) (behind_lt _) (behind_inj _) fullShare f
  unfold H0
  iintro ⟨H, B1, B2, B3⟩
  ihave H := (Entails.of_eq e) $$ H
  icases H with ⟨Q0, Q1, Q2, Q3⟩
  isplitl [Q0]; · iexists f; iexact Q0
  isplitl [Q1 Q2 Q3]
  · isplitl [Q1]; · iexists f; iexact Q1
    isplitl [Q2]; · iexists f; iexact Q2
    iexists f; iexact Q3
  isplitl [B1]; · iexists f; iexact B1
  isplitl [B2]; · iexists f; iexact B2
  iexists f; iexact B3

end In

/-- The scratch buffers, whole, at any contents. -/
def Scr (c : Dev nD) : sProp 𝕄 :=
  iprop((∃ f, pt0 c Finset.univ fullShare f) ∗ (∃ f, pt1 c Finset.univ fullShare f) ∗ (∃ f, pt2 c Finset.univ fullShare f) ∗ (∃ f, pt3 c Finset.univ fullShare f) ∗ ∃ f, pt4 c Finset.univ fullShare f)
/-- The slots not used. -/
def Sp (c : Dev nD) : sProp 𝕄 := iprop((Sp1 c 0 ∗ Sp1 c 1 ∗ Sp1 c 2) ∗ Sp3 c 0 ∗ Sp3 c 1 ∗ Sp3 c 2)

set_option maxRecDepth 8000 in
omit [FloatOps F] in
theorem sep36 (Φ : Ed → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35) :=
  bigSep_univ_eq_bigSepL [(0 : Ed), 1, 2, 3, 4, 5, 6, 7, 8, 9, 10, 11, 12, 13, 14, 15, 16, 17, 18, 19, 20, 21, 22, 23, 24, 25, 26, 27, 28, 29, 30, 31, 32, 33, 34, 35] (by decide) (by decide) Φ

omit [FloatOps F] in
/-- The scratch buffers cut: the planes to fill, the landing places, the slots not used. -/
theorem enter (c : Dev nD) : Scr (F := F) c ⊢ iprop((A0 c 0 ∗ A0 c 1 ∗ A0 c 2) ∗ (S0 c 0 ∗ S0 c 1 ∗ S0 c 2) ∗ (H0 c 0 ∗ H0 c 1 ∗ H0 c 2)
    ∗ (bigSep Finset.univ fun i : Ed => land c i) ∗ Sp c) := by
  unfold Scr
  iintro ⟨⟨%f0, H0⟩, ⟨%f1, H1⟩, ⟨%f2, H2⟩, ⟨%f3, H3⟩, %f4, H4⟩
  ihave H0 := (Entails.of_eq (planes0 c fullShare f0)) $$ H0
  icases H0 with ⟨A0, A1, A2⟩
  ihave H2 := (Entails.of_eq (planes2 c fullShare f2)) $$ H2
  icases H2 with ⟨S0, S1, S2⟩
  ihave H4 := (Entails.of_eq (planes4 c fullShare f4)) $$ H4
  icases H4 with ⟨P0, P1, P2⟩
  ihave H1 := (Entails.of_eq ((slots1 c fullShare f1).trans (sep34 _))) $$ H1
  icases H1 with ⟨T0, T1, T2⟩
  ihave H3 := (Entails.of_eq ((slots3 c fullShare f3).trans (sep34 _))) $$ H3
  icases H3 with ⟨U0, U1, U2⟩
  ihave T0 := (in1 c trio0_0 f1) $$ T0
  icases T0 with ⟨X0, l0, l1, l2⟩
  ihave U0 := (in3 c trio0_1 f3) $$ U0
  icases U0 with ⟨Y0, l3, l4, l5⟩
  ihave P0 := (in4 c trio0_2 trio0_3 f4) $$ P0
  icases P0 with ⟨Z0, ⟨l6, l7, l8⟩, l9, l10, l11⟩
  ihave T1 := (in1 c trio1_0 f1) $$ T1
  icases T1 with ⟨X1, l12, l13, l14⟩
  ihave U1 := (in3 c trio1_1 f3) $$ U1
  icases U1 with ⟨Y1, l15, l16, l17⟩
  ihave P1 := (in4 c trio1_2 trio1_3 f4) $$ P1
  icases P1 with ⟨Z1, ⟨l18, l19, l20⟩, l21, l22, l23⟩
  ihave T2 := (in1 c trio2_0 f1) $$ T2
  icases T2 with ⟨X2, l24, l25, l26⟩
  ihave U2 := (in3 c trio2_1 f3) $$ U2
  icases U2 with ⟨Y2, l27, l28, l29⟩
  ihave P2 := (in4 c trio2_2 trio2_3 f4) $$ P2
  icases P2 with ⟨Z2, ⟨l30, l31, l32⟩, l33, l34, l35⟩
  isplitl [A0 A1 A2]
  · unfold MlpProof.A0
    isplitl [A0]; · iexists f0; iexact A0
    isplitl [A1]; · iexists f0; iexact A1
    iexists f0; iexact A2
  isplitl [S0 S1 S2]
  · unfold MlpProof.S0
    isplitl [S0]; · iexists f2; iexact S0
    isplitl [S1]; · iexists f2; iexact S1
    iexists f2; iexact S2
  isplitl [Z0 Z1 Z2]
  · isplitl [Z0]; · iexact Z0
    isplitl [Z1] <;> iassumption
  isplitl [l0 l1 l2 l3 l4 l5 l6 l7 l8 l9 l10 l11 l12 l13 l14 l15 l16 l17 l18 l19 l20 l21 l22 l23 l24 l25 l26 l27 l28 l29 l30 l31 l32 l33 l34 l35]
  · iapply (Entails.of_eq (sep36 (fun i : Ed => land c i)).symm)
    isplitl [l0]; · iexact l0
    isplitl [l1]; · iexact l1
    isplitl [l2]; · iexact l2
    isplitl [l3]; · iexact l3
    isplitl [l4]; · iexact l4
    isplitl [l5]; · iexact l5
    isplitl [l6]; · iexact l6
    isplitl [l7]; · iexact l7
    isplitl [l8]; · iexact l8
    isplitl [l9]; · iexact l9
    isplitl [l10]; · iexact l10
    isplitl [l11]; · iexact l11
    isplitl [l12]; · iexact l12
    isplitl [l13]; · iexact l13
    isplitl [l14]; · iexact l14
    isplitl [l15]; · iexact l15
    isplitl [l16]; · iexact l16
    isplitl [l17]; · iexact l17
    isplitl [l18]; · iexact l18
    isplitl [l19]; · iexact l19
    isplitl [l20]; · iexact l20
    isplitl [l21]; · iexact l21
    isplitl [l22]; · iexact l22
    isplitl [l23]; · iexact l23
    isplitl [l24]; · iexact l24
    isplitl [l25]; · iexact l25
    isplitl [l26]; · iexact l26
    isplitl [l27]; · iexact l27
    isplitl [l28]; · iexact l28
    isplitl [l29]; · iexact l29
    isplitl [l30]; · iexact l30
    isplitl [l31]; · iexact l31
    isplitl [l32]; · iexact l32
    isplitl [l33]; · iexact l33
    isplitl [l34]; · iexact l34
    iexact l35
  unfold Sp
  isplitl [X0 X1 X2]
  · isplitl [X0]; · iexact X0
    isplitl [X1] <;> iassumption
  isplitl [Y0]; · iexact Y0
  isplitl [Y1] <;> iassumption

/-- The pieces the run ends with, put together. -/
theorem leave (c : Dev nD) :
    iprop((A1 I c 0 ∗ A1 I c 1 ∗ A1 I c 2) ∗ (S1 I c 0 ∗ S1 I c 1 ∗ S1 I c 2)
      ∗ (landed I c 0 ∗ landed I c 1 ∗ landed I c 2 ∗ landed I c 3 ∗ landed I c 4 ∗ landed I c 5 ∗ landed I c 12 ∗ landed I c 13 ∗ landed I c 14 ∗ landed I c 15 ∗ landed I c 16 ∗ landed I c 17 ∗ landed I c 24 ∗ landed I c 25 ∗ landed I c 26 ∗ landed I c 27 ∗ landed I c 28 ∗ landed I c 29)
      ∗ (HP I c 0 ∗ HP I c 1 ∗ HP I c 2) ∗ (HK I c 0 ∗ HK I c 1 ∗ HK I c 2)
      ∗ (bigSep Finset.univ fun i : Ed => srcP I c i) ∗ Sp c) ⊢ Scr (F := F) c := by
  unfold Sp Sp1 Sp3
  iintro ⟨⟨a0, a1, a2⟩, ⟨s0, s1, s2⟩, ⟨l0, l1, l2, l3, l4, l5, l12, l13, l14, l15, l16, l17, l24, l25, l26, l27, l28, l29⟩, ⟨p0, p1, p2⟩, ⟨k0, k1, k2⟩, Hs, ⟨⟨%x0, X0⟩, ⟨%x1, X1⟩, %x2, X2⟩, ⟨%y0, Y0⟩, ⟨%y1, Y1⟩, %y2, Y2⟩
  ihave Hs := (Entails.of_eq (sep36 (fun i : Ed => srcP I c i))) $$ Hs
  icases Hs with ⟨r0, r1, r2, r3, r4, r5, r6, r7, r8, r9, r10, r11, r12, r13, r14, r15, r16, r17, r18, r19, r20, r21, r22, r23, r24, r25, r26, r27, r28, r29, r30, r31, r32, r33, r34, r35⟩
  ihave a0 := (Entails.of_eq (split_A I c trio0_0).symm) $$ [a0 r0 r1 r2]
  · isplitl [a0]; · iexact a0
    isplitl [r0]; · iexact r0
    isplitl [r1] <;> iassumption
  ihave s0 := (Entails.of_eq (split_S I c trio0_1).symm) $$ [s0 r3 r4 r5]
  · isplitl [s0]; · iexact s0
    isplitl [r3]; · iexact r3
    isplitl [r4] <;> iassumption
  ihave p0 := (whole_H I c trio0_2 trio0_3) $$ [p0 k0 r6 r7 r8 r9 r10 r11]
  · isplitl [p0 k0]; · isplitl [p0] <;> iassumption
    isplitl [r6 r7 r8]
    · isplitl [r6]; · iexact r6
      isplitl [r7] <;> iassumption
    isplitl [r9]; · iexact r9
    isplitl [r10] <;> iassumption
  ihave l0 := (Entails.of_eq (landed_0 I c (show ph 0 = 0 from rfl))) $$ l0
  ihave l3 := (Entails.of_eq (landed_1 I c (show ph 3 = 1 from rfl))) $$ l3
  ihave l1 := (Entails.of_eq (landed_0 I c (show ph 1 = 0 from rfl))) $$ l1
  ihave l4 := (Entails.of_eq (landed_1 I c (show ph 4 = 1 from rfl))) $$ l4
  ihave l2 := (Entails.of_eq (landed_0 I c (show ph 2 = 0 from rfl))) $$ l2
  ihave l5 := (Entails.of_eq (landed_1 I c (show ph 5 = 1 from rfl))) $$ l5
  ihave a1 := (Entails.of_eq (split_A I c trio1_0).symm) $$ [a1 r12 r13 r14]
  · isplitl [a1]; · iexact a1
    isplitl [r12]; · iexact r12
    isplitl [r13] <;> iassumption
  ihave s1 := (Entails.of_eq (split_S I c trio1_1).symm) $$ [s1 r15 r16 r17]
  · isplitl [s1]; · iexact s1
    isplitl [r15]; · iexact r15
    isplitl [r16] <;> iassumption
  ihave p1 := (whole_H I c trio1_2 trio1_3) $$ [p1 k1 r18 r19 r20 r21 r22 r23]
  · isplitl [p1 k1]; · isplitl [p1] <;> iassumption
    isplitl [r18 r19 r20]
    · isplitl [r18]; · iexact r18
      isplitl [r19] <;> iassumption
    isplitl [r21]; · iexact r21
    isplitl [r22] <;> iassumption
  ihave l12 := (Entails.of_eq (landed_0 I c (show ph 12 = 0 from rfl))) $$ l12
  ihave l15 := (Entails.of_eq (landed_1 I c (show ph 15 = 1 from rfl))) $$ l15
  ihave l13 := (Entails.of_eq (landed_0 I c (show ph 13 = 0 from rfl))) $$ l13
  ihave l16 := (Entails.of_eq (landed_1 I c (show ph 16 = 1 from rfl))) $$ l16
  ihave l14 := (Entails.of_eq (landed_0 I c (show ph 14 = 0 from rfl))) $$ l14
  ihave l17 := (Entails.of_eq (landed_1 I c (show ph 17 = 1 from rfl))) $$ l17
  ihave a2 := (Entails.of_eq (split_A I c trio2_0).symm) $$ [a2 r24 r25 r26]
  · isplitl [a2]; · iexact a2
    isplitl [r24]; · iexact r24
    isplitl [r25] <;> iassumption
  ihave s2 := (Entails.of_eq (split_S I c trio2_1).symm) $$ [s2 r27 r28 r29]
  · isplitl [s2]; · iexact s2
    isplitl [r27]; · iexact r27
    isplitl [r28] <;> iassumption
  ihave p2 := (whole_H I c trio2_2 trio2_3) $$ [p2 k2 r30 r31 r32 r33 r34 r35]
  · isplitl [p2 k2]; · isplitl [p2] <;> iassumption
    isplitl [r30 r31 r32]
    · isplitl [r30]; · iexact r30
      isplitl [r31] <;> iassumption
    isplitl [r33]; · iexact r33
    isplitl [r34] <;> iassumption
  ihave l24 := (Entails.of_eq (landed_0 I c (show ph 24 = 0 from rfl))) $$ l24
  ihave l27 := (Entails.of_eq (landed_1 I c (show ph 27 = 1 from rfl))) $$ l27
  ihave l25 := (Entails.of_eq (landed_0 I c (show ph 25 = 0 from rfl))) $$ l25
  ihave l28 := (Entails.of_eq (landed_1 I c (show ph 28 = 1 from rfl))) $$ l28
  ihave l26 := (Entails.of_eq (landed_0 I c (show ph 26 = 0 from rfl))) $$ l26
  ihave l29 := (Entails.of_eq (landed_1 I c (show ph 29 = 1 from rfl))) $$ l29
  unfold Scr
  isplitl [a0 a1 a2]
  · iexists (gA I c)
    iapply (Entails.of_eq (planes0 c fullShare (gA I c)).symm)
    isplitl [a0]; · iexact a0
    isplitl [a1] <;> iassumption
  isplitl [X0 l2 l1 l0 X1 l14 l13 l12 X2 l26 l25 l24]
  · iapply (join1 c (fun t => if t.2 = 0 then (if t.1 = 0 then x0 else if t.1 = 1 then x1 else x2) else gR1 I c))
    iapply (Entails.of_eq (sep34 (fun t : Fin 3 × Fin 4 => pt1 c (slot 64 t.1.val t.2.val) fullShare (if t.2 = 0 then (if t.1 = 0 then x0 else if t.1 = 1 then x1 else x2) else gR1 I c))).symm)
    isplitl [X0 l2 l1 l0]
    · isplitl [X0]; · iexact X0
      isplitl [l2]; · iexact l2
      isplitl [l1]; · iexact l1
      iexact l0
    isplitl [X1 l14 l13 l12]
    · isplitl [X1]; · iexact X1
      isplitl [l14]; · iexact l14
      isplitl [l13]; · iexact l13
      iexact l12
    isplitl [X2]; · iexact X2
    isplitl [l26]; · iexact l26
    isplitl [l25]; · iexact l25
    iexact l24
  isplitl [s0 s1 s2]
  · iexists (gS I c)
    iapply (Entails.of_eq (planes2 c fullShare (gS I c)).symm)
    isplitl [s0]; · iexact s0
    isplitl [s1] <;> iassumption
  isplitl [Y0 l5 l4 l3 Y1 l17 l16 l15 Y2 l29 l28 l27]
  · iapply (join3 c (fun t => if t.2 = 0 then (if t.1 = 0 then y0 else if t.1 = 1 then y1 else y2) else gR2 I c))
    iapply (Entails.of_eq (sep34 (fun t : Fin 3 × Fin 4 => pt3 c (slot 16 t.1.val t.2.val) fullShare (if t.2 = 0 then (if t.1 = 0 then y0 else if t.1 = 1 then y1 else y2) else gR2 I c))).symm)
    isplitl [Y0 l5 l4 l3]
    · isplitl [Y0]; · iexact Y0
      isplitl [l5]; · iexact l5
      isplitl [l4]; · iexact l4
      iexact l3
    isplitl [Y1 l17 l16 l15]
    · isplitl [Y1]; · iexact Y1
      isplitl [l17]; · iexact l17
      isplitl [l16]; · iexact l16
      iexact l15
    isplitl [Y2]; · iexact Y2
    isplitl [l29]; · iexact l29
    isplitl [l28]; · iexact l28
    iexact l27
  iexists (gH I)
  iapply (Entails.of_eq (planes4 c fullShare (gH I)).symm)
  isplitl [p0]; · iexact p0
  isplitl [p1] <;> iassumption

end Cert.MlpProof

end
-- ==== Proof.Cells.lean ====
/- The semaphores sorted by use, the tokens dealt to those who pay, and the credit each device starts with. -/
module

public import proofs.«01_k».proof.Proof.Sched

@[expose] public section

noncomputable section

namespace Cert.MlpProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_range)
open Idealize.ShloMosaic.Pipeline (Dat Cfg Window BodyObligation cellOf)

variable {F : FTy → Type} [FloatOps F]

local notation "𝕄" => MT nD τ sig Unit (Elt F) ℕ UU ℕ

variable (I : Inp F)

/-! ## The semaphores sorted by use -/

/-- The `d`-th semaphore of the copies that no copy uses. -/
def deadSem (d : Fin 24) : DmaSem sig := ⟨8 + 4 * d.val, by show _ < 104; omega⟩
theorem isLive_dead (d : Fin 24) : isLive (deadSem d) = false := by revert d; decide

abbrev Kind : Type := Unit ⊕ (Ed ⊕ (Ed ⊕ Fin 24))
def semOf : Kind → SemLoc sig
  | .inl _ => readyS
  | .inr (.inl i) => .dma (sendSem i)
  | .inr (.inr (.inl i)) => .dma (recvSem i)
  | .inr (.inr (.inr d)) => .dma (deadSem d)
def kidx : Kind → Fin 97
  | .inl _ => 0
  | .inr (.inl i) => ⟨1 + 24 * ph i + 4 * (i.val / 12) + (3 - i.val % 3), by have := i.isLt; unfold ph; omega⟩
  | .inr (.inr (.inl i)) => ⟨13 + 24 * ph i + 4 * (i.val / 12) + (3 - i.val % 3), by have := i.isLt; unfold ph; omega⟩
  | .inr (.inr (.inr d)) => ⟨1 + 4 * d.val, by omega⟩
def kinv (k : Fin 97) : Kind :=
  if k.val = 0 then .inl ()
  else if h : k.val % 4 = 1 then .inr (.inr (.inr ⟨(k.val - 1) / 4, by omega⟩))
  else if isRecv ⟨k.val + 7, by show _ < 104; omega⟩ then .inr (.inr (.inl (edgeOf ⟨k.val + 7, by show _ < 104; omega⟩)))
  else .inr (.inl (edgeOf ⟨k.val + 7, by show _ < 104; omega⟩))
def kE : Kind ≃ Fin 97 where
  toFun := kidx
  invFun := kinv
  left_inv := by
    rintro (_ | i | i | d)
    · rfl
    · revert i; decide +kernel
    · revert i; decide +kernel
    · revert d; decide +kernel
  right_inv := by intro k; revert k; decide +kernel
theorem osem_kidx (x : Kind) : osem (kidx x) = semOf x := by
  rcases x with _ | i | i | d
  · rfl
  · revert i; decide +kernel
  · revert i; decide +kernel
  · revert d; decide +kernel

omit [FloatOps F] in
theorem cells97 (Φ : SemLoc sig → sProp 𝕄) : (bigSep Finset.univ fun k : Fin 97 => Φ (osem k))
    = iprop(Φ readyS ∗ (bigSep Finset.univ fun i : Ed => Φ (.dma (sendSem i))) ∗ (bigSep Finset.univ fun i : Ed => Φ (.dma (recvSem i)))
        ∗ bigSep Finset.univ fun d : Fin 24 => Φ (.dma (deadSem d))) := by
  refine ((bigSep_univ_equiv kE _).trans (bigSep_congr (s := Finset.univ) (Ψ := fun x : Kind => Φ (semOf x)) fun x _ => congrArg Φ (osem_kidx x))).trans ?_
  rw [bigSep_univ_sum, bigSep_univ_sum, bigSep_univ_sum, bigSep_univ_of_subsingleton ()]
  rfl

theorem osem_inj : Function.Injective osem := by
  intro k k' h
  by_cases h0 : k.val = 0 <;> by_cases h1 : k'.val = 0
  · exact Fin.ext (h0.trans h1.symm)
  · simp only [osem, if_pos h0, if_neg h1] at h; cases h
  · simp only [osem, if_neg h0, if_pos h1] at h; cases h
  · simp only [osem, if_neg h0, if_neg h1] at h
    have h2 := congrArg (fun s : SemLoc sig => match s with | .reg _ => 0 | .dma q => q.val) h
    dsimp only at h2
    exact Fin.ext (by omega)
theorem kcell_injective : Function.Injective (kcell : Dev nD × Fin 97 → GSem nD τ sig) := by
  rintro ⟨c, k⟩ ⟨c', k'⟩ h
  have h1 : c = c' := by have := congrArg (fun g : GSem nD τ sig => g.1.1) h; exact this
  subst h1
  have h2 : osem k = osem k' := congrArg Prod.snd h
  rw [osem_inj h2]

/-! ## The cells and the tokens at the start -/

abbrev TI : Type := Dev nD × (Du ⊕ (Ed ⊕ Ed))
def tokOf : TI → GSem nD τ sig × ℕ × Du
  | (c, .inl s) => (readyCell c, 0, s)
  | (c, .inr (.inl i)) => (sendCell c i, 0, 0)
  | (c, .inr (.inr i)) => (recvCell c i, 0, 0)
theorem tokOf_inj : Function.Injective tokOf := by
  rintro ⟨c, x⟩ ⟨c', y⟩ h
  have h1 : c = c' := by
    have := congrArg (fun g : GSem nD τ sig × ℕ × Du => g.1.1.1) h
    rcases x with s | i | i <;> rcases y with s' | j | j <;> exact this
  subst h1
  have h2 := congrArg (fun g : GSem nD τ sig × ℕ × Du => g.1.2) h
  have h3 := congrArg (fun g : GSem nD τ sig × ℕ × Du => g.2.2) h
  have key : ∀ q q' : DmaSem sig, (SemLoc.dma q : SemLoc sig) = .dma q' → q = q' := fun q q' e => by injection e
  rcases x with s | i | i <;> rcases y with s' | j | j <;> simp only [tokOf] at h2 h3
  · rw [h3]
  · cases h2
  · cases h2
  · cases h2
  · have := key _ _ h2; have := congrArg edgeOf this; rw [edgeOf_send, edgeOf_send] at this; rw [this]
  · have := key _ _ h2; have := congrArg isRecv this; rw [isRecv_send, isRecv_recv] at this; cases this
  · cases h2
  · have := key _ _ h2; have := congrArg isRecv this; rw [isRecv_send, isRecv_recv] at this; cases this
  · have := key _ _ h2; have := congrArg edgeOf this; rw [edgeOf_recv, edgeOf_recv] at this; rw [this]

def ownCells : Finset (GSem nD τ sig) := Finset.univ.map ⟨kcell, kcell_injective⟩
def ownToks : Finset (GSem nD τ sig × ℕ × Du) := Finset.univ.map ⟨tokOf, tokOf_inj⟩

def u₀ : UU := (initOf (Pipeline.cells cfgs cellOf_inj) (Pipeline.launchToks cfgs cellOf_inj), initOf ownCells ownToks)

/-- The tokens of a device's own cells. -/
def toks (c : Dev nD) : sProp 𝕄 :=
  iprop((bigSep Finset.univ fun s : Du => dutyTok ER (readyCell c) 0 s)
    ∗ (bigSep Finset.univ fun i : Ed => dutyTok ER (sendCell c i) 0 (0 : Du)) ∗ bigSep Finset.univ fun i : Ed => dutyTok ER (recvCell c i) 0 (0 : Du))
/-- The tokens of what a device pays. -/
def payToks (c : Dev nD) : sProp 𝕄 :=
  iprop((bigSep Finset.univ fun s : Du => dutyTok ER (readyCell (tgt c s)) 0 s)
    ∗ (bigSep Finset.univ fun i : Ed => dutyTok ER (sendCell c i) 0 (0 : Du)) ∗ bigSep Finset.univ fun i : Ed => dutyTok ER (recvCell (dst c i) i) 0 (0 : Du))

omit [FloatOps F] in
theorem deal {J : Type} [Fintype J] (e : J → Dev nD ≃ Dev nD) (Φ : Dev nD → J → sProp 𝕄) :
    (bigSep Finset.univ fun c : Dev nD => bigSep Finset.univ fun j : J => Φ c j) = bigSep Finset.univ fun c : Dev nD => bigSep Finset.univ fun j : J => Φ (e j c) j := by
  rw [← bigSep_univ_prod (fun x : Dev nD × J => Φ x.1 x.2), ← bigSep_univ_prod (fun x : Dev nD × J => Φ (e x.2 x.1) x.2)]
  exact bigSep_univ_equiv (α := Dev nD × J) ⟨fun x => (e x.2 x.1, x.2), fun x => ((e x.2).symm x.1, x.2), fun x => by simp, fun x => by simp⟩ _

def tgtE (s : Du) : Dev nD ≃ Dev nD := ⟨fun c => tgt c s, fun c => tgtInv c s, fun c => tgtInv_tgt c s, fun c => tgt_tgtInv c s⟩
def dstE (i : Ed) : Dev nD ≃ Dev nD := ⟨fun c => dst c i, fun c => src c i, fun c => src_dst c i, fun c => dst_src c i⟩

omit [FloatOps F] in
theorem toks_around : (bigSep Finset.univ fun c : Dev nD => (toks c : sProp 𝕄)) = bigSep Finset.univ fun c : Dev nD => payToks c := by
  unfold toks payToks
  rw [bigSep_sep', bigSep_sep', bigSep_sep', bigSep_sep', deal tgtE (fun c s => (dutyTok ER (readyCell c) 0 s : sProp 𝕄)),
    deal dstE (fun c i => (dutyTok ER (recvCell c i) 0 (0 : Du) : sProp 𝕄))]
  rfl

def G (c : Dev nD) : sProp 𝕄 :=
  iprop((bigSep Finset.univ fun k : Fin 97 => roundState ER (sched I) (kcell (c, k)) 0)
    ∗ (bigSep Finset.univ fun k : Fin 97 => iprop(atPos ER (kcell (c, k)) 0 (∅ : Finset Du) 0 ∗ reached ER (kcell (c, k)) 0)) ∗ toks c)

theorem fund_own : BI.own (ER (initOf ownCells ownToks)) ⊢ (|==> bigSep Finset.univ (G I) : sProp 𝕄) := by
  have hX (Φ : GSem nD τ sig → sProp 𝕄) : bigSep ownCells Φ = bigSep Finset.univ fun c : Dev nD => bigSep Finset.univ fun k : Fin 97 => Φ (kcell (c, k)) := by
    unfold ownCells; rw [bigSep_map, bigSep_univ_prod]; rfl
  have hT : bigSep ownToks (fun x => (dutyTok ER x.1 x.2.1 x.2.2 : sProp 𝕄)) = bigSep Finset.univ fun c : Dev nD => toks c := by
    unfold ownToks; rw [bigSep_map, bigSep_univ_prod]
    refine bigSep_congr fun c _ => ?_
    rw [bigSep_univ_sum, bigSep_univ_sum]; rfl
  iintro HX
  imod (Rounds.fund ER (sched I) ownCells ownToks) $$ HX with ⟨Hst, Hr, Hat, Htok⟩
  imodintro
  ihave Hst' := (Entails.of_eq (hX fun g => roundState ER (sched I) g 0)) $$ Hst
  ihave Hat' := (Entails.of_eq (hX fun g => atPos ER g 0 (∅ : Finset Du) 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun k : Fin 97 => semVal (kcell (c, k)) 0 := rfl

theorem core_alloc (c : Dev nD) :
    iprop(Pipeline.ownSems0 (Ix := Unit) (Name := ℕ) (U := UU) (Lvl := ℕ) (Val := Elt F) (τ := τ) osem c ∗ G I c)
      ⊢ |={Set.univ}=> iprop((bigSep Finset.univ fun k => cinv I (kcell (c, k)))
          ∗ (bigSep Finset.univ fun k => iprop(atPos ER (kcell (c, k)) 0 (∅ : Finset Du) 0 ∗ reached ER (kcell (c, k)) 0)) ∗ toks c) := by
  unfold G
  rw [ownSems0_eq]
  iintro ⟨Hv, Hst, Hat, Htok⟩
  imod (show iprop((bigSep Finset.univ fun k : Fin 97 => semVal (kcell (c, k)) 0) ∗ bigSep Finset.univ fun k : Fin 97 => roundState ER (sched I) (kcell (c, k)) 0)
      ⊢ (|={Set.univ}=> bigSep Finset.univ fun k => cinv I (kcell (c, k)) : sProp 𝕄) from by
        unfold cinv
        rw [← bigSep_sep']
        exact (bigSep_mono fun k _ => (Rounds.body_intro ER (sched I) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The records but for the levels. -/
def recs2 : sProp 𝕄 := iprop((bigSep Finset.univ fun ck : Dev nD × Fin 97 => cinv I (kcell ck)) ∗ bigSep Finset.univ fun ck : Dev nD × Fin 97 => reached ER (kcell ck) 0)
instance recs2_persistent : BI.Persistent (recs2 I) := by unfold recs2; infer_instance

def linear (c : Dev nD) : sProp 𝕄 := iprop((bigSep Finset.univ fun k : Fin 97 => atPos ER (kcell (c, k)) 0 (∅ : Finset Du) 0) ∗ payToks c)
def G' (c : Dev nD) : sProp 𝕄 := iprop(recs2 I ∗ linear c)

theorem regroup :
    (bigSep Finset.univ fun c : Dev nD => iprop((bigSep Finset.univ fun k => cinv I (kcell (c, k)))
          ∗ (bigSep Finset.univ fun k => iprop(atPos ER (kcell (c, k)) 0 (∅ : Finset Du) 0 ∗ reached ER (kcell (c, k)) 0)) ∗ toks c) : sProp 𝕄)
      ⊢ bigSep Finset.univ (G' I) := by
  rw [bigSep_sep', bigSep_sep', ← bigSep_univ_prod (fun ck : Dev nD × Fin 97 => cinv I (kcell ck)),
    bigSep_congr (s := Finset.univ) (fun (c : Dev nD) _ => bigSep_sep' Finset.univ (fun k : Fin 97 => (atPos ER (kcell (c, k)) 0 (∅ : Finset Du) 0 : sProp 𝕄)) (fun k => reached ER (kcell (c, k)) 0)),
    bigSep_sep', ← bigSep_univ_prod (fun ck : Dev nD × Fin 97 => (reached ER (kcell ck) 0 : sProp 𝕄)), toks_around]
  iintro ⟨#HI, ⟨Hat, #HR⟩, Htok⟩
  unfold G'
  iapply ((sep_mono_left (BI.bigSep_of_persistent Finset.univ (recs2 I))).trans (Entails.of_eq (bigSep_sep' (Finset.univ : Finset (Dev nD)) (fun _ => recs2 I) linear).symm))
  isplitr
  · unfold recs2; isplitl; · iexact HI
    iexact HR
  · unfold linear
    iapply (Entails.of_eq (bigSep_sep' Finset.univ (fun c : Dev nD => (bigSep Finset.univ fun k : Fin 97 => atPos ER (kcell (c, k)) 0 (∅ : Finset Du) 0 : sProp 𝕄)) payToks).symm)
    isplitl [Hat]; · iexact Hat
    iexact Htok

theorem glob : (bigSep Finset.univ fun c => iprop(Pipeline.ownSems0 (Ix := Unit) (Name := ℕ) (U := UU) (Lvl := ℕ) (Val := Elt F) (τ := τ) osem c ∗ G I c) : sProp 𝕄)
    ⊢ |={Set.univ}=> bigSep Finset.univ (G' I) :=
  ((bigSep_mono fun c _ => core_alloc I c).trans (bigSep_fupd _ _)).trans (BI.fupd_mono (regroup I))

/-! ## The launch credit -/

theorem cell_eq {a b : Dev nD} {s t : SemLoc sig} (h : (((a : Thread nD τ), s) : GSem nD τ sig) = ((b : Thread nD τ), t)) : a = b ∧ s = t :=
  ⟨congrArg (fun g : GSem nD τ sig => g.1.1) h, congrArg Prod.snd h⟩

theorem owed_ready (d c : Dev nD) : O₀ d (readyCell c) () = ∑ s : Du, if d = tgtInv c s then 1 else 0 := by
  have h0 : owedE d 0 (readyCell c) () = 0 := by
    by_contra h
    obtain ⟨i, -, hi⟩ := owedE_pos (Nat.pos_of_ne_zero h)
    have := (cell_eq hi).2; cases this
  unfold O₀
  rw [Pi.add_apply, Finsupp.add_apply, h0, Nat.zero_add]
  unfold owedR
  rw [show (Finset.univ.filter fun s : Du => 0 ≤ s.val) = Finset.univ by decide, Finset.sum_apply, Finsupp.finset_sum_apply]
  refine Finset.sum_congr rfl fun s _ => ?_
  rw [tallyAt_apply]
  by_cases h : d = tgtInv c s
  · rw [if_pos h, if_pos ⟨by rw [h, tgt_tgtInv], rfl⟩]
  · rw [if_neg h, if_neg fun hh => h (by rw [(cell_eq hh.1).1, tgtInv_tgt])]
theorem owed_recv (d c : Dev nD) (i : Ed) : O₀ d (recvCell c i) () = if d = src c i then amt i else 0 := by
  have h0 : owedR d 0 (recvCell c i) () = 0 := by
    by_contra h
    obtain ⟨s, hs⟩ := owedR_pos (Nat.pos_of_ne_zero h)
    have := (cell_eq hs).2; cases this
  unfold O₀
  rw [Pi.add_apply, Finsupp.add_apply, h0, Nat.add_zero]
  unfold owedE
  rw [ge_zero, Finset.sum_apply, Finsupp.finset_sum_apply, Finset.sum_eq_single i]
  · rw [tallyAt_apply]
    by_cases h : d = src c i
    · rw [if_pos h, if_pos ⟨by rw [h, dst_src], rfl⟩]
    · rw [if_neg h, if_neg fun hh => h (by rw [(cell_eq hh.1).1, src_dst])]
  · intro j _ hj
    rw [tallyAt_apply]
    refine if_neg fun hh => hj ?_
    have h1 := (cell_eq hh.1).2
    have h2 : recvSem i = recvSem j := by injection h1
    have := congrArg edgeOf h2
    rw [edgeOf_recv, edgeOf_recv] at this; exact this.symm
  · intro h; exact absurd (Finset.mem_univ i) h

theorem launch_ready (c : Dev nD) :
    tallyOn (readyCell c) (launchCredit (Pipeline.owing O₀) 0 (readyCell c)) = (tallyAt (readyCell c) () 6 : CellTallies nD τ sig Unit) := by
  unfold tallyAt; refine congrArg _ (Finsupp.ext fun u => ?_); cases u
  rw [Pipeline.launchCredit_owing, Finsupp.single_eq_same, Finset.sum_congr rfl fun d _ => owed_ready d c, Finset.sum_comm,
    Finset.sum_congr rfl fun s _ => (Finset.sum_ite_eq' Finset.univ (tgtInv c s) fun _ => 1).trans (if_pos (Finset.mem_univ _))]
  rfl
theorem launch_recv (c : Dev nD) (i : Ed) :
    tallyOn (recvCell c i) (launchCredit (Pipeline.owing O₀) 0 (recvCell c i)) = (tallyAt (recvCell c i) () (amt i) : CellTallies nD τ sig Unit) := by
  unfold tallyAt; refine congrArg _ (Finsupp.ext fun u => ?_); cases u
  rw [Pipeline.launchCredit_owing, Finsupp.single_eq_same, Finset.sum_congr rfl fun d _ => owed_recv d c i, Finset.sum_ite_eq' Finset.univ (src c i) fun _ => amt i,
    if_pos (Finset.mem_univ _)]

omit [FloatOps F] in
theorem creds (c : Dev nD) : (Pipeline.launchCred O₀ c : sProp 𝕄)
    ⊢ iprop(cred (tallyAt (readyCell c) () 6) ∗ bigSep Finset.univ fun i : Ed => cred (tallyAt (recvCell c i) () (amt i))) := by
  unfold Pipeline.launchCred
  refine (bigSep_subset (Finset.subset_univ (Finset.univ.map ⟨osem, osem_inj⟩))).trans ?_
  rw [bigSep_map]
  refine (Entails.of_eq (cells97 (fun sm => cred (tallyOn ((c : Thread nD τ), sm) (launchCredit (Pipeline.owing O₀) 0 ((c : Thread nD τ), sm)))))).trans ?_
  rw [launch_ready, bigSep_congr (s := Finset.univ) (fun (i : Ed) _ => congrArg (fun t => (cred t : sProp 𝕄)) (launch_recv c i))]
  iintro ⟨H1, -, H2, -⟩
  isplitl [H1] <;> iassumption

end Cert.MlpProof

end
-- ==== Proof.Run.lean ====
/- The run of the whole program: the launch, the body at each device, and what every execution ends with. -/
module

public import proofs.«01_k».proof.Proof.Ends
public import proofs.«01_k».proof.Proof.Cells

@[expose] public section

noncomputable section

namespace Cert.MlpProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_range)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

omit [FloatOps F] in
/-- The arguments as the memory holds them. -/
def inp : Inp F where
  x c := m ((c : Thread nD τ).loc main_arg0)
  wi l c := match l with
    | 0 => m ((c : Thread nD τ).loc main_arg1)
    | 1 => m ((c : Thread nD τ).loc main_arg2)
    | 2 => m ((c : Thread nD τ).loc main_arg3)
  wo l c := match l with
    | 0 => m ((c : Thread nD τ).loc main_arg4)
    | 1 => m ((c : Thread nD τ).loc main_arg5)
    | 2 => m ((c : Thread nD τ).loc main_arg6)

theorem cfg0_N : cfg0.N = 1 := by decide
def t₀ : Fin cfg0.N := ⟨0, by rw [cfg0_N]; decide⟩
theorem fin_N (t : Fin cfg0.N) : t = t₀ := by obtain ⟨t, ht⟩ := t; have := cfg0_N; exact Fin.ext (by simp only [t₀]; omega)

/-- What a device starts with. -/
def start (c : Dev nD) : sProp 𝕄 :=
  iprop(recs (inp m) ∗ linear c ∗ cred (tallyAt (readyCell c) () 6) ∗ bigSep Finset.univ fun i : Ed => cred (tallyAt (recvCell c i) () (amt i)))
def Φ₀ (c : Dev nD) : sProp 𝕄 := iprop(start m c ∗ Scr c)
/-- What it ends with. -/
def Φ₁ (c : Dev nD) : sProp 𝕄 := iprop(Scr (F := F) c ∗ bigSep Finset.univ fun k : Fin 97 => semVal (kcell (c, k)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inp m).x c
    | ⟨1, _⟩ => (inp m).wi 0 c
    | ⟨2, _⟩ => (inp m).wo 0 c
    | ⟨3, _⟩ => (inp m).wi 1 c
    | ⟨4, _⟩ => (inp m).wo 1 c
    | ⟨5, _⟩ => (inp m).wi 2 c
    | ⟨6, _⟩ => (inp m).wo 2 c
    | ⟨7, _⟩ => outV (inp m) c
    | ⟨_ + 8, h⟩ => absurd h (Nat.not_lt.2 (Nat.le_add_left _ _))
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]
abbrev hold (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem before0 (c : Dev nD) (d) : (dats m ρ 0 c).before (0 : Fin 8) t₀ d = (inp m).x c := by
  have hz : (fun a => (win0_0.index t₀) a * main_arg0.ty.shape.size a) = fun _ => 0 := funext fun a => by fin_cases a <;> decide
  have hr := fun f => Memref.read_access_unit_zero (Elt F) main_arg0 hz (fun a => by fin_cases a <;> decide) f
  unfold Dat.before
  rw [if_pos (show (cfg0.win (0 : Fin 8)).fetch t₀ = true from rfl)]
  exact hr _

theorem before1 (c : Dev nD) (d) : (dats m ρ 0 c).before (1 : Fin 8) t₀ d = (inp m).wi 0 c := by
  have hz : (fun a => (win0_1.index t₀) a * main_arg1.ty.shape.size a) = fun _ => 0 := funext fun a => by fin_cases a <;> decide
  have hr := fun f => Memref.read_access_unit_zero (Elt F) main_arg1 hz (fun a => by fin_cases a <;> decide) f
  unfold Dat.before
  rw [if_pos (show (cfg0.win (1 : Fin 8)).fetch t₀ = true from rfl)]
  exact hr _

theorem before2 (c : Dev nD) (d) : (dats m ρ 0 c).before (2 : Fin 8) t₀ d = (inp m).wo 0 c := by
  have hz : (fun a => (win0_2.index t₀) a * main_arg4.ty.shape.size a) = fun _ => 0 := funext fun a => by fin_cases a <;> decide
  have hr := fun f => Memref.read_access_unit_zero (Elt F) main_arg4 hz (fun a => by fin_cases a <;> decide) f
  unfold Dat.before
  rw [if_pos (show (cfg0.win (2 : Fin 8)).fetch t₀ = true from rfl)]
  exact hr _

theorem before3 (c : Dev nD) (d) : (dats m ρ 0 c).before (3 : Fin 8) t₀ d = (inp m).wi 1 c := by
  have hz : (fun a => (win0_3.index t₀) a * main_arg2.ty.shape.size a) = fun _ => 0 := funext fun a => by fin_cases a <;> decide
  have hr := fun f => Memref.read_access_unit_zero (Elt F) main_arg2 hz (fun a => by fin_cases a <;> decide) f
  unfold Dat.before
  rw [if_pos (show (cfg0.win (3 : Fin 8)).fetch t₀ = true from rfl)]
  exact hr _

theorem before4 (c : Dev nD) (d) : (dats m ρ 0 c).before (4 : Fin 8) t₀ d = (inp m).wo 1 c := by
  have hz : (fun a => (win0_4.index t₀) a * main_arg5.ty.shape.size a) = fun _ => 0 := funext fun a => by fin_cases a <;> decide
  have hr := fun f => Memref.read_access_unit_zero (Elt F) main_arg5 hz (fun a => by fin_cases a <;> decide) f
  unfold Dat.before
  rw [if_pos (show (cfg0.win (4 : Fin 8)).fetch t₀ = true from rfl)]
  exact hr _

theorem before5 (c : Dev nD) (d) : (dats m ρ 0 c).before (5 : Fin 8) t₀ d = (inp m).wi 2 c := by
  have hz : (fun a => (win0_5.index t₀) a * main_arg3.ty.shape.size a) = fun _ => 0 := funext fun a => by fin_cases a <;> decide
  have hr := fun f => Memref.read_access_unit_zero (Elt F) main_arg3 hz (fun a => by fin_cases a <;> decide) f
  unfold Dat.before
  rw [if_pos (show (cfg0.win (5 : Fin 8)).fetch t₀ = true from rfl)]
  exact hr _

theorem before6 (c : Dev nD) (d) : (dats m ρ 0 c).before (6 : Fin 8) t₀ d = (inp m).wo 2 c := by
  have hz : (fun a => (win0_6.index t₀) a * main_arg6.ty.shape.size a) = fun _ => 0 := funext fun a => by fin_cases a <;> decide
  have hr := fun f => Memref.read_access_unit_zero (Elt F) main_arg6 hz (fun a => by fin_cases a <;> decide) f
  unfold Dat.before
  rw [if_pos (show (cfg0.win (6 : Fin 8)).fetch t₀ = true from rfl)]
  exact hr _

/-! ## Closing the cells -/

theorem close (c : Dev nD) :
    iprop(recs (inp m) ∗ semVal (readyCell c) 0 ∗ (bigSep Finset.univ fun i : Ed => semVal (sendCell c i) 0) ∗ (bigSep Finset.univ fun i : Ed => semVal (recvCell c i) 0)
      ∗ bigSep Finset.univ fun d : Fin 24 => atPos ER ((c : Thread nD τ), .dma (deadSem d)) 0 (∅ : Finset Du) 0)
      ⊢ |={Set.univ}=> bigSep Finset.univ fun k : Fin 97 => semVal (kcell (c, k)) 0 := by
  have hd : ∀ d : Fin 24, iprop(recs (inp m) ∗ atPos ER ((c : Thread nD τ), .dma (deadSem d)) 0 (∅ : Finset Du) 0)
      ⊢ (|={Set.univ}=> semVal ((c : Thread nD τ), .dma (deadSem d)) 0 : sProp 𝕄) := fun d => by
    have h := recs_cell (inp m) c (kidx (.inr (.inr (.inr d))))
    unfold kcell at h; dsimp only at h; rw [osem_kidx] at h
    iintro ⟨#Hr, Hat⟩
    ihave #H := h $$ Hr
    unfold cinv
    icases H with ⟨⟨%κ, #HI⟩, -⟩
    imod (Rounds.cell_close ER (sched (inp m)) (Set.mem_univ κ) (fun h => h) (R := 0) (duties_dead (inp m) c (deadSem d) (isLive_dead d))) $$ [Hat] with Hz
    · isplitr; · iexact HI
      iexact Hat
    imodintro; iexact Hz
  iintro ⟨#Hr, H1, H2, H3, H4⟩
  imod (show iprop(recs (inp m) ∗ bigSep Finset.univ fun d : Fin 24 => atPos ER ((c : Thread nD τ), .dma (deadSem d)) 0 (∅ : Finset Du) 0)
      ⊢ (|={Set.univ}=> bigSep Finset.univ fun d : Fin 24 => semVal ((c : Thread nD τ), .dma (deadSem d)) 0 : sProp 𝕄) from
        ((sep_mono_left (BI.bigSep_of_persistent Finset.univ (recs (inp m)))).trans
          ((Entails.of_eq (bigSep_sep' _ _ _).symm).trans (bigSep_mono fun d _ => hd d))).trans (bigSep_fupd _ _)) $$ [H4] with H4
  · isplitr; · iexact Hr
    iexact H4
  imodintro
  iapply (Entails.of_eq (cells97 (fun sm => (semVal ((c : Thread nD τ), sm) 0 : sProp 𝕄))).symm)
  isplitl [H1]; · iexact H1
  isplitl [H2]; · iexact H2
  isplitl [H3]; · iexact H3
  iexact H4

/-! ## The body at a device -/

/-- The landing places, sorted by the signal that hands them over. -/
theorem lands_sorted (c : Dev nD) : (bigSep Finset.univ fun i : Ed => (land c i : sProp 𝕄))
    = bigSep Finset.univ fun s : Du => bigSep (Finset.univ.filter fun i : Ed => dutyOf i = s) fun i => land c i := by
  have e : (Finset.univ.biUnion fun s : Du => Finset.univ.filter fun i : Ed => dutyOf i = s) = Finset.univ := by ext i; simp
  rw [← e]
  refine bigSep_biUnion_eq _ _ _ ?_
  intro s _ s' _ h
  rw [Finset.disjoint_left]; intro i h1 h2
  exact h ((Finset.mem_filter.mp h1).2.symm.trans (Finset.mem_filter.mp h2).2)

def rvE : Ed ≃ Ed := ⟨rv, rv, rv_rv, rv_rv⟩

theorem pre_intro (c : Dev nD) (W : Waits sig Unit) :
    iprop(start m c ∗ owes (c : Thread nD τ) (O₀ c) W ∗ bigSep Finset.univ fun i : Ed => land c i)
      ⊢ iprop(Pre (inp m) c 0 ∗ (bigSep Finset.univ fun i : Ed => atPos ER (sendCell c i) 0 (∅ : Finset Du) 0)
          ∗ recs (inp m) ∗ bigSep Finset.univ fun d : Fin 24 => atPos ER ((c : Thread nD τ), .dma (deadSem d)) 0 (∅ : Finset Du) 0) := by
  unfold start linear payToks Pre Rcv
  rw [ge_zero, lt_zero, bigSep_empty, show (Finset.univ.filter fun t : Du => 0 ≤ t.val) = Finset.univ by decide]
  iintro ⟨⟨#Hr, ⟨Hat, Ht1, Ht2, Ht3⟩, Hc1, Hc2⟩, HO, Hl⟩
  ihave Hat := (Entails.of_eq (cells97 (fun sm => (atPos ER ((c : Thread nD τ), sm) 0 (∅ : Finset Du) 0 : sProp 𝕄)))) $$ Hat
  icases Hat with ⟨Ha1, Ha2, Ha3, Ha4⟩
  ihave Hl := (Entails.of_eq (lands_sorted c)) $$ Hl
  isplitl [Ht1 Ht2 Ht3 Hc1 Hc2 HO Hl Ha1 Ha3]
  · isplitr; · iexact Hr
    isplitl [HO]; · iexists W; iexact HO
    isplitl [Ht1 Hl]
    · iapply (Entails.of_eq (bigSep_sep' _ _ _).symm)
      isplitl [Ht1] <;> iassumption
    isplitl [Ht2 Ht3]
    · iapply (Entails.of_eq (bigSep_sep' _ _ _).symm)
      isplitl [Ht2] <;> iassumption
    isplitl [Hc2 Ha3]
    · isplitl
      · iapply (Entails.of_eq (bigSep_univ_equiv rvE (fun i : Ed => iprop(cred (tallyAt (recvCell c i) () (amt i)) ∗ (atPos ER (recvCell c i) 0 (∅ : Finset Du) 0 : sProp 𝕄)))))
        iapply (Entails.of_eq (bigSep_sep' _ _ _).symm)
        isplitl [Hc2] <;> iassumption
      · iempintro
    isplitl [Hc1] <;> iassumption
  isplitl [Ha2]; · iexact Ha2
  isplitr; · iexact Hr
  iexact Ha4

def bodyPre (c : Dev nD) : sProp 𝕄 :=
  iprop(Φ₀ m c ∗ (dats m ρ 0 c).owesAt () t₀.castSucc
    ∗ (∃ d, hold c cc0_stg0_0 ((dats m ρ 0 c).before (0 : Fin 8) t₀ d))
    ∗ (∃ d, hold c cc0_stg1_0 ((dats m ρ 0 c).before (1 : Fin 8) t₀ d))
    ∗ (∃ d, hold c cc0_stg2_0 ((dats m ρ 0 c).before (2 : Fin 8) t₀ d))
    ∗ (∃ d, hold c cc0_stg3_0 ((dats m ρ 0 c).before (3 : Fin 8) t₀ d))
    ∗ (∃ d, hold c cc0_stg4_0 ((dats m ρ 0 c).before (4 : Fin 8) t₀ d))
    ∗ (∃ d, hold c cc0_stg5_0 ((dats m ρ 0 c).before (5 : Fin 8) t₀ d))
    ∗ (∃ d, hold c cc0_stg6_0 ((dats m ρ 0 c).before (6 : Fin 8) t₀ d))
    ∗ (∃ d, hold c cc0_stg7_0 ((dats m ρ 0 c).before (7 : Fin 8) t₀ d)))
def bodyPost (c : Dev nD) : sProp 𝕄 :=
  iprop(Φ₁ (F := F) c ∗ (dats m ρ 0 c).owesAt () t₀.succ
    ∗ hold c cc0_stg0_0 ((inp m).x c)
    ∗ hold c cc0_stg1_0 ((inp m).wi 0 c)
    ∗ hold c cc0_stg2_0 ((inp m).wo 0 c)
    ∗ hold c cc0_stg3_0 ((inp m).wi 1 c)
    ∗ hold c cc0_stg4_0 ((inp m).wo 1 c)
    ∗ hold c cc0_stg5_0 ((inp m).wi 2 c)
    ∗ hold c cc0_stg6_0 ((inp m).wo 2 c)
    ∗ hold c cc0_stg7_0 (outV (inp m) c))

set_option maxRecDepth 4000 in
theorem sound_body (c : Dev nD) :
    bodyPre m ρ c ⊢ WP c (cc0_body (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13) (fun _ => bodyPost m ρ c) := by
  refine BIBase.Entails.trans ?_ (wp_fupd _ _ _ _ _)
  unfold bodyPre Φ₀
  iintro ⟨⟨Hst, Hscr⟩, Ho, ⟨%d0, %g0, %h0, Hw0⟩, ⟨%d1, %g1, %h1, Hw1⟩, ⟨%d2, %g2, %h2, Hw2⟩, ⟨%d3, %g3, %h3, Hw3⟩, ⟨%d4, %g4, %h4, Hw4⟩, ⟨%d5, %g5, %h5, Hw5⟩, ⟨%d6, %g6, %h6, Hw6⟩, ⟨%d7, %g7, %h7, Hw7⟩⟩
  have e0 := h0.trans (before0 m ρ c d0); clear h0; subst e0
  have e1 := h1.trans (before1 m ρ c d1); clear h1; subst e1
  have e2 := h2.trans (before2 m ρ c d2); clear h2; subst e2
  have e3 := h3.trans (before3 m ρ c d3); clear h3; subst e3
  have e4 := h4.trans (before4 m ρ c d4); clear h4; subst e4
  have e5 := h5.trans (before5 m ρ c d5); clear h5; subst e5
  have e6 := h6.trans (before6 m ρ c d6); clear h6; subst e6
  unfold Dat.owesAt Pipeline.owesWithin
  icases Ho with ⟨%W, %hW, HO⟩
  rw [show (dats m ρ 0 c).owed t₀.castSucc = O₀ c from rfl]
  ihave Hscr := (enter c) $$ Hscr
  icases Hscr with ⟨⟨A0, A1, A2⟩, ⟨S0, S1, S2⟩, ⟨H0, H1, H2⟩, Hl, Hsp⟩
  ihave Hp := (pre_intro m c W) $$ [Hst HO Hl]
  · isplitl [Hst]; · iexact Hst
    isplitl [HO] <;> iassumption
  icases Hp with ⟨Hp, Hat, #Hr, Hdead⟩
  iapply (body (inp m) c) $$ [Hp Hw0 Hw1 Hw2 Hw3 Hw4 Hw5 Hw6 Hw7 A0 A1 A2 S0 S1 S2 H0 H1 H2 Hat]
  · unfold BIn
    isplitl [Hp]; · iexact Hp
    isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexists g7; iexact Hw7
    isplitl [A0]; · iexact A0
    isplitl [A1]; · iexact A1
    isplitl [A2]; · iexact A2
    isplitl [S0]; · iexact S0
    isplitl [S1]; · iexact S1
    isplitl [S2]; · iexact S2
    isplitl [H0]; · iexact H0
    isplitl [H1]; · iexact H1
    isplitl [H2]; · iexact H2
    iexact Hat
  unfold BOut
  iintro ⟨HT, HZ, HR, Hw0, Hw1, Hw2, Hw3, Hw4, Hw5, Hw6, Hw7, a0, a1, a2, s0, s1, s2, l0, l1, l2, l3, l4, l5, l12, l13, l14, l15, l16, l17, l24, l25, l26, l27, l28, l29, p0, p1, p2, k0, k1, k2⟩
  unfold Tail Swt Ows Rcv
  rw [ge_all, lt_all, bigSep_empty, owedE_all]
  icases HT with ⟨-, ⟨%W', HO⟩, -, Hs⟩
  icases HR with ⟨-, HRZ⟩
  ihave Hs := (Entails.of_eq (bigSep_sep' Finset.univ (fun i : Ed => (semVal (sendCell c i) 0 : sProp 𝕄)) (fun i => srcP (inp m) c i))) $$ Hs
  icases Hs with ⟨HSZ, Hsrc⟩
  ihave Hscr := (leave (inp m) c) $$ [a0 a1 a2 s0 s1 s2 l0 l1 l2 l3 l4 l5 l12 l13 l14 l15 l16 l17 l24 l25 l26 l27 l28 l29 p0 p1 p2 k0 k1 k2 Hsrc Hsp]
  · isplitl [a0 a1 a2]
    · isplitl [a0]; · iexact a0
      isplitl [a1] <;> iassumption
    isplitl [s0 s1 s2]
    · isplitl [s0]; · iexact s0
      isplitl [s1] <;> iassumption
    isplitl [l0 l1 l2 l3 l4 l5 l12 l13 l14 l15 l16 l17 l24 l25 l26 l27 l28 l29]
    · isplitl [l0]; · iexact l0
      isplitl [l1]; · iexact l1
      isplitl [l2]; · iexact l2
      isplitl [l3]; · iexact l3
      isplitl [l4]; · iexact l4
      isplitl [l5]; · iexact l5
      isplitl [l12]; · iexact l12
      isplitl [l13]; · iexact l13
      isplitl [l14]; · iexact l14
      isplitl [l15]; · iexact l15
      isplitl [l16]; · iexact l16
      isplitl [l17]; · iexact l17
      isplitl [l24]; · iexact l24
      isplitl [l25]; · iexact l25
      isplitl [l26]; · iexact l26
      isplitl [l27]; · iexact l27
      isplitl [l28]; · iexact l28
      iexact l29
    isplitl [p0 p1 p2]
    · isplitl [p0]; · iexact p0
      isplitl [p1] <;> iassumption
    isplitl [k0 k1 k2]
    · isplitl [k0]; · iexact k0
      isplitl [k1] <;> iassumption
    isplitl [Hsrc] <;> iassumption
  have hrv : (bigSep Finset.univ fun j : Ed => (semVal (recvCell c (rv j)) 0 : sProp 𝕄)) = bigSep Finset.univ fun i : Ed => semVal (recvCell c i) 0 :=
    (bigSep_univ_equiv rvE (fun i : Ed => (semVal (recvCell c i) 0 : sProp 𝕄))).symm
  ihave HRZ := (Entails.of_eq hrv) $$ HRZ
  imod (close m c) $$ [HZ HSZ HRZ Hdead] with Hsem
  · isplitr; · iexact Hr
    isplitl [HZ]; · iexact HZ
    isplitl [HSZ]; · iexact HSZ
    isplitl [HRZ]; · iexact HRZ
    iexact Hdead
  imodintro
  unfold bodyPost Φ₁ Dat.owesAt Pipeline.owesWithin
  rw [show (dats m ρ 0 c).owed t₀.succ = 0 from rfl]
  isplitl [Hscr Hsem]
  · isplitl [Hscr] <;> iassumption
  isplitl [HO]
  · iexists W'
    isplitr; · ipureintro; exact fun _ _ => Or.inl trivial
    iexact HO
  isplitl [Hw0]
  · iexists _; isplitr; · (ipureintro; rfl)
    iexact Hw0
  isplitl [Hw1]
  · iexists _; isplitr; · (ipureintro; rfl)
    iexact Hw1
  isplitl [Hw2]
  · iexists _; isplitr; · (ipureintro; rfl)
    iexact Hw2
  isplitl [Hw3]
  · iexists _; isplitr; · (ipureintro; rfl)
    iexact Hw3
  isplitl [Hw4]
  · iexists _; isplitr; · (ipureintro; rfl)
    iexact Hw4
  isplitl [Hw5]
  · iexists _; isplitr; · (ipureintro; rfl)
    iexact Hw5
  isplitl [Hw6]
  · iexists _; isplitr; · (ipureintro; rfl)
    iexact Hw6
  iexists _; isplitr; · (ipureintro; rfl)
  iexact Hw7

set_option maxRecDepth 100000 in
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ wp frame (wpE (defs₀ (F := F)) 𝒱₀ (c : Thread nD τ) none) Set.univ (cc0_body (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) cc0_scratch5 cc0_scratch6 cc0_scratch7 cc0_scratch8 cc0_scratch9 cc0_scratch10 cc0_scratch11 cc0_scratch12 cc0_scratch13) (fun _ => bodyPost m ρ c)
  exact sound_body m ρ c

/-! ## The launch -/

set_option maxRecDepth 20000 in
theorem ownSemFacts : Pipeline.OwnSemFacts cfg0.spec osem :=
  ⟨by decide +kernel, osem_inj, by decide +kernel⟩
theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ unscopedSems0 c ∗ levAts L lv
        ∗ Pipeline.launchCred O₀ c ∗ prngReg c (ρ c) ∗ G' (inp m) c)
      ⊢ |={Set.univ}=> iprop(start m c ∗ emp) := by
  iintro ⟨-, -, #Hlev, Hcr, -, HG⟩
  ihave Hc := (creds (F := F) c) $$ Hcr
  icases Hc with ⟨H1, HN⟩
  imodintro
  unfold start G' recs recs2
  icases HG with ⟨⟨#HI, #HR⟩, HL⟩
  isplitl
  · isplitr
    · isplitr; · iexact HI
      isplitr; · iexact HR
      iexact Hlev
    isplitl [HL]; · iexact HL
    isplitl [H1]; · iexact H1
    iexact HN
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ Scr
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ Scr
  iintro ⟨Hr, Hz⟩
  isplitr; · iempintro
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 20000 in
/-- Over any float values and from any memory with zero counters, every weakly fair execution terminates, with each device's
    arrays at the contents computed and every counter at zero. -/
theorem run_main : θ_run defs (onTc (τ := τ) (main (F := F))) (s₀ m ρ) (fun r => QC m ρ r ∧ r.2.sem = fun _ => 0) :=
  Pipeline.θ_run_region_owing_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (inp m)) (G' := G' (inp m)) (u₀ := u₀)
    (hu₀ := by
      unfold u₀
      iintro Hu
      ihave H := (ownU_pair _ _) $$ Hu
      icases H with ⟨HP, HX⟩
      imod (fund_own (inp m)) $$ HX with HG
      imodintro
      isplitl [HP] <;> iassumption)
    (hglob := glob (inp m))
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h hs => ⟨fun c w => (h c).1 w, sem_eq_zero_of_scoped (by decide +kernel) hs⟩)

theorem finalA_in (c : Dev nD) (w : Fin 8) (hw : (cfg0.win w).isOut = false) : finalA m ρ c w = m ((cfg0.win w).arr.view.loc (c : Thread nD τ)) :=
  (dats (F := F) m ρ 0 c).arrAt_in w hw _

theorem finalA_out (c : Dev nD) : finalA m ρ c (7 : Fin 8) = outV (inp m) c := by
  have hz : (fun a => (win0_7.index t₀) a * main_v1.ty.shape.size a) = fun _ => 0 := funext fun a => by fin_cases a <;> decide
  have hr := fun f => Memref.read_access_unit_zero (Elt F) main_v1 hz (fun a => by fin_cases a <;> decide) f
  have ho : ((cfg0.win (7 : Fin 8)).blk t₀).view.read (Elt F) (finalA m ρ c (7 : Fin 8)) = outV (inp m) c := by
    unfold finalA
    rw [show cfg0.N = (t₀ : Fin cfg0.N).val + 1 from rfl, (dats m ρ 0 c).arrAt_succ (7 : Fin 8) t₀]
    rw [show (cfg0.win (7 : Fin 8)).flush t₀ = true from by decide, if_pos rfl]
    exact View.read_write_univ _ _
  exact (hr _).symm.trans ho

/-- The run, at the arguments and the result. -/
theorem run_at : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ (∀ c : Dev nD, r.2.mem ((c.tc : Thread nD τ).loc main_v1) = outV (inp m) c)
    ∧ r.2.sem = fun _ => 0) := by
  refine (θ_run defs _ _).mono (fun r h => ?_) (run_main (F := F) m ρ)
  have hin : ∀ (c : Dev nD) (w : Fin 8), (cfg0.win w).isOut = false → r.2.mem ((cfg0.win w).arr.view.loc (c : Thread nD τ)) = m ((cfg0.win w).arr.view.loc (c : Thread nD τ)) :=
    fun c w hw => (h.1 c w).trans (finalA_in m ρ c w hw)
  exact ⟨fun c => ⟨hin c 0 rfl, hin c 1 rfl, hin c 3 rfl, hin c 5 rfl, hin c 2 rfl, hin c 4 rfl, hin c 6 rfl⟩,
    fun c => (h.1 c (7 : Fin 8)).trans (finalA_out m ρ c), h.2⟩

end Cert.MlpProof

end
-- ==== Proof.Sums.lean ====
/- The kernel's arithmetic over the extended reals: a partial product read at an entry, the sums over a mesh row and over the
   mesh, and the gathered activations as a sum over all devices. -/
module

public import proofs.«01_k».proof.Proof.Vals
public import Idealize.ShloMosaic.Lib.MatmulPlain
public import Idealize.ShloMosaic.Lib.KernelVsHost

@[expose] public section

noncomputable section

namespace Cert.MlpProof

open Cert.KernelIdeal Cert.KernelIdeal.Gen
open Idealize.ShloMosaic
open Idealize.ShloMosaic.TcCoe
open Idealize.ShloMosaic.ValueIdx
open scoped BigOperators

/-! ## Products -/

/-- A product into zeros, read at an entry. -/
theorem prod_at {M K N : ℕ} {φ₁ φ₂ : FTy} (a : FVec Ideal ⟨2, ![M, K]⟩ φ₁) (b : FVec Ideal ⟨2, ![K, N]⟩ φ₂) (r : Fin M) (j : Fin N) :
    matmul (DotDims.plain M K N) none a b (constant ⟨2, ![M, N]⟩ .f32 0x00000000#32) (ix2 r j) = ∑ k : Fin K, a (ix2 r k) * b (ix2 k j) := by
  show FloatOps.matmul _ _ _ _ _ _ = _
  rw [Ideal.matmul_plain_apply]
  show Ideal.ofBits .f32 0x00000000#32 + _ = _
  rw [Ideal.ofBits_zero_f32, zero_add]

/-- The first partial product of a device. -/
theorem pay1_at (a : Vec Ideal S256x256 .f32) (b : Vec Ideal S256x512 .f32) (u : Fin 1) (r : Fin 256) (j : Fin 512) :
    k0_pay1 a b (ix3 u r j) = ∑ k : Fin 256, (a (ix2 r k) : EReal) * b (ix2 k j) := by
  refine (show _ = shapeCast S1x256x512 (matmul (DotDims.plain 256 256 512) none (shapeCast S256x256 a shapeCasts_S256x256_S256x256 : FVec Ideal ⟨2, ![256, 256]⟩ .f32)
    (shapeCast S256x512 b shapeCasts_S256x512_S256x512 : FVec Ideal ⟨2, ![256, 512]⟩ .f32) (constant ⟨2, ![256, 512]⟩ .f32 0x00000000#32)) shapeCasts_S256x512_S1x256x512 (ix3 u r j) from rfl).trans ?_
  refine (shapeCast_ab_1ab_apply (a := 256) (b := 512) _ _ u r j).trans ?_
  rw [shapeCast_self, shapeCast_self]
  exact prod_at (φ₁ := .f32) (φ₂ := .f32) a b r j

/-- The last product of a device. -/
theorem pay23_at (g : Vec Ideal S1x256x512 .bf16) (w : Vec Ideal S512x256 .f32) (r : Fin 256) (k : Fin 256) :
    k0_pay23 g w (ix2 r k) = ∑ j : Fin 512, (g (ix3 (0 : Fin 1) r j) : EReal) * w (ix2 j k) := by
  refine (show _ = matmul (DotDims.plain 256 512 256) none (shapeCast S256x512 g shapeCasts_S1x256x512_S256x512 : FVec Ideal ⟨2, ![256, 512]⟩ .bf16) (shapeCast S512x256 w _) (constant ⟨2, ![256, 256]⟩ .f32 0x00000000#32) (ix2 r k) from rfl).trans ?_
  rw [shapeCast_self w]
  refine (prod_at (φ₁ := .bf16) (φ₂ := .f32) _ w r k).trans (Finset.sum_congr rfl fun j _ => ?_)
  exact congrArg (· * w (ix2 j k)) (shapeCast_1ab_ab_apply (a := 256) (b := 512) g _ r j)

/-- A later partial product of a device: the two products of a layer's end and the next layer's beginning. -/
theorem pay78_at (g : Vec Ideal S1x256x512 .bf16) (w : Vec Ideal S512x256 .f32) (v : Vec Ideal S256x512 .f32) (u : Fin 1) (r : Fin 256) (j : Fin 512) :
    k0_pay8 (k0_pay7 g w v) (ix3 u r j) = ∑ k : Fin 256, (k0_pay23 g w (ix2 r k) : EReal) * v (ix2 k j) := by
  refine (show _ = shapeCast S1x256x512 (matmul (DotDims.plain 256 256 512) none (k0_pay23 g w)
    (shapeCast S256x512 v shapeCasts_S256x512_S256x512 : FVec Ideal ⟨2, ![256, 512]⟩ .f32) (constant ⟨2, ![256, 512]⟩ .f32 0x00000000#32)) shapeCasts_S256x512_S1x256x512 (ix3 u r j) from rfl).trans ?_
  refine (shapeCast_ab_1ab_apply (a := 256) (b := 512) _ _ u r j).trans ?_
  rw [shapeCast_self]
  exact prod_at (φ₁ := .f32) (φ₂ := .f32) (k0_pay23 g w) v r j

/-! ## Sums over the mesh -/

theorem cast4 {n : ℕ} {α : Type} (x : (⟨4, ![1, 1, n, 512]⟩ : Shape).Idx → α) (h : (⟨4, ![1, 1, n, 512]⟩ : Shape).ShapeCasts ⟨2, ![n, 512]⟩)
    (i : Fin n) (j : Fin 512) : shapeCast ⟨2, ![n, 512]⟩ x h (ix2 i j) = x (ix4 (0 : Fin 1) (0 : Fin 1) i j) :=
  shapeCast_apply x h _ _ (by
    rw [Shape.rowMajor_val_four, Shape.rowMajor_val_two]
    show ((0 * 1 + 0) * n + i.val) * 512 + j.val = i.val * 512 + j.val
    omega)

/-- Adding the row: the device's own rows and the three landed slots. -/
theorem pay23sum_at (a : Vec Ideal S1x64x512 .bf16) (b1 b2 b3 : Vec Ideal S1x1x64x512 .bf16) (u : Fin 1) (i : Fin 64) (j : Fin 512) :
    k0_pay3 (k0_pay2 a b1) b2 b3 (ix3 u i j)
      = ((a (ix3 (0 : Fin 1) i j) + b1 (ix4 (0 : Fin 1) (0 : Fin 1) i j) + b2 (ix4 (0 : Fin 1) (0 : Fin 1) i j)
        + b3 (ix4 (0 : Fin 1) (0 : Fin 1) i j) : EReal)) := by
  refine (show _ = shapeCast S1x64x512 (fun y : S64x512.Idx => ((shapeCast S64x512 a shapeCasts_S1x64x512_S64x512 y + shapeCast S64x512 b1 shapeCasts_S1x1x64x512_S64x512 y
    + shapeCast S64x512 b2 shapeCasts_S1x1x64x512_S64x512 y) + shapeCast S64x512 b3 shapeCasts_S1x1x64x512_S64x512 y : EReal)) shapeCasts_S64x512_S1x64x512 (ix3 u i j) from rfl).trans ?_
  refine (shapeCast_ab_1ab_apply (a := 64) (b := 512) _ _ u i j).trans ?_
  refine (show _ = (((shapeCast S64x512 a shapeCasts_S1x64x512_S64x512 (ix2 i j) + shapeCast S64x512 b1 shapeCasts_S1x1x64x512_S64x512 (ix2 i j)
    + shapeCast S64x512 b2 shapeCasts_S1x1x64x512_S64x512 (ix2 i j)) + shapeCast S64x512 b3 shapeCasts_S1x1x64x512_S64x512 (ix2 i j) : EReal)) from rfl).trans ?_
  have e0 := shapeCast_1ab_ab_apply (a := 64) (b := 512) a shapeCasts_S1x64x512_S64x512 i j
  have e1 := cast4 (n := 64) b1 shapeCasts_S1x1x64x512_S64x512 i j
  have e2 := cast4 (n := 64) b2 shapeCasts_S1x1x64x512_S64x512 i j
  have e3 := cast4 (n := 64) b3 shapeCasts_S1x1x64x512_S64x512 i j
  exact congr (congrArg HAdd.hAdd (congr (congrArg HAdd.hAdd (congr (congrArg HAdd.hAdd e0) e1)) e2)) e3

/-- Adding the column, with negative entries replaced by zero. -/
theorem pay456_at (a : Vec Ideal S1x16x512 .bf16) (b1 b2 b3 : Vec Ideal S1x1x16x512 .bf16) (u : Fin 1) (i : Fin 16) (j : Fin 512) :
    k0_pay6 (k0_pay5 (k0_pay4 a b1) b2 b3) (ix3 u i j)
      = max ((a (ix3 (0 : Fin 1) i j) + b1 (ix4 (0 : Fin 1) (0 : Fin 1) i j) + b2 (ix4 (0 : Fin 1) (0 : Fin 1) i j)
        + b3 (ix4 (0 : Fin 1) (0 : Fin 1) i j) : EReal)) 0 := by
  refine (show _ = shapeCast S1x16x512 (fun y : S16x512.Idx => (max ((shapeCast S16x512 a shapeCasts_S1x16x512_S16x512 y + shapeCast S16x512 b1 shapeCasts_S1x1x16x512_S16x512 y
    + shapeCast S16x512 b2 shapeCasts_S1x1x16x512_S16x512 y) + shapeCast S16x512 b3 shapeCasts_S1x1x16x512_S16x512 y : EReal)
      (Ideal.ofBits .f32 0x00000000#32))) shapeCasts_S16x512_S1x16x512 (ix3 u i j) from rfl).trans ?_
  refine (shapeCast_ab_1ab_apply (a := 16) (b := 512) _ _ u i j).trans ?_
  refine (show _ = max (((shapeCast S16x512 a shapeCasts_S1x16x512_S16x512 (ix2 i j) + shapeCast S16x512 b1 shapeCasts_S1x1x16x512_S16x512 (ix2 i j)
    + shapeCast S16x512 b2 shapeCasts_S1x1x16x512_S16x512 (ix2 i j)) + shapeCast S16x512 b3 shapeCasts_S1x1x16x512_S16x512 (ix2 i j) : EReal))
      (Ideal.ofBits .f32 0x00000000#32) from rfl).trans ?_
  have e0 := shapeCast_1ab_ab_apply (a := 16) (b := 512) a shapeCasts_S1x16x512_S16x512 i j
  have e1 := cast4 (n := 16) b1 shapeCasts_S1x1x16x512_S16x512 i j
  have e2 := cast4 (n := 16) b2 shapeCasts_S1x1x16x512_S16x512 i j
  have e3 := cast4 (n := 16) b3 shapeCasts_S1x1x16x512_S16x512 i j
  rw [Ideal.ofBits_zero_f32]
  exact congrArg (max · 0) (congr (congrArg HAdd.hAdd (congr (congrArg HAdd.hAdd (congr (congrArg HAdd.hAdd e0) e1)) e2)) e3)

/-- Four terms from any place of a cycle of four are the sum over the cycle. -/
theorem cyc4 (g : ℕ → EReal) (p : ℕ) (hp : p < 4) :
    g p + g ((p + 1) % 4) + g ((p + 2) % 4) + g ((p + 3) % 4) = ∑ q : Fin 4, g q.val := by
  rw [Fin.sum_univ_four]
  obtain rfl | rfl | rfl | rfl : p = 0 ∨ p = 1 ∨ p = 2 ∨ p = 3 := by omega
  · rfl
  · show g 1 + g 2 + g 3 + g 0 = g 0 + g 1 + g 2 + g 3
    rw [add_comm, ← add_assoc, ← add_assoc]
  · show g 2 + g 3 + g 0 + g 1 = g 0 + g 1 + g 2 + g 3
    rw [add_assoc, add_comm, ← add_assoc]
  · show g 3 + g 0 + g 1 + g 2 = g 0 + g 1 + g 2 + g 3
    rw [add_assoc, add_assoc, add_comm, ← add_assoc]

theorem mkDev_mod (z r : ℕ) : mkDev z (r % 4) = mkDev z r := Fin.ext (by show 4 * (z % 4) + r % 4 % 4 = 4 * (z % 4) + r % 4; omega)
theorem mkDev_mod' (z r : ℕ) : mkDev (z % 4) r = mkDev z r := Fin.ext (by show 4 * (z % 4 % 4) + r % 4 = 4 * (z % 4) + r % 4; omega)
theorem mkDev_self (c : Dev nD) : mkDev (zz c) (rr c) = c := by
  unfold mkDev zz rr; apply Fin.ext; have : c.val < 16 := c.isLt; show 4 * (c.val / 4 % 4) + c.val % 4 % 4 = c.val; omega

/-- The row sum on device `c`: its 64 rows, over the devices of its row. -/
theorem sumRow_at (A : Part Ideal) (c : Dev nD) (u : Fin 1) (i : Fin 64) (j : Fin 512) :
    sumRow A c (ix3 u i j) = ∑ q : Fin 4, (A (mkDev (zz c) q.val) (ix3 (0 : Fin 1)
      (⟨64 * rr c + i.val, by have := rr_lt c; omega⟩ : Fin 256) j) : EReal) := by
  refine (pay23sum_at (ownA A c) (slotA A c 1) (slotA A c 2) (slotA A c 3) u i j).trans ?_
  rw [← cyc4 (fun q => (A (mkDev (zz c) q) (ix3 (0 : Fin 1) (⟨64 * rr c + i.val, by have := rr_lt c; omega⟩ : Fin 256) j) : EReal)) (rr c) (rr_lt c)]
  simp only [mkDev_mod, mkDev_self]
  rfl

/-- The sum over the mesh on device `c`: its 16 rows, over all devices, with negative entries replaced by zero. -/
theorem sumAll_at (A : Part Ideal) (c : Dev nD) (u : Fin 1) (i : Fin 16) (j : Fin 512) :
    sumAll A c (ix3 u i j) = max (∑ z : Fin 4, ∑ q : Fin 4, (A (mkDev z.val q.val) (ix3 (0 : Fin 1)
      (⟨64 * rr c + (16 * zz c + i.val), by have := rr_lt c; have := zz_lt c; omega⟩ : Fin 256) j) : EReal)) 0 := by
  refine (pay456_at (ownS (sumRow A) c) (slotS (sumRow A) c 1) (slotS (sumRow A) c 2) (slotS (sumRow A) c 3) u i j).trans ?_
  have key : ∀ z : ℕ, (sumRow A (mkDev z (rr c)) (ix3 (0 : Fin 1) (⟨16 * zz c + i.val, by have := zz_lt c; omega⟩ : Fin 64) j) : EReal)
      = ∑ q : Fin 4, (A (mkDev z q.val) (ix3 (0 : Fin 1) (⟨64 * rr c + (16 * zz c + i.val), by have := rr_lt c; have := zz_lt c; omega⟩ : Fin 256) j) : EReal) := by
    intro z
    rw [sumRow_at]
    have hr : rr (mkDev z (rr c)) = rr c := by have := rr_lt c; unfold mkDev rr at *; show (4 * _ + _) % 4 = _; omega
    have hz : zz (mkDev z (rr c)) = z % 4 := by have := rr_lt c; unfold mkDev zz at *; show (4 * _ + _) / 4 = _; omega
    refine Finset.sum_congr rfl fun q _ => ?_
    rw [hz, mkDev_mod']
    congr 2
    exact Fin.ext (by show 64 * rr (mkDev z (rr c)) + _ = _; rw [hr])
  have e := cyc4 (fun z => ∑ q : Fin 4, (A (mkDev z q.val) (ix3 (0 : Fin 1) (⟨64 * rr c + (16 * zz c + i.val), by have := rr_lt c; have := zz_lt c; omega⟩ : Fin 256) j) : EReal)) (zz c) (zz_lt c)
  rw [← e, ← key, ← key, ← key, ← key]
  simp only [mkDev_mod', mkDev_self]
  rfl

/-- The devices row by row. -/
theorem sum_mesh (g : Dev nD → EReal) : ∑ z : Fin 4, ∑ q : Fin 4, g (mkDev z.val q.val) = ∑ d : Fin 16, g d := by
  simp only [Fin.sum_univ_four]
  rw [Fin.sum_univ_castSucc]
  simp only [Fin.sum_univ_castSucc, Fin.sum_univ_zero, zero_add, ← add_assoc]
  rfl

/-- The gathered activations: the sum of all partial products, with negative entries replaced by zero. -/
theorem gath_at (A : Part Ideal) (u : Fin 1) (r : Fin 256) (j : Fin 512) :
    gath A (ix3 u r j) = max (∑ d : Fin 16, (A d (ix3 (0 : Fin 1) r j) : EReal)) 0 := by
  refine (sumAll_at A (mkDev (r.val % 64 / 16) (r.val / 64)) (0 : Fin 1) (⟨r.val % 16, Nat.mod_lt _ (by decide)⟩ : Fin 16) j).trans ?_
  rw [← sum_mesh (fun d => (A d (ix3 (0 : Fin 1) r j) : EReal))]
  have hr : rr (mkDev (r.val % 64 / 16) (r.val / 64)) = r.val / 64 := by unfold mkDev rr; show (4 * _ + _) % 4 = _; have := r.isLt; omega
  have hz : zz (mkDev (r.val % 64 / 16) (r.val / 64)) = r.val % 64 / 16 := by unfold mkDev zz; show (4 * _ + _) / 4 = _; have := r.isLt; omega
  have hx : (⟨64 * rr (mkDev (r.val % 64 / 16) (r.val / 64)) + (16 * zz (mkDev (r.val % 64 / 16) (r.val / 64)) + r.val % 16), by rw [hr, hz]; have := r.isLt; omega⟩ : Fin 256) = r :=
    Fin.ext (by show 64 * rr _ + (16 * zz _ + r.val % 16) = r.val; rw [hr, hz]; omega)
  exact congrArg (max · 0) (Finset.sum_congr rfl fun z _ => Finset.sum_congr rfl fun q _ => congrArg (fun t => (A (mkDev z.val q.val) (ix3 (0 : Fin 1) t j) : EReal)) hx)

/-! ## A long sum in sixteen runs -/

/-- A sum over 4096 positions, as sixteen sums over 256. -/
theorem sum_runs (f : Fin 4096 → EReal) :
    ∑ d : Fin 16, ∑ k : Fin 256, f ⟨d.val * 256 + k.val, by omega⟩ = ∑ K : Fin 4096, f K := by
  rw [← Fintype.sum_prod_type', ← Equiv.sum_comp (finProdFinEquiv (m := 16) (n := 256))]
  refine Finset.sum_congr rfl fun p _ => congrArg f (Fin.ext ?_)
  show p.1.val * 256 + p.2.val = p.2.val + 256 * p.1.val
  omega

end Cert.MlpProof

end
-- ==== Proof.Values.lean ====
/- What the devices compute, over the extended reals, against the reference on one device: each layer's partial products sum to
   the whole product, and each device's result is its block of columns of the reference's result. -/
module

public import proofs.«01_k».proof.Proof.Sums
public import proofs.«01_k».proof.Proof.Gen.ReferenceIdeal
public import Idealize.ShloMosaic.Lib.StackMember
public import Idealize.ShloMosaic.Lib.Layout

@[expose] public section

noncomputable section

namespace Cert.MlpProof

open Cert.KernelIdeal Cert.KernelIdeal.Gen
open Idealize.ShloMosaic
open Idealize.ShloMosaic.TcCoe
open Idealize.ShloMosaic.ValueIdx
open Idealize.ShloMosaic.StackMember
open scoped BigOperators

attribute [local instance] Cert.ReferenceIdeal.Gen.facts

/-- Whole arrays: the activations between layers, and the two kinds of weights. -/
abbrev Wide : Type := Vec Ideal Cert.ReferenceIdeal.S256x4096 .f32
abbrev WIn : Type := Vec Ideal Cert.ReferenceIdeal.S4096x512 .f32
abbrev WOut : Type := Vec Ideal Cert.ReferenceIdeal.S512x4096 .f32
abbrev Hid : Type := Vec Ideal Cert.ReferenceIdeal.S256x512 .f32

/-- The reference's first half of a layer, as it is printed. -/
def act (x : Wide) (w : WIn) : Hid :=
  maximumf (F := Ideal) (s := Cert.ReferenceIdeal.S256x512) (φ := .f32)
    (Host.dotGeneral (F := Ideal) (φ₁ := .f32) (φ₂ := .f32) Cert.ReferenceIdeal.dot_S256x4096_S4096x512_S256x512_1_0_0_1_n_n none x w)
    (broadcastInDim Cert.ReferenceIdeal.S256x512 ![] Cert.ReferenceIdeal.Facts₀.bcast_S_S256x512 (constant (F := Ideal) Cert.ReferenceIdeal.S_ .f32 0x00000000#32))
/-- Its second half. -/
def nxt (h : Hid) (w : WOut) : Wide :=
  Host.dotGeneral (F := Ideal) (φ₁ := .f32) (φ₂ := .f32) Cert.ReferenceIdeal.dot_S256x512_S512x4096_S256x4096_1_0_0_1_n_n none h w

theorem act_at (x : Wide) (w : WIn) (r : Fin 256) (j : Fin 512) :
    act x w (ix2 r j) = max (∑ K : Fin 4096, (x (ix2 r K) : EReal) * w (ix2 K j)) 0 := by
  have e := dotGeneral_plain_apply (m := 256) (k := 4096) (n := 512) (φ₁ := .f32) (φ₂ := .f32) none x w r j
  refine (show _ = max (Host.dotGeneral (F := Ideal) (φ₁ := .f32) (φ₂ := .f32) (DotDims.plain 256 4096 512) none x w (ix2 r j) : EReal) (Ideal.ofBits .f32 0x00000000#32) from rfl).trans ?_
  rw [Ideal.ofBits_zero_f32]
  exact congrArg (max · 0) e

theorem nxt_at (h : Hid) (w : WOut) (r : Fin 256) (K : Fin 4096) :
    nxt h w (ix2 r K) = ∑ j : Fin 512, (h (ix2 r j) : EReal) * w (ix2 j K) :=
  dotGeneral_plain_apply (m := 256) (k := 512) (n := 4096) (φ₁ := .f32) (φ₂ := .f32) none h w r K

/-- Position `k` of run `d`. -/
def pos (d : Fin 16) (k : Fin 256) : Fin 4096 := ⟨d.val * 256 + k.val, by omega⟩

/-- Partial products over the runs of 256 give, once summed and gathered, the reference's activations. -/
theorem gath_act (A : Part Ideal) (x : Wide) (w : WIn)
    (hA : ∀ (d : Fin 16) (r : Fin 256) (j : Fin 512), (A d (ix3 (0 : Fin 1) r j) : EReal) = ∑ k : Fin 256, (x (ix2 r (pos d k)) : EReal) * w (ix2 (pos d k) j))
    (r : Fin 256) (j : Fin 512) : gath A (ix3 (0 : Fin 1) r j) = act x w (ix2 r j) := by
  rw [gath_at, act_at, ← sum_runs (fun K => (x (ix2 r K) : EReal) * w (ix2 K j))]
  exact congrArg (max · 0) (Finset.sum_congr rfl fun d _ => hA d r j)

/-- With them, a device's product with its columns of the weights is its columns of the reference's product. -/
theorem out_nxt (A : Part Ideal) (h : Hid) (w : WOut) (v : Vec Ideal S512x256 .f32) (c : Fin 16)
    (hA : ∀ (r : Fin 256) (j : Fin 512), gath A (ix3 (0 : Fin 1) r j) = h (ix2 r j))
    (hv : ∀ (j : Fin 512) (k : Fin 256), v (ix2 j k) = w (ix2 j (pos c k)))
    (r k : Fin 256) : k0_pay23 (gath A) v (ix2 r k) = nxt h w (ix2 r (pos c k)) := by
  rw [pay23_at, nxt_at]
  exact Finset.sum_congr rfl fun j _ => by rw [hA, hv]

/-- The blocks that the devices start from are those of whole arrays. -/
structure Blocks (I : Inp Ideal) (x : Wide) (wi : Fin 3 → WIn) (wo : Fin 3 → WOut) : Prop where
  x : ∀ (c : Fin 16) (r k : Fin 256), I.x c (ix2 r k) = x (ix2 r (pos c k))
  wi : ∀ (l : Fin 3) (c : Fin 16) (k : Fin 256) (j : Fin 512), I.wi l c (ix2 k j) = wi l (ix2 (pos c k) j)
  wo : ∀ (l : Fin 3) (c : Fin 16) (j : Fin 512) (k : Fin 256), I.wo l c (ix2 j k) = wo l (ix2 j (pos c k))

/-- The reference's result. -/
def refOut (x : Wide) (wi : Fin 3 → WIn) (wo : Fin 3 → WOut) : Wide :=
  nxt (act (nxt (act (nxt (act x (wi 0)) (wo 0)) (wi 1)) (wo 1)) (wi 2)) (wo 2)

/-- Each device's result is its columns of the reference's result. -/
theorem outV_at {I : Inp Ideal} {x : Wide} {wi : Fin 3 → WIn} {wo : Fin 3 → WOut} (B : Blocks I x wi wo) (c : Fin 16) (r k : Fin 256) :
    outV I c (ix2 r k) = refOut x wi wo (ix2 r (pos c k)) := by
  have g0 := gath_act (pA I 0) x (wi 0) (fun d r j => (pay1_at (I.x d) (I.wi 0 d) 0 r j).trans
    (Finset.sum_congr rfl fun k _ => by rw [B.x, B.wi]))
  have n0 := fun c r k => out_nxt (pA I 0) _ (wo 0) (I.wo 0 c) c g0 (B.wo 0 c) r k
  have g1 := gath_act (pA I 1) (nxt (act x (wi 0)) (wo 0)) (wi 1) (fun d r j => (pay78_at (gath (pA I 0)) (I.wo 0 d) (I.wi 1 d) 0 r j).trans
    (Finset.sum_congr rfl fun k _ => by rw [n0, B.wi]))
  have n1 := fun c r k => out_nxt (pA I 1) _ (wo 1) (I.wo 1 c) c g1 (B.wo 1 c) r k
  have g2 := gath_act (pA I 2) (nxt (act (nxt (act x (wi 0)) (wo 0)) (wi 1)) (wo 1)) (wi 2) (fun d r j => (pay78_at (gath (pA I 1)) (I.wo 1 d) (I.wi 2 d) 0 r j).trans
    (Finset.sum_congr rfl fun k _ => by rw [n1, B.wi]))
  exact out_nxt (pA I 2) _ (wo 2) (I.wo 2 c) c g2 (B.wo 2 c) r k

/-! ## Blocks of whole arrays -/

/-- Entry of a block of columns. -/
theorem cols_at {a : ℕ} {α : Type} (h : Layout.Tiles ⟨2, ![a, 256]⟩ ⟨2, ![a, 4096]⟩ 1 16) (v : (⟨2, ![a, 4096]⟩ : Shape).Idx → α) (c : Fin 16) (r : Fin a) (k : Fin 256) :
    Layout.block ⟨2, ![a, 256]⟩ ⟨2, ![a, 4096]⟩ 1 16 c v h (ix2 r k) = v (ix2 r (pos c k)) := by
  refine congrArg v (funext fun b => ?_)
  match b with
  | ⟨0, _⟩ => rfl
  | ⟨1, _⟩ => rfl
/-- Entry of a block of rows. -/
theorem rows_at {b : ℕ} {α : Type} (h : Layout.Tiles ⟨2, ![256, b]⟩ ⟨2, ![4096, b]⟩ 0 16) (v : (⟨2, ![4096, b]⟩ : Shape).Idx → α) (c : Fin 16) (k : Fin 256) (j : Fin b) :
    Layout.block ⟨2, ![256, b]⟩ ⟨2, ![4096, b]⟩ 0 16 c v h (ix2 k j) = v (ix2 (pos c k) j) := by
  refine congrArg v (funext fun b => ?_)
  match b with
  | ⟨0, _⟩ => rfl
  | ⟨1, _⟩ => rfl

/-- So each device's result is its block of the reference's result. -/
theorem outV_block {I : Inp Ideal} {x : Wide} {wi : Fin 3 → WIn} {wo : Fin 3 → WOut} (B : Blocks I x wi wo) (c : Fin 16) :
    outV I c = Layout.block ⟨2, ![256, 256]⟩ ⟨2, ![256, 4096]⟩ 1 16 c (refOut x wi wo) := by
  funext i
  have e := eq_ix2 (n0 := 256) (n1 := 256) i
  exact (congrArg (outV I c) e).trans ((outV_at B c (i 0) (i 1)).trans ((cols_at (a := 256) (by decide) (refOut x wi wo) c (i 0) (i 1)).symm.trans (congrArg _ e.symm)))

end Cert.MlpProof

end
-- ==== Proof.lean ====
/-
  The certificate: the frames of the kernel and of the reference, the idealization, and the value over the extended reals.
  The kernel's run is proved once, at any float type (Proof/Run.lean), and read here at both; the reference's run is the
  generated one; that each device's result is its block of the reference's is Proof/Values.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Values
public import Idealize.ShloMosaic.Adequacy
public import Idealize.ShloMosaic.Init

@[expose] public section

noncomputable section

namespace Cert.Proof

open Idealize.ShloMosaic Idealize.SL.Sem Cert.Kernel

/-- The kernel's frame at any float type. -/
theorem frame_at {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0) ∧
        r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1) ∧
        r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2) ∧
        r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3) ∧
        r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) ∧
        r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5) ∧
        r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0) :=
  (θ_run Cert.KernelIdeal.defs _ _).mono (fun _ h => ⟨h.1, h.2.2⟩) (Cert.MlpProof.run_at m ρ)

/-- The two printed kernels have the same body table, case by case; -/
theorem defs₀_eq (F : FTy → Type) [FloatOps F] :
    @Cert.Kernel.defs₀ F _ Cert.Kernel.Gen.facts = @Cert.KernelIdeal.defs₀ F _ Cert.KernelIdeal.Gen.facts := by
  refine congrArg Defs.onTc (funext fun ℓ => funext fun a => ?_)
  match ℓ, a with
  | ⟨0, _⟩, (t, s) => rfl

/-- so they have the same table with the pipeline's labels. -/
theorem defs_eq (F : FTy → Type) [FloatOps F] :
    @Cert.Kernel.defs F _ Cert.Kernel.Gen.facts = @Cert.KernelIdeal.defs F _ Cert.KernelIdeal.Gen.facts :=
  congrArg (Pipeline.defs Cert.Kernel.pcfgs) (defs₀_eq F)

/-- The printed kernel's frame: the run at hardware floats. -/
theorem frame_kernel : Cert.quiescent_Kernel (hKernel := Cert.Kernel.Gen.facts) := fun m ρ _ => by
  rw [defs_eq Bits]; exact frame_at m ρ

/-- The idealized kernel's frame: the same run at extended reals. -/
theorem frame_kernelIdeal : Cert.quiescent_KernelIdeal (hKernelIdeal := Cert.KernelIdeal.Gen.facts) := fun m ρ _ => frame_at m ρ

/-- The reference's frame: its generated run; it has no semaphore. -/
theorem frame_referenceIdeal : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The devices of the kernel start from the blocks of the reference's whole arguments; both run; and each device of the
    kernel ends with its block of columns of the reference's result. -/
theorem value : Cert.algebraic_KernelIdeal_ReferenceIdeal (hKernelIdeal := Cert.KernelIdeal.Gen.facts) (hReferenceIdeal := Cert.ReferenceIdeal.Gen.facts) := by
  intro m ρ m' ρ' _ hin
  let A := fun b : Ref Cert.ReferenceIdeal.sig .tc => m' (((0 : Dev Cert.ReferenceIdeal.nD).tc : Thread Cert.ReferenceIdeal.nD Cert.ReferenceIdeal.τ).loc b)
  let x : Cert.MlpProof.Wide := A Cert.ReferenceIdeal.main_arg0
  let wi : Fin 3 → Cert.MlpProof.WIn := fun
    | 0 => A Cert.ReferenceIdeal.main_arg1 | 1 => A Cert.ReferenceIdeal.main_arg2 | 2 => A Cert.ReferenceIdeal.main_arg3
  let wo : Fin 3 → Cert.MlpProof.WOut := fun
    | 0 => A Cert.ReferenceIdeal.main_arg4 | 1 => A Cert.ReferenceIdeal.main_arg5 | 2 => A Cert.ReferenceIdeal.main_arg6
  have B : Cert.MlpProof.Blocks (Cert.MlpProof.inp m) x wi wo := {
    x := fun c r k => (congrFun (hin c).1 _).trans (Cert.MlpProof.cols_at (a := 256) (by decide) x c r k)
    wi := fun l c k j => match l with
      | 0 => (congrFun (hin c).2.1 _).trans (Cert.MlpProof.rows_at (b := 512) (by decide) (wi 0) c k j)
      | 1 => (congrFun (hin c).2.2.1 _).trans (Cert.MlpProof.rows_at (b := 512) (by decide) (wi 1) c k j)
      | 2 => (congrFun (hin c).2.2.2.1 _).trans (Cert.MlpProof.rows_at (b := 512) (by decide) (wi 2) c k j)
    wo := fun l c j k => match l with
      | 0 => (congrFun (hin c).2.2.2.2.1 _).trans (Cert.MlpProof.cols_at (a := 512) (by decide) (wo 0) c j k)
      | 1 => (congrFun (hin c).2.2.2.2.2.1 _).trans (Cert.MlpProof.cols_at (a := 512) (by decide) (wo 1) c j k)
      | 2 => (congrFun (hin c).2.2.2.2.2.2 _).trans (Cert.MlpProof.cols_at (a := 512) (by decide) (wo 2) c j k) }
  refine ⟨Cert.MlpProof.refOut x wi wo, ?_, ?_⟩
  · exact (θ_run Cert.KernelIdeal.defs _ _).mono
      (fun _ h c => ⟨(h.2.1 c).trans (Cert.MlpProof.outV_block B c), h.1 c⟩) (Cert.MlpProof.run_at (F := Ideal) m ρ)
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  frame_kernel, frame_kernelIdeal, frame_referenceIdeal, trivial, value⟩

end Cert.Proof

end
